-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_name_finite_rows [hPre_ids_name_finite_rows : Cert.Pre_ids_name_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_ids_name_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_ids_name_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_name_finite_rows [hPre_ids_name_finite_rows : Cert.Pre_ids_name_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_name_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_ids_name_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_ids_name_finite_rows [hKernelIdeal : Cert.KernelIdeal.Facts] [hPre_ids_name_finite_rows : Cert.Pre_ids_name_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_name_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_ids_name_finite_rows [hReferenceIdeal : Cert.ReferenceIdeal.Facts] [hPre_ids_name_finite_rows : Cert.Pre_ids_name_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_name_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_ids_name_finite_rows [hKernelIdeal : Cert.KernelIdeal.Facts] [hReferenceIdeal : Cert.ReferenceIdeal.Facts] [hPre_ids_name_finite_rows : Cert.Pre_ids_name_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_name_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v343) = v0 c
          ∧ r.2.mem ((c.tc : Thread Cert.ReferenceIdeal.nD Cert.ReferenceIdeal.τ).loc Cert.ReferenceIdeal.main_v347) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_ids_name_finite_rows : Cert.Pre_ids_name_finite_rows.Facts),
    quiescent_Kernel (hKernel := hKernel)
    ∧ quiescent_KernelIdeal (hKernelIdeal := hKernelIdeal)
    ∧ quiescent_KernelIdeal_pre_ids_name_finite_rows (hKernelIdeal := hKernelIdeal) (hPre_ids_name_finite_rows := hPre_ids_name_finite_rows)
    ∧ quiescent_ReferenceIdeal (hReferenceIdeal := hReferenceIdeal)
    ∧ quiescent_ReferenceIdeal_pre_ids_name_finite_rows (hReferenceIdeal := hReferenceIdeal) (hPre_ids_name_finite_rows := hPre_ids_name_finite_rows)
    ∧ preserves_Kernel_KernelIdeal
    ∧ algebraic_KernelIdeal_ReferenceIdeal_pre_ids_name_finite_rows (hKernelIdeal := hKernelIdeal) (hReferenceIdeal := hReferenceIdeal) (hPre_ids_name_finite_rows := hPre_ids_name_finite_rows)
-- ==== Pre_ids_name_finite_rows.lean ====
abbrev S4x512x8192 : Shape := ⟨3, ![4, 512, 8192]⟩
abbrev S4x512x1 : Shape := ⟨3, ![4, 512, 1]⟩
abbrev S8192x1024 : Shape := ⟨2, ![8192, 1024]⟩
abbrev S4x1024x4096 : Shape := ⟨3, ![4, 1024, 4096]⟩
abbrev S4x2048x4 : Shape := ⟨3, ![4, 2048, 4]⟩
abbrev S4x2048x1024 : Shape := ⟨3, ![4, 2048, 1024]⟩
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x512x1 : S_.BroadcastsInDim S4x512x1 (![] : Fin 0 → Fin S4x512x1.rank)
  bcast_S_S8192x1024 : S_.BroadcastsInDim S8192x1024 (![] : Fin 0 → Fin S8192x1024.rank)

variable [Facts]

def fn {F : FTy → Type} [FloatOps F] (main_arg0 : FVec F S4x512x8192 .f32) (main_arg1 : IVec S4x512x1 32) (main_arg2 : IVec S4x512x1 32) (main_arg3 : FVec F S8192x1024 .f32) (main_arg4 : FVec F S4x1024x4096 .f32) (main_arg5 : FVec F S4x2048x4 .f32) (main_arg6 : FVec F S4x2048x1024 .f32) (main_arg7 : FVec F S4x1024x4096 .f32) (main_arg8 : FVec F S4x4096x1024 .f32) (main_arg9 : FVec F S1024x1024 .f32) (main_arg10 : FVec F S1024 .f32) (main_arg11 : FVec F S1024x1024 .f32) (main_arg12 : FVec F S1024 .f32) : IVec S4x512x1 1 × IVec S8192x1024 1 :=
  let main_c : IVec S_ 32 := constantI S_ 32 0#32
  let main_v0 : IVec S4x512x1 32 := broadcastInDim S4x512x1 ![] bcast_S_S4x512x1 main_c
  let main_v1 : IVec S4x512x1 1 := cmpi .sge main_arg1 main_v0
  let main_c_0 : IVec S_ 32 := constantI S_ 32 8192#32
  let main_v2 : IVec S4x512x1 32 := broadcastInDim S4x512x1 ![] bcast_S_S4x512x1 main_c_0
  let main_v3 : IVec S4x512x1 1 := cmpi .slt main_arg1 main_v2
  let main_v4 : IVec S4x512x1 1 := andi main_v1 main_v3
  let main_cst : FVec F S_ .f32 := constant S_ .f32 0xFF800000#32
  let main_v5 : FVec F S8192x1024 .f32 := broadcastInDim S8192x1024 ![] bcast_S_S8192x1024 main_cst
  let main_v6 : IVec S8192x1024 1 := cmpf .ogt main_arg3 main_v5
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_arg3 main_v7
  let main_v9 : IVec S8192x1024 1 := andi main_v6 main_v8
  (main_v4, main_v9)
-- ==== Kernel.lean ====
abbrev S4x512x8192 : Shape := ⟨3, ![4, 512, 8192]⟩
abbrev S4x512x1 : Shape := ⟨3, ![4, 512, 1]⟩
abbrev S8192x1024 : Shape := ⟨2, ![8192, 1024]⟩
abbrev S4x1024x4096 : Shape := ⟨3, ![4, 1024, 4096]⟩
abbrev S4x2048x4 : Shape := ⟨3, ![4, 2048, 4]⟩
abbrev S4x2048x1024 : Shape := ⟨3, ![4, 2048, 1024]⟩
abbrev S4x4096x1024 : Shape := ⟨3, ![4, 4096, 1024]⟩
abbrev S1024x1024 : Shape := ⟨2, ![1024, 1024]⟩
abbrev S1024 : Shape := ⟨1, ![1024]⟩
abbrev S2048x1 : Shape := ⟨2, ![2048, 1]⟩
abbrev S4x512 : Shape := ⟨2, ![4, 512]⟩
abbrev S2048x8192 : Shape := ⟨2, ![2048, 8192]⟩
abbrev S2048x1024 : Shape := ⟨2, ![2048, 1024]⟩
abbrev S256x1 : Shape := ⟨2, ![256, 1]⟩
abbrev S256x8192 : Shape := ⟨2, ![256, 8192]⟩
abbrev S256x1024 : Shape := ⟨2, ![256, 1024]⟩
abbrev S4x1 : Shape := ⟨2, ![4, 1]⟩
abbrev S4 : Shape := ⟨1, ![4]⟩
abbrev S4x512x1024 : Shape := ⟨3, ![4, 512, 1024]⟩
abbrev S1x1024x4096 : Shape := ⟨3, ![1, 1024, 4096]⟩
abbrev S1024x4096 : Shape := ⟨2, ![1024, 4096]⟩
abbrev S1x2048x4 : Shape := ⟨3, ![1, 2048, 4]⟩
abbrev S2048x4 : Shape := ⟨2, ![2048, 4]⟩
abbrev S1x2048x1024 : Shape := ⟨3, ![1, 2048, 1024]⟩
abbrev S1x512x1024 : Shape := ⟨3, ![1, 512, 1024]⟩
abbrev S520x2048 : Shape := ⟨2, ![520, 2048]⟩
abbrev S1x1 : Shape := ⟨2, ![1, 1]⟩
abbrev S512x1024 : Shape := ⟨2, ![512, 1024]⟩
abbrev S1x1024 : Shape := ⟨2, ![1, 1024]⟩
abbrev S520x1024 : Shape := ⟨2, ![520, 1024]⟩
abbrev S1024x128 : Shape := ⟨2, ![1024, 128]⟩
abbrev S512x128 : Shape := ⟨2, ![512, 128]⟩
abbrev S512x4096 : Shape := ⟨2, ![512, 4096]⟩
abbrev S512x2048 : Shape := ⟨2, ![512, 2048]⟩
abbrev S8x2048 : Shape := ⟨2, ![8, 2048]⟩
abbrev S2048 : Shape := ⟨1, ![2048]⟩
abbrev S1x2048 : Shape := ⟨2, ![1, 2048]⟩
abbrev S1x4096x1024 : Shape := ⟨3, ![1, 4096, 1024]⟩
abbrev S4096x1024 : Shape := ⟨2, ![4096, 1024]⟩
abbrev S512 : Shape := ⟨1, ![512]⟩
abbrev S512x1 : Shape := ⟨2, ![512, 1]⟩

abbrev nBuf : Space → Nat
  | .hbm => 82
  | .vmem => 76
  | .smem => 1
  | _ => 0

abbrev bufTy : (tb : Table) → Fin (tcTables nBuf tb) → BufTy
  | .hbm, ⟨0, _⟩ => ⟨S4x512x8192, .f32⟩
  | .hbm, ⟨1, _⟩ => ⟨S4x512x1, .i32⟩
  | .hbm, ⟨2, _⟩ => ⟨S4x512x1, .i32⟩
  | .hbm, ⟨3, _⟩ => ⟨S8192x1024, .f32⟩
  | .hbm, ⟨4, _⟩ => ⟨S4x1024x4096, .f32⟩
  | .hbm, ⟨5, _⟩ => ⟨S4x2048x4, .f32⟩
  | .hbm, ⟨6, _⟩ => ⟨S4x2048x1024, .f32⟩
  | .hbm, ⟨7, _⟩ => ⟨S4x1024x4096, .f32⟩
  | .hbm, ⟨8, _⟩ => ⟨S4x4096x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S2048x1, .i32⟩
  | .hbm, ⟨14, _⟩ => ⟨S4x512, .i32⟩
  | .hbm, ⟨15, _⟩ => ⟨S2048x8192, .f32⟩
  | .hbm, ⟨16, _⟩ => ⟨S2048x1024, .f32⟩
  | .hbm, ⟨17, _⟩ => ⟨S4x1, .i32⟩
  | .hbm, ⟨18, _⟩ => ⟨S4x512x1024, .f32⟩
  | .hbm, ⟨19, _⟩ => ⟨S1x1024x4096, .f32⟩
  | .hbm, ⟨20, _⟩ => ⟨S1024x4096, .f32⟩
  | .hbm, ⟨21, _⟩ => ⟨S1x2048x4, .f32⟩
  | .hbm, ⟨22, _⟩ => ⟨S2048x4, .f32⟩
  | .hbm, ⟨23, _⟩ => ⟨S1x2048x1024, .f32⟩
  | .hbm, ⟨24, _⟩ => ⟨S2048x1024, .f32⟩
  | .hbm, ⟨25, _⟩ => ⟨S4x512x1024, .f32⟩
  | .hbm, ⟨26, _⟩ => ⟨S2048x1024, .f32⟩
  | .hbm, ⟨27, _⟩ => ⟨S1x1024x4096, .f32⟩
  | .hbm, ⟨28, _⟩ => ⟨S1024x4096, .f32⟩
  | .hbm, ⟨29, _⟩ => ⟨S1x4096x1024, .f32⟩
  | .hbm, ⟨30, _⟩ => ⟨S4096x1024, .f32⟩
  | .hbm, ⟨31, _⟩ => ⟨S2048x1024, .f32⟩
  | .hbm, ⟨32, _⟩ => ⟨S4x512x1024, .f32⟩
  | .hbm, ⟨33, _⟩ => ⟨S1x1024x4096, .f32⟩
  | .hbm, ⟨34, _⟩ => ⟨S1024x4096, .f32⟩
  | .hbm, ⟨35, _⟩ => ⟨S1x2048x4, .f32⟩
  | .hbm, ⟨36, _⟩ => ⟨S2048x4, .f32⟩
  | .hbm, ⟨37, _⟩ => ⟨S1x2048x1024, .f32⟩
  | .hbm, ⟨38, _⟩ => ⟨S2048x1024, .f32⟩
  | .hbm, ⟨39, _⟩ => ⟨S4x512x1024, .f32⟩
  | .hbm, ⟨40, _⟩ => ⟨S2048x1024, .f32⟩
  | .hbm, ⟨41, _⟩ => ⟨S1x1024x4096, .f32⟩
  | .hbm, ⟨42, _⟩ => ⟨S1024x4096, .f32⟩
  | .hbm, ⟨43, _⟩ => ⟨S1x4096x1024, .f32⟩
  | .hbm, ⟨44, _⟩ => ⟨S4096x1024, .f32⟩
  | .hbm, ⟨45, _⟩ => ⟨S2048x1024, .f32⟩
  | .hbm, ⟨46, _⟩ => ⟨S4x512x1024, .f32⟩
  | .hbm, ⟨47, _⟩ => ⟨S1x1024x4096, .f32⟩
  | .hbm, ⟨48, _⟩ => ⟨S1024x4096, .f32⟩
  | .hbm, ⟨49, _⟩ => ⟨S1x2048x4, .f32⟩
  | .hbm, ⟨50, _⟩ => ⟨S2048x4, .f32⟩
  | .hbm, ⟨51, _⟩ => ⟨S1x2048x1024, .f32⟩
  | .hbm, ⟨52, _⟩ => ⟨S2048x1024, .f32⟩
  | .hbm, ⟨53, _⟩ => ⟨S4x512x1024, .f32⟩
  | .hbm, ⟨54, _⟩ => ⟨S2048x1024, .f32⟩
  | .hbm, ⟨55, _⟩ => ⟨S1x1024x4096, .f32⟩
  | .hbm, ⟨56, _⟩ => ⟨S1024x4096, .f32⟩
  | .hbm, ⟨57, _⟩ => ⟨S1x4096x1024, .f32⟩
  | .hbm, ⟨58, _⟩ => ⟨S4096x1024, .f32⟩
  | .hbm, ⟨59, _⟩ => ⟨S2048x1024, .f32⟩
  | .hbm, ⟨60, _⟩ => ⟨S4x512x1024, .f32⟩
  | .hbm, ⟨61, _⟩ => ⟨S1x1024x4096, .f32⟩
  | .hbm, ⟨62, _⟩ => ⟨S1024x4096, .f32⟩
  | .hbm, ⟨63, _⟩ => ⟨S1x2048x4, .f32⟩
  | .hbm, ⟨64, _⟩ => ⟨S2048x4, .f32⟩
  | .hbm, ⟨65, _⟩ => ⟨S1x2048x1024, .f32⟩
  | .hbm, ⟨66, _⟩ => ⟨S2048x1024, .f32⟩
  | .hbm, ⟨67, _⟩ => ⟨S4x512x1024, .f32⟩
  | .hbm, ⟨68, _⟩ => ⟨S2048x1024, .f32⟩
  | .hbm, ⟨69, _⟩ => ⟨S1x1024x4096, .f32⟩
  | .hbm, ⟨70, _⟩ => ⟨S1024x4096, .f32⟩
  | .hbm, ⟨71, _⟩ => ⟨S1x4096x1024, .f32⟩
  | .hbm, ⟨72, _⟩ => ⟨S4096x1024, .f32⟩
  | .hbm, ⟨73, _⟩ => ⟨S2048x1024, .f32⟩
  | .hbm, ⟨74, _⟩ => ⟨S4x512x1024, .f32⟩
  | .hbm, ⟨75, _⟩ => ⟨S2048x1024, .f32⟩
  | .hbm, ⟨76, _⟩ => ⟨S1x1024, .f32⟩
  | .hbm, ⟨77, _⟩ => ⟨S1x1024, .f32⟩
  | .hbm, ⟨78, _⟩ => ⟨S2048x1024, .f32⟩
  | .hbm, ⟨79, _⟩ => ⟨S2048x1024, .f32⟩
  | .hbm, ⟨80, _⟩ => ⟨S4x512x1024, .f32⟩
  | .hbm, ⟨81, _⟩ => ⟨S4x512x1024, .f32⟩
  | .local _ .vmem, ⟨0, _⟩ => ⟨S256x1, .i32⟩
  | .local _ .vmem, ⟨1, _⟩ => ⟨S256x1, .i32⟩
  | .local _ .vmem, ⟨2, _⟩ => ⟨S256x8192, .f32⟩
  | .local _ .vmem, ⟨3, _⟩ => ⟨S256x8192, .f32⟩
  | .local _ .vmem, ⟨4, _⟩ => ⟨S8192x1024, .f32⟩
  | .local _ .vmem, ⟨5, _⟩ => ⟨S256x1024, .f32⟩
  | .local _ .vmem, ⟨6, _⟩ => ⟨S256x1024, .f32⟩
  | .local _ .vmem, ⟨7, _⟩ => ⟨S4x512, .i32⟩
  | .local _ .vmem, ⟨8, _⟩ => ⟨S4x1, .i32⟩
  | .local _ .vmem, ⟨9, _⟩ => ⟨S1x512x1024, .f32⟩
  | .local _ .vmem, ⟨10, _⟩ => ⟨S1x512x1024, .f32⟩
  | .local _ .vmem, ⟨11, _⟩ => ⟨S1024x4096, .f32⟩
  | .local _ .vmem, ⟨12, _⟩ => ⟨S2048x4, .f32⟩
  | .local _ .vmem, ⟨13, _⟩ => ⟨S2048x1024, .f32⟩
  | .local _ .vmem, ⟨14, _⟩ => ⟨S1x512x1024, .f32⟩
  | .local _ .vmem, ⟨15, _⟩ => ⟨S1x512x1024, .f32⟩
  | .local _ .vmem, ⟨16, _⟩ => ⟨S1024x1024, .f32⟩
  | .local _ .vmem, ⟨17, _⟩ => ⟨S520x2048, .f32⟩
  | .local _ .vmem, ⟨18, _⟩ => ⟨S512x1024, .f32⟩
  | .local _ .vmem, ⟨19, _⟩ => ⟨S512x1024, .f32⟩
  | .local _ .vmem, ⟨20, _⟩ => ⟨S1024x4096, .f32⟩
  | .local _ .vmem, ⟨21, _⟩ => ⟨S4096x1024, .f32⟩
  | .local _ .vmem, ⟨22, _⟩ => ⟨S512x1024, .f32⟩
  | .local _ .vmem, ⟨23, _⟩ => ⟨S512x1024, .f32⟩
  | .local _ .vmem, ⟨24, _⟩ => ⟨S1x512x1024, .f32⟩
  | .local _ .vmem, ⟨25, _⟩ => ⟨S1x512x1024, .f32⟩
  | .local _ .vmem, ⟨26, _⟩ => ⟨S1024x4096, .f32⟩
  | .local _ .vmem, ⟨27, _⟩ => ⟨S2048x4, .f32⟩
  | .local _ .vmem, ⟨28, _⟩ => ⟨S2048x1024, .f32⟩
  | .local _ .vmem, ⟨29, _⟩ => ⟨S1x512x1024, .f32⟩
  | .local _ .vmem, ⟨30, _⟩ => ⟨S1x512x1024, .f32⟩
  | .local _ .vmem, ⟨31, _⟩ => ⟨S520x2048, .f32⟩
  | .local _ .vmem, ⟨32, _⟩ => ⟨S512x1024, .f32⟩
  | .local _ .vmem, ⟨33, _⟩ => ⟨S512x1024, .f32⟩
  | .local _ .vmem, ⟨34, _⟩ => ⟨S1024x4096, .f32⟩
  | .local _ .vmem, ⟨35, _⟩ => ⟨S4096x1024, .f32⟩
  | .local _ .vmem, ⟨36, _⟩ => ⟨S512x1024, .f32⟩
  | .local _ .vmem, ⟨37, _⟩ => ⟨S512x1024, .f32⟩
  | .local _ .vmem, ⟨38, _⟩ => ⟨S1x512x1024, .f32⟩
  | .local _ .vmem, ⟨39, _⟩ => ⟨S1x512x1024, .f32⟩
  | .local _ .vmem, ⟨40, _⟩ => ⟨S1024x4096, .f32⟩
  | .local _ .vmem, ⟨41, _⟩ => ⟨S2048x4, .f32⟩
  | .local _ .vmem, ⟨42, _⟩ => ⟨S2048x1024, .f32⟩
  | .local _ .vmem, ⟨43, _⟩ => ⟨S1x512x1024, .f32⟩
  | .local _ .vmem, ⟨44, _⟩ => ⟨S1x512x1024, .f32⟩
  | .local _ .vmem, ⟨45, _⟩ => ⟨S520x2048, .f32⟩
  | .local _ .vmem, ⟨46, _⟩ => ⟨S512x1024, .f32⟩
  | .local _ .vmem, ⟨47, _⟩ => ⟨S512x1024, .f32⟩
  | .local _ .vmem, ⟨48, _⟩ => ⟨S1024x4096, .f32⟩
  | .local _ .vmem, ⟨49, _⟩ => ⟨S4096x1024, .f32⟩
  | .local _ .vmem, ⟨50, _⟩ => ⟨S512x1024, .f32⟩
  | .local _ .vmem, ⟨51, _⟩ => ⟨S512x1024, .f32⟩
  | .local _ .vmem, ⟨52, _⟩ => ⟨S1x512x1024, .f32⟩
  | .local _ .vmem, ⟨53, _⟩ => ⟨S1x512x1024, .f32⟩
  | .local _ .vmem, ⟨54, _⟩ => ⟨S1024x4096, .f32⟩
  | .local _ .vmem, ⟨55, _⟩ => ⟨S2048x4, .f32⟩
  | .local _ .vmem, ⟨56, _⟩ => ⟨S2048x1024, .f32⟩
  | .local _ .vmem, ⟨57, _⟩ => ⟨S1x512x1024, .f32⟩
  | .local _ .vmem, ⟨58, _⟩ => ⟨S1x512x1024, .f32⟩
  | .local _ .vmem, ⟨59, _⟩ => ⟨S520x2048, .f32⟩
  | .local _ .vmem, ⟨60, _⟩ => ⟨S512x1024, .f32⟩
  | .local _ .vmem, ⟨61, _⟩ => ⟨S512x1024, .f32⟩
  | .local _ .vmem, ⟨62, _⟩ => ⟨S1024x4096, .f32⟩
  | .local _ .vmem, ⟨63, _⟩ => ⟨S4096x1024, .f32⟩
  | .local _ .vmem, ⟨64, _⟩ => ⟨S512x1024, .f32⟩
  | .local _ .vmem, ⟨65, _⟩ => ⟨S512x1024, .f32⟩
  | .local _ .vmem, ⟨66, _⟩ => ⟨S512x1024, .f32⟩
  | .local _ .vmem, ⟨67, _⟩ => ⟨S512x1024, .f32⟩
  | .local _ .vmem, ⟨68, _⟩ => ⟨S1024x1024, .f32⟩
  | .local _ .vmem, ⟨69, _⟩ => ⟨S1x1024, .f32⟩
  | .local _ .vmem, ⟨70, _⟩ => ⟨S1024x1024, .f32⟩
  | .local _ .vmem, ⟨71, _⟩ => ⟨S1x1024, .f32⟩
  | .local _ .vmem, ⟨72, _⟩ => ⟨S512x1024, .f32⟩
  | .local _ .vmem, ⟨73, _⟩ => ⟨S512x1024, .f32⟩
  | .local _ .vmem, ⟨74, _⟩ => ⟨S512x1024, .f32⟩
  | .local _ .vmem, ⟨75, _⟩ => ⟨S512x1024, .f32⟩
  | .local _ .smem, ⟨0, _⟩ => ⟨S4x1, .i32⟩
  | _, _ => ⟨S4x512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .smem, ⟨0, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65_0 : Ref sig .tc := ⟨.hbm, 78, rfl⟩
abbrev main_v65_1 : Ref sig .tc := ⟨.hbm, 79, rfl⟩
abbrev main_v66 : Ref sig .tc := ⟨.hbm, 80, rfl⟩
abbrev main_v67 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg5_1 : Ref sig .tc := ⟨.vmem, 15, rfl⟩
abbrev cc2_scratch0 : Ref sig .tc := ⟨.vmem, 16, rfl⟩
abbrev cc2_scratch1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg4_1 : Ref sig .tc := ⟨.vmem, 30, rfl⟩
abbrev cc4_scratch0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc6_stg4_0 : Ref sig .tc := ⟨.vmem, 43, rfl⟩
abbrev cc6_stg4_1 : Ref sig .tc := ⟨.vmem, 44, rfl⟩
abbrev cc6_scratch0 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg2_0 : Ref sig .tc := ⟨.vmem, 49, rfl⟩
abbrev cc7_stg3_0 : Ref sig .tc := ⟨.vmem, 50, rfl⟩
abbrev cc7_stg3_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg3_0 : Ref sig .tc := ⟨.vmem, 56, rfl⟩
abbrev cc8_stg4_0 : Ref sig .tc := ⟨.vmem, 57, rfl⟩
abbrev cc8_stg4_1 : Ref sig .tc := ⟨.vmem, 58, rfl⟩
abbrev cc8_scratch0 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg2_0 : Ref sig .tc := ⟨.vmem, 63, rfl⟩
abbrev cc9_stg3_0 : Ref sig .tc := ⟨.vmem, 64, rfl⟩
abbrev cc9_stg3_1 : Ref sig .tc := ⟨.vmem, 65, rfl⟩
abbrev cc10_stg0_0 : Ref sig .tc := ⟨.vmem, 66, rfl⟩
abbrev cc10_stg0_1 : Ref sig .tc := ⟨.vmem, 67, rfl⟩
abbrev cc10_stg1_0 : Ref sig .tc := ⟨.vmem, 68, rfl⟩
abbrev cc10_stg2_0 : Ref sig .tc := ⟨.vmem, 69, rfl⟩
abbrev cc10_stg3_0 : Ref sig .tc := ⟨.vmem, 70, rfl⟩
abbrev cc10_stg4_0 : Ref sig .tc := ⟨.vmem, 71, rfl⟩
abbrev cc10_stg5_0 : Ref sig .tc := ⟨.vmem, 72, rfl⟩
abbrev cc10_stg5_1 : Ref sig .tc := ⟨.vmem, 73, rfl⟩
abbrev cc10_stg6_0 : Ref sig .tc := ⟨.vmem, 74, rfl⟩
abbrev cc10_stg6_1 : Ref sig .tc := ⟨.vmem, 75, rfl⟩
abbrev cc2_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem1_0 : DmaSem sig := 8
abbrev cc2_sem0_0 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem4_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem4_0 : DmaSem sig := 41
abbrev cc6_sem4_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem3_0 : DmaSem sig := 47
abbrev cc7_sem3_1 : DmaSem sig := 48
abbrev cc8_sem0_0 : DmaSem sig := 49
abbrev cc8_sem0_1 : DmaSem sig := 50
abbrev cc8_sem1_0 : DmaSem sig := 51
abbrev cc8_sem2_0 : DmaSem sig := 52
abbrev cc8_sem3_0 : DmaSem sig := 53
abbrev cc8_sem4_0 : DmaSem sig := 54
abbrev cc8_sem4_1 : DmaSem sig := 55
abbrev cc9_sem0_0 : DmaSem sig := 56
abbrev cc9_sem0_1 : DmaSem sig := 57
abbrev cc9_sem1_0 : DmaSem sig := 58
abbrev cc9_sem2_0 : DmaSem sig := 59
abbrev cc9_sem3_0 : DmaSem sig := 60
abbrev cc9_sem3_1 : DmaSem sig := 61
abbrev cc10_sem0_0 : DmaSem sig := 62
abbrev cc10_sem0_1 : DmaSem sig := 63
abbrev cc10_sem1_0 : DmaSem sig := 64
abbrev cc10_sem2_0 : DmaSem sig := 65
abbrev cc10_sem3_0 : DmaSem sig := 66
abbrev cc10_sem4_0 : DmaSem sig := 67
abbrev cc10_sem5_0 : DmaSem sig := 68
abbrev cc10_sem5_1 : DmaSem sig := 69
abbrev cc10_sem6_0 : DmaSem sig := 70
abbrev cc10_sem6_1 : DmaSem sig := 71

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

abbrev stage1_0 : Fin 1 → Memref sig .tc .vmem S4x512 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨1, ![4], ![false]⟩

def k2_off1 (i : grid2.Coords) : Fin 2 → Nat :=
  let arg0 : BitVec 32 := BitVec.ofNat 32 (i 0).val
  let v0 : Index := Scalar.indexCast arg0
  let c0 : Index := 0#32
  ![v0.toNat, 0]
def k2_off2 (v1 : BitVec 32) : Fin 2 → Nat :=
  let c0_i32 : BitVec 32 := 0#32
  let v14 : BitVec 1 := Scalar.cmpi .sgt v1 c0_i32
  let v15 : BitVec 32 := Scalar.extui v14
  let c0_i32_6 : BitVec 32 := 0#32
  let v16 : BitVec 1 := Scalar.cmpi .slt v1 c0_i32_6
  let v17 : BitVec 32 := Scalar.extui v16
  let v18 : BitVec 32 := Scalar.subi v15 v17
  let c8_i32 : BitVec 32 := 8#32
  let c0_i32_7 : BitVec 32 := 0#32
  let v19 : BitVec 1 := Scalar.cmpi .sgt c8_i32 c0_i32_7
  let v20 : BitVec 32 := Scalar.extui v19
  let c0_i32_8 : BitVec 32 := 0#32
  let v21 : BitVec 1 := Scalar.cmpi .slt c8_i32 c0_i32_8
  let v22 : BitVec 32 := Scalar.extui v21
  let v23 : BitVec 32 := Scalar.subi v20 v22
  let v24 : BitVec 1 := Scalar.cmpi .ne v18 v23
  let v25 : BitVec 32 := Scalar.remsi v1 c8_i32
  let c0_i32_9 : BitVec 32 := 0#32
  let v26 : BitVec 1 := Scalar.cmpi .ne v25 c0_i32_9
  let v27 : BitVec 1 := Scalar.andi v24 v26
  let v13 : BitVec 32 := Scalar.divsi v1 c8_i32
  let c1_i32 : BitVec 32 := 1#32
  let v28 : BitVec 32 := Scalar.subi v13 c1_i32
  let v29 : BitVec 32 := Scalar.select v27 v28 v13
  let c8_i32_10 : BitVec 32 := 8#32
  let v30 : BitVec 32 := Scalar.muli v29 c8_i32_10
  let v32 : Index := Scalar.indexCast v30
  let c0_11 : Index := 0#32
  ![v32.toNat, 0]

def k2_chk1 (v1 : BitVec 32) : Prop :=
  (∀ a, (k2_off2 v1) a + S520x1024.size a ≤ S1024x1024.size a)
theorem k2_off2_inb : ∀ (v1 : BitVec 32) (k2_hw1 : k2_chk1 v1), ∀ a, (k2_off2 v1) a + S520x1024.size a ≤ S1024x1024.size a := fun v1 k2_hw1 => k2_hw1

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .smem S4x1 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S4096x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S2048x4 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2048x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1x512x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x4096 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S4096x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![4], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x512x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x4096 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S2048x4 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S2048x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S1x512x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1024x4096 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S4096x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S512x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![4], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x512x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1024x4096 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S2048x4 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S2048x1024 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S1x512x1024 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![4], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S512x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1024x4096 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S4096x1024 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S512x1024 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S512x1024 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1024x1024 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x1024 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1024x1024 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x1024 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S512x1024 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 2 → Memref sig .tc .vmem S512x1024 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]
-- ==== ReferenceIdeal.lean ====
abbrev S4x512x8192 : Shape := ⟨3, ![4, 512, 8192]⟩
abbrev S4x512x1 : Shape := ⟨3, ![4, 512, 1]⟩
abbrev S8192x1024 : Shape := ⟨2, ![8192, 1024]⟩
abbrev S4x1024x4096 : Shape := ⟨3, ![4, 1024, 4096]⟩
abbrev S4x2048x4 : Shape := ⟨3, ![4, 2048, 4]⟩
abbrev S4x2048x1024 : Shape := ⟨3, ![4, 2048, 1024]⟩
abbrev S4x4096x1024 : Shape := ⟨3, ![4, 4096, 1024]⟩
abbrev S1024x1024 : Shape := ⟨2, ![1024, 1024]⟩
abbrev S1024 : Shape := ⟨1, ![1024]⟩
abbrev S4x512 : Shape := ⟨2, ![4, 512]⟩
abbrev S_ : Shape := ⟨0, ![]⟩
abbrev S1 : Shape := ⟨1, ![1]⟩
abbrev S1x1x1 : Shape := ⟨3, ![1, 1, 1]⟩
abbrev S4x512x1024 : Shape := ⟨3, ![4, 512, 1024]⟩
abbrev S512 : Shape := ⟨1, ![512]⟩
abbrev S1x512 : Shape := ⟨2, ![1, 512]⟩
abbrev S4x1 : Shape := ⟨2, ![4, 1]⟩
abbrev S4 : Shape := ⟨1, ![4]⟩
abbrev S1x1024x4096 : Shape := ⟨3, ![1, 1024, 4096]⟩
abbrev S1024x4096 : Shape := ⟨2, ![1024, 4096]⟩
abbrev S4x512x4096 : Shape := ⟨3, ![4, 512, 4096]⟩
abbrev S4x512x2048 : Shape := ⟨3, ![4, 512, 2048]⟩
abbrev S4x515x2048 : Shape := ⟨3, ![4, 515, 2048]⟩
abbrev S1x2048x4 : Shape := ⟨3, ![1, 2048, 4]⟩
abbrev S2048x4 : Shape := ⟨2, ![2048, 4]⟩
abbrev S2048x1 : Shape := ⟨2, ![2048, 1]⟩
abbrev S2048 : Shape := ⟨1, ![2048]⟩
abbrev S1x1x2048 : Shape := ⟨3, ![1, 1, 2048]⟩
abbrev S1x2048x1024 : Shape := ⟨3, ![1, 2048, 1024]⟩
abbrev S2048x1024 : Shape := ⟨2, ![2048, 1024]⟩
abbrev S1x4096x1024 : Shape := ⟨3, ![1, 4096, 1024]⟩
abbrev S4096x1024 : Shape := ⟨2, ![4096, 1024]⟩
abbrev S1x1x1024 : Shape := ⟨3, ![1, 1, 1024]⟩

abbrev nBuf : Space → Nat
  | .hbm => 569
  | .vmem => 0
  | .smem => 0
  | _ => 0

abbrev hbmTy0_0 (i : Nat) : BufTy := match i % 128 with
  | 0 => ⟨S4x512x8192, .f32⟩
  | 1 => ⟨S4x512x1, .i32⟩
  | 2 => ⟨S4x512x1, .i32⟩
  | 3 => ⟨S8192x1024, .f32⟩
  | 4 => ⟨S4x1024x4096, .f32⟩
  | 5 => ⟨S4x2048x4, .f32⟩
  | 6 => ⟨S4x2048x1024, .f32⟩
  | 7 => ⟨S4x1024x4096, .f32⟩
  | 8 => ⟨S4x4096x1024, .f32⟩
  | 9 => ⟨S1024x1024, .f32⟩
  | 10 => ⟨S1024, .f32⟩
  | 11 => ⟨S1024x1024, .f32⟩
  | 12 => ⟨S1024, .f32⟩
  | 13 => ⟨S4x512, .i32⟩
  | 14 => ⟨S_, .i32⟩
  | 15 => ⟨S4x512, .i32⟩
  | 16 => ⟨S4x512, .i1⟩
  | 17 => ⟨S_, .i32⟩
  | 18 => ⟨S4x512, .i32⟩
  | 19 => ⟨S4x512, .i32⟩
  | 20 => ⟨S4x512, .i32⟩
  | 21 => ⟨S4x512x1, .i32⟩
  | 22 => ⟨S1, .i32⟩
  | 23 => ⟨S_, .i32⟩
  | 24 => ⟨S4x512x1, .i32⟩
  | 25 => ⟨S4x512x1, .i1⟩
  | 26 => ⟨S1x1x1, .i32⟩
  | 27 => ⟨S4x512x1, .i32⟩
  | 28 => ⟨S4x512x1, .i1⟩
  | 29 => ⟨S4x512x1, .i1⟩
  | 30 => ⟨S_, .i1⟩
  | 31 => ⟨S4x512, .i1⟩
  | 32 => ⟨S4x512x1024, .f32⟩
  | 33 => ⟨S4x512x1024, .i1⟩
  | 34 => ⟨S_, .f32⟩
  | 35 => ⟨S4x512x1024, .f32⟩
  | 36 => ⟨S4x512x1024, .f32⟩
  | 37 => ⟨S4x512x1024, .f32⟩
  | 38 => ⟨S4x512, .i32⟩
  | 39 => ⟨S_, .i32⟩
  | 40 => ⟨S4x512, .i32⟩
  | 41 => ⟨S4x512, .i1⟩
  | 42 => ⟨S4x512, .i1⟩
  | 43 => ⟨S512, .i32⟩
  | 44 => ⟨S1x512, .i32⟩
  | 45 => ⟨S4x512, .i32⟩
  | 46 => ⟨S_, .i32⟩
  | 47 => ⟨S_, .i32⟩
  | 48 => ⟨S4x512, .i32⟩
  | 49 => ⟨S4x512, .i32⟩
  | 50 => ⟨S4x512, .i32⟩
  | 51 => ⟨S4x1, .i32⟩
  | 52 => ⟨S4, .i32⟩
  | 53 => ⟨S_, .i32⟩
  | 54 => ⟨S4, .i32⟩
  | 55 => ⟨S4, .i32⟩
  | 56 => ⟨S4x1, .i32⟩
  | 57 => ⟨S512, .i32⟩
  | 58 => ⟨S1x512, .i32⟩
  | 59 => ⟨S4x512, .i32⟩
  | 60 => ⟨S4x512, .i32⟩
  | 61 => ⟨S4x512, .i32⟩
  | 62 => ⟨S_, .i32⟩
  | 63 => ⟨S_, .i32⟩
  | 64 => ⟨S_, .i32⟩
  | 65 => ⟨S4x512, .i32⟩
  | 66 => ⟨S4x512, .i32⟩
  | 67 => ⟨S_, .i32⟩
  | 68 => ⟨S4x512, .i32⟩
  | 69 => ⟨S4x512, .i32⟩
  | 70 => ⟨S4x512x1, .i32⟩
  | 71 => ⟨S_, .i32⟩
  | 72 => ⟨S4x512x1, .i32⟩
  | 73 => ⟨S4x512x1, .i1⟩
  | 74 => ⟨S_, .i32⟩
  | 75 => ⟨S4x512x1, .i32⟩
  | 76 => ⟨S4x512x1, .i32⟩
  | 77 => ⟨S4x512x1, .i32⟩
  | 78 => ⟨S1, .i32⟩
  | 79 => ⟨S_, .i32⟩
  | 80 => ⟨S4x512x1, .i32⟩
  | 81 => ⟨S4x512x1, .i1⟩
  | 82 => ⟨S1x1x1, .i32⟩
  | 83 => ⟨S4x512x1, .i32⟩
  | 84 => ⟨S4x512x1, .i1⟩
  | 85 => ⟨S4x512x1, .i1⟩
  | 86 => ⟨S_, .i1⟩
  | 87 => ⟨S4x512, .i1⟩
  | 88 => ⟨S4x512x1024, .f32⟩
  | 89 => ⟨S4x512x1024, .i1⟩
  | 90 => ⟨S_, .f32⟩
  | 91 => ⟨S4x512x1024, .f32⟩
  | 92 => ⟨S4x512x1024, .f32⟩
  | 93 => ⟨S4x512x1, .i32⟩
  | 94 => ⟨S_, .i32⟩
  | 95 => ⟨S4x512x1, .i32⟩
  | 96 => ⟨S4x512x1, .i1⟩
  | 97 => ⟨S_, .i32⟩
  | 98 => ⟨S4x512x1, .i32⟩
  | 99 => ⟨S4x512x1, .i32⟩
  | 100 => ⟨S4x512x1, .i32⟩
  | 101 => ⟨S1, .i32⟩
  | 102 => ⟨S_, .i32⟩
  | 103 => ⟨S4x512x1, .i32⟩
  | 104 => ⟨S4x512x1, .i1⟩
  | 105 => ⟨S1x1x1, .i32⟩
  | 106 => ⟨S4x512x1, .i32⟩
  | 107 => ⟨S4x512x1, .i1⟩
  | 108 => ⟨S4x512x1, .i1⟩
  | 109 => ⟨S_, .i1⟩
  | 110 => ⟨S4x512, .i1⟩
  | 111 => ⟨S4x512x1024, .f32⟩
  | 112 => ⟨S4x512x1024, .i1⟩
  | 113 => ⟨S_, .f32⟩
  | 114 => ⟨S4x512x1024, .f32⟩
  | 115 => ⟨S4x512x1024, .f32⟩
  | 116 => ⟨S4x512x1024, .f32⟩
  | 117 => ⟨S4x512x1024, .f32⟩
  | 118 => ⟨S_, .f32⟩
  | 119 => ⟨S4x512, .f32⟩
  | 120 => ⟨S4x512x1, .f32⟩
  | 121 => ⟨S_, .f32⟩
  | 122 => ⟨S4x512x1, .f32⟩
  | 123 => ⟨S4x512x1, .f32⟩
  | 124 => ⟨S_, .f32⟩
  | 125 => ⟨S4x512x1, .f32⟩
  | 126 => ⟨S4x512x1, .f32⟩
  | 127 => ⟨S4x512x1, .f32⟩
  | _ => ⟨S4x512x8192, .f32⟩

abbrev hbmTy0_1 (i : Nat) : BufTy := match i % 128 with
  | 0 => ⟨S4x512x1024, .f32⟩
  | 1 => ⟨S4x512x1024, .f32⟩
  | 2 => ⟨S1x1024x4096, .f32⟩
  | 3 => ⟨S1024x4096, .f32⟩
  | 4 => ⟨S4x512x4096, .f32⟩
  | 5 => ⟨S4x512x2048, .f32⟩
  | 6 => ⟨S4x512x2048, .f32⟩
  | 7 => ⟨S_, .i32⟩
  | 8 => ⟨S_, .f32⟩
  | 9 => ⟨S4x515x2048, .f32⟩
  | 10 => ⟨S_, .f32⟩
  | 11 => ⟨S4x512x2048, .f32⟩
  | 12 => ⟨S4x512x2048, .f32⟩
  | 13 => ⟨S1x2048x4, .f32⟩
  | 14 => ⟨S2048x4, .f32⟩
  | 15 => ⟨S2048x1, .f32⟩
  | 16 => ⟨S2048, .f32⟩
  | 17 => ⟨S1x1x2048, .f32⟩
  | 18 => ⟨S4x512x2048, .f32⟩
  | 19 => ⟨S4x512x2048, .f32⟩
  | 20 => ⟨S4x512x2048, .f32⟩
  | 21 => ⟨S4x512x2048, .f32⟩
  | 22 => ⟨S1x2048x4, .f32⟩
  | 23 => ⟨S2048x4, .f32⟩
  | 24 => ⟨S2048x1, .f32⟩
  | 25 => ⟨S2048, .f32⟩
  | 26 => ⟨S1x1x2048, .f32⟩
  | 27 => ⟨S4x512x2048, .f32⟩
  | 28 => ⟨S4x512x2048, .f32⟩
  | 29 => ⟨S4x512x2048, .f32⟩
  | 30 => ⟨S4x512x2048, .f32⟩
  | 31 => ⟨S1x2048x4, .f32⟩
  | 32 => ⟨S2048x4, .f32⟩
  | 33 => ⟨S2048x1, .f32⟩
  | 34 => ⟨S2048, .f32⟩
  | 35 => ⟨S1x1x2048, .f32⟩
  | 36 => ⟨S4x512x2048, .f32⟩
  | 37 => ⟨S4x512x2048, .f32⟩
  | 38 => ⟨S4x512x2048, .f32⟩
  | 39 => ⟨S4x512x2048, .f32⟩
  | 40 => ⟨S1x2048x4, .f32⟩
  | 41 => ⟨S2048x4, .f32⟩
  | 42 => ⟨S2048x1, .f32⟩
  | 43 => ⟨S2048, .f32⟩
  | 44 => ⟨S1x1x2048, .f32⟩
  | 45 => ⟨S4x512x2048, .f32⟩
  | 46 => ⟨S4x512x2048, .f32⟩
  | 47 => ⟨S4x512x2048, .f32⟩
  | 48 => ⟨S4x512x2048, .f32⟩
  | 49 => ⟨S4x512x2048, .f32⟩
  | 50 => ⟨S_, .f32⟩
  | 51 => ⟨S4x512x2048, .f32⟩
  | 52 => ⟨S4x512x2048, .f32⟩
  | 53 => ⟨S_, .f32⟩
  | 54 => ⟨S4x512x2048, .f32⟩
  | 55 => ⟨S4x512x2048, .f32⟩
  | 56 => ⟨S4x512x2048, .f32⟩
  | 57 => ⟨S4x512x2048, .f32⟩
  | 58 => ⟨S4x512x2048, .f32⟩
  | 59 => ⟨S_, .f32⟩
  | 60 => ⟨S4x512x2048, .f32⟩
  | 61 => ⟨S4x512x2048, .f32⟩
  | 62 => ⟨S_, .f32⟩
  | 63 => ⟨S4x512x2048, .f32⟩
  | 64 => ⟨S4x512x2048, .f32⟩
  | 65 => ⟨S4x512x2048, .f32⟩
  | 66 => ⟨S4x512x2048, .f32⟩
  | 67 => ⟨S1x2048x1024, .f32⟩
  | 68 => ⟨S2048x1024, .f32⟩
  | 69 => ⟨S4x512x1024, .f32⟩
  | 70 => ⟨S4x512x1024, .f32⟩
  | 71 => ⟨S4x512x1024, .f32⟩
  | 72 => ⟨S_, .f32⟩
  | 73 => ⟨S4x512, .f32⟩
  | 74 => ⟨S4x512x1, .f32⟩
  | 75 => ⟨S_, .f32⟩
  | 76 => ⟨S4x512x1, .f32⟩
  | 77 => ⟨S4x512x1, .f32⟩
  | 78 => ⟨S_, .f32⟩
  | 79 => ⟨S4x512x1, .f32⟩
  | 80 => ⟨S4x512x1, .f32⟩
  | 81 => ⟨S4x512x1, .f32⟩
  | 82 => ⟨S4x512x1024, .f32⟩
  | 83 => ⟨S4x512x1024, .f32⟩
  | 84 => ⟨S1x1024x4096, .f32⟩
  | 85 => ⟨S1024x4096, .f32⟩
  | 86 => ⟨S4x512x4096, .f32⟩
  | 87 => ⟨S4x512x4096, .f32⟩
  | 88 => ⟨S4x512x4096, .f32⟩
  | 89 => ⟨S_, .f32⟩
  | 90 => ⟨S4x512x4096, .f32⟩
  | 91 => ⟨S4x512x4096, .f32⟩
  | 92 => ⟨S_, .f32⟩
  | 93 => ⟨S4x512x4096, .f32⟩
  | 94 => ⟨S4x512x4096, .f32⟩
  | 95 => ⟨S4x512x4096, .f32⟩
  | 96 => ⟨S1x4096x1024, .f32⟩
  | 97 => ⟨S4096x1024, .f32⟩
  | 98 => ⟨S4x512x1024, .f32⟩
  | 99 => ⟨S4x512x1024, .f32⟩
  | 100 => ⟨S4x512x1024, .f32⟩
  | 101 => ⟨S_, .f32⟩
  | 102 => ⟨S4x512, .f32⟩
  | 103 => ⟨S4x512x1, .f32⟩
  | 104 => ⟨S_, .f32⟩
  | 105 => ⟨S4x512x1, .f32⟩
  | 106 => ⟨S4x512x1, .f32⟩
  | 107 => ⟨S_, .f32⟩
  | 108 => ⟨S4x512x1, .f32⟩
  | 109 => ⟨S4x512x1, .f32⟩
  | 110 => ⟨S4x512x1, .f32⟩
  | 111 => ⟨S4x512x1024, .f32⟩
  | 112 => ⟨S4x512x1024, .f32⟩
  | 113 => ⟨S1x1024x4096, .f32⟩
  | 114 => ⟨S1024x4096, .f32⟩
  | 115 => ⟨S4x512x4096, .f32⟩
  | 116 => ⟨S4x512x2048, .f32⟩
  | 117 => ⟨S4x512x2048, .f32⟩
  | 118 => ⟨S_, .i32⟩
  | 119 => ⟨S_, .f32⟩
  | 120 => ⟨S4x515x2048, .f32⟩
  | 121 => ⟨S_, .f32⟩
  | 122 => ⟨S4x512x2048, .f32⟩
  | 123 => ⟨S4x512x2048, .f32⟩
  | 124 => ⟨S1x2048x4, .f32⟩
  | 125 => ⟨S2048x4, .f32⟩
  | 126 => ⟨S2048x1, .f32⟩
  | 127 => ⟨S2048, .f32⟩
  | _ => ⟨S4x512x8192, .f32⟩

abbrev hbmTy0_2 (i : Nat) : BufTy := match i % 128 with
  | 0 => ⟨S1x1x2048, .f32⟩
  | 1 => ⟨S4x512x2048, .f32⟩
  | 2 => ⟨S4x512x2048, .f32⟩
  | 3 => ⟨S4x512x2048, .f32⟩
  | 4 => ⟨S4x512x2048, .f32⟩
  | 5 => ⟨S1x2048x4, .f32⟩
  | 6 => ⟨S2048x4, .f32⟩
  | 7 => ⟨S2048x1, .f32⟩
  | 8 => ⟨S2048, .f32⟩
  | 9 => ⟨S1x1x2048, .f32⟩
  | 10 => ⟨S4x512x2048, .f32⟩
  | 11 => ⟨S4x512x2048, .f32⟩
  | 12 => ⟨S4x512x2048, .f32⟩
  | 13 => ⟨S4x512x2048, .f32⟩
  | 14 => ⟨S1x2048x4, .f32⟩
  | 15 => ⟨S2048x4, .f32⟩
  | 16 => ⟨S2048x1, .f32⟩
  | 17 => ⟨S2048, .f32⟩
  | 18 => ⟨S1x1x2048, .f32⟩
  | 19 => ⟨S4x512x2048, .f32⟩
  | 20 => ⟨S4x512x2048, .f32⟩
  | 21 => ⟨S4x512x2048, .f32⟩
  | 22 => ⟨S4x512x2048, .f32⟩
  | 23 => ⟨S1x2048x4, .f32⟩
  | 24 => ⟨S2048x4, .f32⟩
  | 25 => ⟨S2048x1, .f32⟩
  | 26 => ⟨S2048, .f32⟩
  | 27 => ⟨S1x1x2048, .f32⟩
  | 28 => ⟨S4x512x2048, .f32⟩
  | 29 => ⟨S4x512x2048, .f32⟩
  | 30 => ⟨S4x512x2048, .f32⟩
  | 31 => ⟨S4x512x2048, .f32⟩
  | 32 => ⟨S4x512x2048, .f32⟩
  | 33 => ⟨S_, .f32⟩
  | 34 => ⟨S4x512x2048, .f32⟩
  | 35 => ⟨S4x512x2048, .f32⟩
  | 36 => ⟨S_, .f32⟩
  | 37 => ⟨S4x512x2048, .f32⟩
  | 38 => ⟨S4x512x2048, .f32⟩
  | 39 => ⟨S4x512x2048, .f32⟩
  | 40 => ⟨S4x512x2048, .f32⟩
  | 41 => ⟨S4x512x2048, .f32⟩
  | 42 => ⟨S_, .f32⟩
  | 43 => ⟨S4x512x2048, .f32⟩
  | 44 => ⟨S4x512x2048, .f32⟩
  | 45 => ⟨S_, .f32⟩
  | 46 => ⟨S4x512x2048, .f32⟩
  | 47 => ⟨S4x512x2048, .f32⟩
  | 48 => ⟨S4x512x2048, .f32⟩
  | 49 => ⟨S4x512x2048, .f32⟩
  | 50 => ⟨S1x2048x1024, .f32⟩
  | 51 => ⟨S2048x1024, .f32⟩
  | 52 => ⟨S4x512x1024, .f32⟩
  | 53 => ⟨S4x512x1024, .f32⟩
  | 54 => ⟨S4x512x1024, .f32⟩
  | 55 => ⟨S_, .f32⟩
  | 56 => ⟨S4x512, .f32⟩
  | 57 => ⟨S4x512x1, .f32⟩
  | 58 => ⟨S_, .f32⟩
  | 59 => ⟨S4x512x1, .f32⟩
  | 60 => ⟨S4x512x1, .f32⟩
  | 61 => ⟨S_, .f32⟩
  | 62 => ⟨S4x512x1, .f32⟩
  | 63 => ⟨S4x512x1, .f32⟩
  | 64 => ⟨S4x512x1, .f32⟩
  | 65 => ⟨S4x512x1024, .f32⟩
  | 66 => ⟨S4x512x1024, .f32⟩
  | 67 => ⟨S1x1024x4096, .f32⟩
  | 68 => ⟨S1024x4096, .f32⟩
  | 69 => ⟨S4x512x4096, .f32⟩
  | 70 => ⟨S4x512x4096, .f32⟩
  | 71 => ⟨S4x512x4096, .f32⟩
  | 72 => ⟨S_, .f32⟩
  | 73 => ⟨S4x512x4096, .f32⟩
  | 74 => ⟨S4x512x4096, .f32⟩
  | 75 => ⟨S_, .f32⟩
  | 76 => ⟨S4x512x4096, .f32⟩
  | 77 => ⟨S4x512x4096, .f32⟩
  | 78 => ⟨S4x512x4096, .f32⟩
  | 79 => ⟨S1x4096x1024, .f32⟩
  | 80 => ⟨S4096x1024, .f32⟩
  | 81 => ⟨S4x512x1024, .f32⟩
  | 82 => ⟨S4x512x1024, .f32⟩
  | 83 => ⟨S4x512x1024, .f32⟩
  | 84 => ⟨S_, .f32⟩
  | 85 => ⟨S4x512, .f32⟩
  | 86 => ⟨S4x512x1, .f32⟩
  | 87 => ⟨S_, .f32⟩
  | 88 => ⟨S4x512x1, .f32⟩
  | 89 => ⟨S4x512x1, .f32⟩
  | 90 => ⟨S_, .f32⟩
  | 91 => ⟨S4x512x1, .f32⟩
  | 92 => ⟨S4x512x1, .f32⟩
  | 93 => ⟨S4x512x1, .f32⟩
  | 94 => ⟨S4x512x1024, .f32⟩
  | 95 => ⟨S4x512x1024, .f32⟩
  | 96 => ⟨S1x1024x4096, .f32⟩
  | 97 => ⟨S1024x4096, .f32⟩
  | 98 => ⟨S4x512x4096, .f32⟩
  | 99 => ⟨S4x512x2048, .f32⟩
  | 100 => ⟨S4x512x2048, .f32⟩
  | 101 => ⟨S_, .i32⟩
  | 102 => ⟨S_, .f32⟩
  | 103 => ⟨S4x515x2048, .f32⟩
  | 104 => ⟨S_, .f32⟩
  | 105 => ⟨S4x512x2048, .f32⟩
  | 106 => ⟨S4x512x2048, .f32⟩
  | 107 => ⟨S1x2048x4, .f32⟩
  | 108 => ⟨S2048x4, .f32⟩
  | 109 => ⟨S2048x1, .f32⟩
  | 110 => ⟨S2048, .f32⟩
  | 111 => ⟨S1x1x2048, .f32⟩
  | 112 => ⟨S4x512x2048, .f32⟩
  | 113 => ⟨S4x512x2048, .f32⟩
  | 114 => ⟨S4x512x2048, .f32⟩
  | 115 => ⟨S4x512x2048, .f32⟩
  | 116 => ⟨S1x2048x4, .f32⟩
  | 117 => ⟨S2048x4, .f32⟩
  | 118 => ⟨S2048x1, .f32⟩
  | 119 => ⟨S2048, .f32⟩
  | 120 => ⟨S1x1x2048, .f32⟩
  | 121 => ⟨S4x512x2048, .f32⟩
  | 122 => ⟨S4x512x2048, .f32⟩
  | 123 => ⟨S4x512x2048, .f32⟩
  | 124 => ⟨S4x512x2048, .f32⟩
  | 125 => ⟨S1x2048x4, .f32⟩
  | 126 => ⟨S2048x4, .f32⟩
  | 127 => ⟨S2048x1, .f32⟩
  | _ => ⟨S4x512x8192, .f32⟩

abbrev hbmTy0_3 (i : Nat) : BufTy := match i % 128 with
  | 0 => ⟨S2048, .f32⟩
  | 1 => ⟨S1x1x2048, .f32⟩
  | 2 => ⟨S4x512x2048, .f32⟩
  | 3 => ⟨S4x512x2048, .f32⟩
  | 4 => ⟨S4x512x2048, .f32⟩
  | 5 => ⟨S4x512x2048, .f32⟩
  | 6 => ⟨S1x2048x4, .f32⟩
  | 7 => ⟨S2048x4, .f32⟩
  | 8 => ⟨S2048x1, .f32⟩
  | 9 => ⟨S2048, .f32⟩
  | 10 => ⟨S1x1x2048, .f32⟩
  | 11 => ⟨S4x512x2048, .f32⟩
  | 12 => ⟨S4x512x2048, .f32⟩
  | 13 => ⟨S4x512x2048, .f32⟩
  | 14 => ⟨S4x512x2048, .f32⟩
  | 15 => ⟨S4x512x2048, .f32⟩
  | 16 => ⟨S_, .f32⟩
  | 17 => ⟨S4x512x2048, .f32⟩
  | 18 => ⟨S4x512x2048, .f32⟩
  | 19 => ⟨S_, .f32⟩
  | 20 => ⟨S4x512x2048, .f32⟩
  | 21 => ⟨S4x512x2048, .f32⟩
  | 22 => ⟨S4x512x2048, .f32⟩
  | 23 => ⟨S4x512x2048, .f32⟩
  | 24 => ⟨S4x512x2048, .f32⟩
  | 25 => ⟨S_, .f32⟩
  | 26 => ⟨S4x512x2048, .f32⟩
  | 27 => ⟨S4x512x2048, .f32⟩
  | 28 => ⟨S_, .f32⟩
  | 29 => ⟨S4x512x2048, .f32⟩
  | 30 => ⟨S4x512x2048, .f32⟩
  | 31 => ⟨S4x512x2048, .f32⟩
  | 32 => ⟨S4x512x2048, .f32⟩
  | 33 => ⟨S1x2048x1024, .f32⟩
  | 34 => ⟨S2048x1024, .f32⟩
  | 35 => ⟨S4x512x1024, .f32⟩
  | 36 => ⟨S4x512x1024, .f32⟩
  | 37 => ⟨S4x512x1024, .f32⟩
  | 38 => ⟨S_, .f32⟩
  | 39 => ⟨S4x512, .f32⟩
  | 40 => ⟨S4x512x1, .f32⟩
  | 41 => ⟨S_, .f32⟩
  | 42 => ⟨S4x512x1, .f32⟩
  | 43 => ⟨S4x512x1, .f32⟩
  | 44 => ⟨S_, .f32⟩
  | 45 => ⟨S4x512x1, .f32⟩
  | 46 => ⟨S4x512x1, .f32⟩
  | 47 => ⟨S4x512x1, .f32⟩
  | 48 => ⟨S4x512x1024, .f32⟩
  | 49 => ⟨S4x512x1024, .f32⟩
  | 50 => ⟨S1x1024x4096, .f32⟩
  | 51 => ⟨S1024x4096, .f32⟩
  | 52 => ⟨S4x512x4096, .f32⟩
  | 53 => ⟨S4x512x4096, .f32⟩
  | 54 => ⟨S4x512x4096, .f32⟩
  | 55 => ⟨S_, .f32⟩
  | 56 => ⟨S4x512x4096, .f32⟩
  | 57 => ⟨S4x512x4096, .f32⟩
  | 58 => ⟨S_, .f32⟩
  | 59 => ⟨S4x512x4096, .f32⟩
  | 60 => ⟨S4x512x4096, .f32⟩
  | 61 => ⟨S4x512x4096, .f32⟩
  | 62 => ⟨S1x4096x1024, .f32⟩
  | 63 => ⟨S4096x1024, .f32⟩
  | 64 => ⟨S4x512x1024, .f32⟩
  | 65 => ⟨S4x512x1024, .f32⟩
  | 66 => ⟨S4x512x1024, .f32⟩
  | 67 => ⟨S_, .f32⟩
  | 68 => ⟨S4x512, .f32⟩
  | 69 => ⟨S4x512x1, .f32⟩
  | 70 => ⟨S_, .f32⟩
  | 71 => ⟨S4x512x1, .f32⟩
  | 72 => ⟨S4x512x1, .f32⟩
  | 73 => ⟨S_, .f32⟩
  | 74 => ⟨S4x512x1, .f32⟩
  | 75 => ⟨S4x512x1, .f32⟩
  | 76 => ⟨S4x512x1, .f32⟩
  | 77 => ⟨S4x512x1024, .f32⟩
  | 78 => ⟨S4x512x1024, .f32⟩
  | 79 => ⟨S1x1024x4096, .f32⟩
  | 80 => ⟨S1024x4096, .f32⟩
  | 81 => ⟨S4x512x4096, .f32⟩
  | 82 => ⟨S4x512x2048, .f32⟩
  | 83 => ⟨S4x512x2048, .f32⟩
  | 84 => ⟨S_, .i32⟩
  | 85 => ⟨S_, .f32⟩
  | 86 => ⟨S4x515x2048, .f32⟩
  | 87 => ⟨S_, .f32⟩
  | 88 => ⟨S4x512x2048, .f32⟩
  | 89 => ⟨S4x512x2048, .f32⟩
  | 90 => ⟨S1x2048x4, .f32⟩
  | 91 => ⟨S2048x4, .f32⟩
  | 92 => ⟨S2048x1, .f32⟩
  | 93 => ⟨S2048, .f32⟩
  | 94 => ⟨S1x1x2048, .f32⟩
  | 95 => ⟨S4x512x2048, .f32⟩
  | 96 => ⟨S4x512x2048, .f32⟩
  | 97 => ⟨S4x512x2048, .f32⟩
  | 98 => ⟨S4x512x2048, .f32⟩
  | 99 => ⟨S1x2048x4, .f32⟩
  | 100 => ⟨S2048x4, .f32⟩
  | 101 => ⟨S2048x1, .f32⟩
  | 102 => ⟨S2048, .f32⟩
  | 103 => ⟨S1x1x2048, .f32⟩
  | 104 => ⟨S4x512x2048, .f32⟩
  | 105 => ⟨S4x512x2048, .f32⟩
  | 106 => ⟨S4x512x2048, .f32⟩
  | 107 => ⟨S4x512x2048, .f32⟩
  | 108 => ⟨S1x2048x4, .f32⟩
  | 109 => ⟨S2048x4, .f32⟩
  | 110 => ⟨S2048x1, .f32⟩
  | 111 => ⟨S2048, .f32⟩
  | 112 => ⟨S1x1x2048, .f32⟩
  | 113 => ⟨S4x512x2048, .f32⟩
  | 114 => ⟨S4x512x2048, .f32⟩
  | 115 => ⟨S4x512x2048, .f32⟩
  | 116 => ⟨S4x512x2048, .f32⟩
  | 117 => ⟨S1x2048x4, .f32⟩
  | 118 => ⟨S2048x4, .f32⟩
  | 119 => ⟨S2048x1, .f32⟩
  | 120 => ⟨S2048, .f32⟩
  | 121 => ⟨S1x1x2048, .f32⟩
  | 122 => ⟨S4x512x2048, .f32⟩
  | 123 => ⟨S4x512x2048, .f32⟩
  | 124 => ⟨S4x512x2048, .f32⟩
  | 125 => ⟨S4x512x2048, .f32⟩
  | 126 => ⟨S4x512x2048, .f32⟩
  | 127 => ⟨S_, .f32⟩
  | _ => ⟨S4x512x8192, .f32⟩

abbrev hbmTy0_4 (i : Nat) : BufTy := match i % 128 with
  | 0 => ⟨S4x512x2048, .f32⟩
  | 1 => ⟨S4x512x2048, .f32⟩
  | 2 => ⟨S_, .f32⟩
  | 3 => ⟨S4x512x2048, .f32⟩
  | 4 => ⟨S4x512x2048, .f32⟩
  | 5 => ⟨S4x512x2048, .f32⟩
  | 6 => ⟨S4x512x2048, .f32⟩
  | 7 => ⟨S4x512x2048, .f32⟩
  | 8 => ⟨S_, .f32⟩
  | 9 => ⟨S4x512x2048, .f32⟩
  | 10 => ⟨S4x512x2048, .f32⟩
  | 11 => ⟨S_, .f32⟩
  | 12 => ⟨S4x512x2048, .f32⟩
  | 13 => ⟨S4x512x2048, .f32⟩
  | 14 => ⟨S4x512x2048, .f32⟩
  | 15 => ⟨S4x512x2048, .f32⟩
  | 16 => ⟨S1x2048x1024, .f32⟩
  | 17 => ⟨S2048x1024, .f32⟩
  | 18 => ⟨S4x512x1024, .f32⟩
  | 19 => ⟨S4x512x1024, .f32⟩
  | 20 => ⟨S4x512x1024, .f32⟩
  | 21 => ⟨S_, .f32⟩
  | 22 => ⟨S4x512, .f32⟩
  | 23 => ⟨S4x512x1, .f32⟩
  | 24 => ⟨S_, .f32⟩
  | 25 => ⟨S4x512x1, .f32⟩
  | 26 => ⟨S4x512x1, .f32⟩
  | 27 => ⟨S_, .f32⟩
  | 28 => ⟨S4x512x1, .f32⟩
  | 29 => ⟨S4x512x1, .f32⟩
  | 30 => ⟨S4x512x1, .f32⟩
  | 31 => ⟨S4x512x1024, .f32⟩
  | 32 => ⟨S4x512x1024, .f32⟩
  | 33 => ⟨S1x1024x4096, .f32⟩
  | 34 => ⟨S1024x4096, .f32⟩
  | 35 => ⟨S4x512x4096, .f32⟩
  | 36 => ⟨S4x512x4096, .f32⟩
  | 37 => ⟨S4x512x4096, .f32⟩
  | 38 => ⟨S_, .f32⟩
  | 39 => ⟨S4x512x4096, .f32⟩
  | 40 => ⟨S4x512x4096, .f32⟩
  | 41 => ⟨S_, .f32⟩
  | 42 => ⟨S4x512x4096, .f32⟩
  | 43 => ⟨S4x512x4096, .f32⟩
  | 44 => ⟨S4x512x4096, .f32⟩
  | 45 => ⟨S1x4096x1024, .f32⟩
  | 46 => ⟨S4096x1024, .f32⟩
  | 47 => ⟨S4x512x1024, .f32⟩
  | 48 => ⟨S4x512x1024, .f32⟩
  | 49 => ⟨S4x512x1024, .f32⟩
  | 50 => ⟨S1x1x1024, .f32⟩
  | 51 => ⟨S4x512x1024, .f32⟩
  | 52 => ⟨S4x512x1024, .f32⟩
  | 53 => ⟨S4x512x1024, .f32⟩
  | 54 => ⟨S1x1x1024, .f32⟩
  | 55 => ⟨S4x512x1024, .f32⟩
  | 56 => ⟨S4x512x1024, .f32⟩
  | _ => ⟨S4x512x8192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x512x8192, .f32⟩

abbrev bufTy : (tb : Table) → Fin (tcTables nBuf tb) → BufTy
  | .hbm, ⟨i, _⟩ => hbmTy i
  | _, _ => ⟨S4x512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_c : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_c_0 : Ref sig .tc := ⟨.hbm, 46, rfl⟩
abbrev main_call1_v0 : Ref sig .tc := ⟨.hbm, 47, rfl⟩
abbrev main_call1_v1 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_c_1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_c_2 : Ref sig .tc := ⟨.hbm, 62, rfl⟩
abbrev main_c_3 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_v22 : Ref sig .tc := ⟨.hbm, 69, rfl⟩
abbrev main_v23 : Ref sig .tc := ⟨.hbm, 70, rfl⟩
abbrev main_call4_c : Ref sig .tc := ⟨.hbm, 71, rfl⟩
abbrev main_call4_v0 : Ref sig .tc := ⟨.hbm, 72, rfl⟩
abbrev main_call4_v1 : Ref sig .tc := ⟨.hbm, 73, rfl⟩
abbrev main_call4_c_0 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_call4_c_1 : Ref sig .tc := ⟨.hbm, 78, rfl⟩
abbrev main_call4_c_2 : Ref sig .tc := ⟨.hbm, 79, rfl⟩
abbrev main_call4_v5 : Ref sig .tc := ⟨.hbm, 80, rfl⟩
abbrev main_call4_v6 : Ref sig .tc := ⟨.hbm, 81, rfl⟩
abbrev main_call4_v7 : Ref sig .tc := ⟨.hbm, 82, rfl⟩
abbrev main_call4_v8 : Ref sig .tc := ⟨.hbm, 83, rfl⟩
abbrev main_call4_v9 : Ref sig .tc := ⟨.hbm, 84, rfl⟩
abbrev main_call4_v10 : Ref sig .tc := ⟨.hbm, 85, rfl⟩
abbrev main_call4_c_3 : Ref sig .tc := ⟨.hbm, 86, rfl⟩
abbrev main_call4_v11 : Ref sig .tc := ⟨.hbm, 87, rfl⟩
abbrev main_call4_v12 : Ref sig .tc := ⟨.hbm, 88, rfl⟩
abbrev main_call4_v13 : Ref sig .tc := ⟨.hbm, 89, rfl⟩
abbrev main_call4_cst : Ref sig .tc := ⟨.hbm, 90, rfl⟩
abbrev main_call4_v14 : Ref sig .tc := ⟨.hbm, 91, rfl⟩
abbrev main_v24 : Ref sig .tc := ⟨.hbm, 92, rfl⟩
abbrev main_v25 : Ref sig .tc := ⟨.hbm, 93, rfl⟩
abbrev main_call5_c : Ref sig .tc := ⟨.hbm, 94, rfl⟩
abbrev main_call5_v0 : Ref sig .tc := ⟨.hbm, 95, rfl⟩
abbrev main_call5_v1 : Ref sig .tc := ⟨.hbm, 96, rfl⟩
abbrev main_call5_c_0 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_call5_c_1 : Ref sig .tc := ⟨.hbm, 101, rfl⟩
abbrev main_call5_c_2 : Ref sig .tc := ⟨.hbm, 102, rfl⟩
abbrev main_call5_v5 : Ref sig .tc := ⟨.hbm, 103, rfl⟩
abbrev main_call5_v6 : Ref sig .tc := ⟨.hbm, 104, rfl⟩
abbrev main_call5_v7 : Ref sig .tc := ⟨.hbm, 105, rfl⟩
abbrev main_call5_v8 : Ref sig .tc := ⟨.hbm, 106, rfl⟩
abbrev main_call5_v9 : Ref sig .tc := ⟨.hbm, 107, rfl⟩
abbrev main_call5_v10 : Ref sig .tc := ⟨.hbm, 108, rfl⟩
abbrev main_call5_c_3 : Ref sig .tc := ⟨.hbm, 109, rfl⟩
abbrev main_call5_v11 : Ref sig .tc := ⟨.hbm, 110, rfl⟩
abbrev main_call5_v12 : Ref sig .tc := ⟨.hbm, 111, rfl⟩
abbrev main_call5_v13 : Ref sig .tc := ⟨.hbm, 112, rfl⟩
abbrev main_call5_cst : Ref sig .tc := ⟨.hbm, 113, rfl⟩
abbrev main_call5_v14 : Ref sig .tc := ⟨.hbm, 114, rfl⟩
abbrev main_v26 : Ref sig .tc := ⟨.hbm, 115, rfl⟩
abbrev main_v27 : Ref sig .tc := ⟨.hbm, 116, rfl⟩
abbrev main_v28 : Ref sig .tc := ⟨.hbm, 117, rfl⟩
abbrev main_cst : Ref sig .tc := ⟨.hbm, 118, rfl⟩
abbrev main_v29 : Ref sig .tc := ⟨.hbm, 119, rfl⟩
abbrev main_v30 : Ref sig .tc := ⟨.hbm, 120, rfl⟩
abbrev main_cst_4 : Ref sig .tc := ⟨.hbm, 121, rfl⟩
abbrev main_v31 : Ref sig .tc := ⟨.hbm, 122, rfl⟩
abbrev main_v32 : Ref sig .tc := ⟨.hbm, 123, rfl⟩
abbrev main_cst_5 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_v38 : Ref sig .tc := ⟨.hbm, 130, rfl⟩
abbrev main_v39 : Ref sig .tc := ⟨.hbm, 131, rfl⟩
abbrev main_v40 : Ref sig .tc := ⟨.hbm, 132, rfl⟩
abbrev main_v41 : Ref sig .tc := ⟨.hbm, 133, rfl⟩
abbrev main_v42 : Ref sig .tc := ⟨.hbm, 134, rfl⟩
abbrev main_c_6 : Ref sig .tc := ⟨.hbm, 135, rfl⟩
abbrev main_call6_v0 : Ref sig .tc := ⟨.hbm, 136, rfl⟩
abbrev main_v43 : Ref sig .tc := ⟨.hbm, 137, rfl⟩
abbrev main_cst_7 : Ref sig .tc := ⟨.hbm, 138, rfl⟩
abbrev main_v44 : Ref sig .tc := ⟨.hbm, 139, rfl⟩
abbrev main_v45 : Ref sig .tc := ⟨.hbm, 140, rfl⟩
abbrev main_v46 : Ref sig .tc := ⟨.hbm, 141, rfl⟩
abbrev main_v47 : Ref sig .tc := ⟨.hbm, 142, rfl⟩
abbrev main_v48 : Ref sig .tc := ⟨.hbm, 143, rfl⟩
abbrev main_v49 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev main_v53 : Ref sig .tc := ⟨.hbm, 148, rfl⟩
abbrev main_v54 : Ref sig .tc := ⟨.hbm, 149, rfl⟩
abbrev main_v55 : Ref sig .tc := ⟨.hbm, 150, rfl⟩
abbrev main_v56 : Ref sig .tc := ⟨.hbm, 151, rfl⟩
abbrev main_v57 : Ref sig .tc := ⟨.hbm, 152, rfl⟩
abbrev main_v58 : Ref sig .tc := ⟨.hbm, 153, rfl⟩
abbrev main_v59 : Ref sig .tc := ⟨.hbm, 154, rfl⟩
abbrev main_v60 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_v67 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_call7_v0 : Ref sig .tc := ⟨.hbm, 176, rfl⟩
abbrev main_call7_v1 : Ref sig .tc := ⟨.hbm, 177, rfl⟩
abbrev main_call7_cst : Ref sig .tc := ⟨.hbm, 178, rfl⟩
abbrev main_call7_v2 : Ref sig .tc := ⟨.hbm, 179, rfl⟩
abbrev main_call7_v3 : Ref sig .tc := ⟨.hbm, 180, rfl⟩
abbrev main_call7_cst_0 : Ref sig .tc := ⟨.hbm, 181, rfl⟩
abbrev main_call7_v4 : Ref sig .tc := ⟨.hbm, 182, rfl⟩
abbrev main_call7_v5 : Ref sig .tc := ⟨.hbm, 183, rfl⟩
abbrev main_v81 : Ref sig .tc := ⟨.hbm, 184, rfl⟩
abbrev main_call8_v0 : Ref sig .tc := ⟨.hbm, 185, rfl⟩
abbrev main_call8_v1 : Ref sig .tc := ⟨.hbm, 186, rfl⟩
abbrev main_call8_cst : Ref sig .tc := ⟨.hbm, 187, rfl⟩
abbrev main_call8_v2 : Ref sig .tc := ⟨.hbm, 188, rfl⟩
abbrev main_call8_v3 : Ref sig .tc := ⟨.hbm, 189, rfl⟩
abbrev main_call8_cst_0 : Ref sig .tc := ⟨.hbm, 190, rfl⟩
abbrev main_call8_v4 : Ref sig .tc := ⟨.hbm, 191, rfl⟩
abbrev main_call8_v5 : Ref sig .tc := ⟨.hbm, 192, rfl⟩
abbrev main_v82 : Ref sig .tc := ⟨.hbm, 193, rfl⟩
abbrev main_v83 : Ref sig .tc := ⟨.hbm, 194, rfl⟩
abbrev main_v84 : Ref sig .tc := ⟨.hbm, 195, rfl⟩
abbrev main_v85 : Ref sig .tc := ⟨.hbm, 196, rfl⟩
abbrev main_v86 : Ref sig .tc := ⟨.hbm, 197, rfl⟩
abbrev main_v87 : Ref sig .tc := ⟨.hbm, 198, rfl⟩
abbrev main_v88 : Ref sig .tc := ⟨.hbm, 199, rfl⟩
abbrev main_cst_8 : Ref sig .tc := ⟨.hbm, 200, rfl⟩
abbrev main_v89 : Ref sig .tc := ⟨.hbm, 201, rfl⟩
abbrev main_v90 : Ref sig .tc := ⟨.hbm, 202, rfl⟩
abbrev main_cst_9 : Ref sig .tc := ⟨.hbm, 203, rfl⟩
abbrev main_v91 : Ref sig .tc := ⟨.hbm, 204, rfl⟩
abbrev main_v92 : Ref sig .tc := ⟨.hbm, 205, rfl⟩
abbrev main_cst_10 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩
abbrev main_v99 : Ref sig .tc := ⟨.hbm, 213, rfl⟩
abbrev main_v100 : Ref sig .tc := ⟨.hbm, 214, rfl⟩
abbrev main_call9_v0 : Ref sig .tc := ⟨.hbm, 215, rfl⟩
abbrev main_call9_v1 : Ref sig .tc := ⟨.hbm, 216, rfl⟩
abbrev main_call9_cst : Ref sig .tc := ⟨.hbm, 217, rfl⟩
abbrev main_call9_v2 : Ref sig .tc := ⟨.hbm, 218, rfl⟩
abbrev main_call9_v3 : Ref sig .tc := ⟨.hbm, 219, rfl⟩
abbrev main_call9_cst_0 : Ref sig .tc := ⟨.hbm, 220, rfl⟩
abbrev main_call9_v4 : Ref sig .tc := ⟨.hbm, 221, rfl⟩
abbrev main_call9_v5 : Ref sig .tc := ⟨.hbm, 222, rfl⟩
abbrev main_v101 : Ref sig .tc := ⟨.hbm, 223, rfl⟩
abbrev main_v102 : Ref sig .tc := ⟨.hbm, 224, rfl⟩
abbrev main_v103 : Ref sig .tc := ⟨.hbm, 225, rfl⟩
abbrev main_v104 : Ref sig .tc := ⟨.hbm, 226, rfl⟩
abbrev main_v105 : Ref sig .tc := ⟨.hbm, 227, rfl⟩
abbrev main_v106 : Ref sig .tc := ⟨.hbm, 228, rfl⟩
abbrev main_cst_11 : Ref sig .tc := ⟨.hbm, 229, rfl⟩
abbrev main_v107 : Ref sig .tc := ⟨.hbm, 230, rfl⟩
abbrev main_v108 : Ref sig .tc := ⟨.hbm, 231, rfl⟩
abbrev main_cst_12 : Ref sig .tc := ⟨.hbm, 232, rfl⟩
abbrev main_v109 : Ref sig .tc := ⟨.hbm, 233, rfl⟩
abbrev main_v110 : Ref sig .tc := ⟨.hbm, 234, rfl⟩
abbrev main_cst_13 : Ref sig .tc := ⟨.hbm, 235, rfl⟩
abbrev main_v111 : Ref sig .tc := ⟨.hbm, 236, rfl⟩
abbrev main_v112 : Ref sig .tc := ⟨.hbm, 237, rfl⟩
abbrev main_v113 : Ref sig .tc := ⟨.hbm, 238, rfl⟩
abbrev main_v114 : Ref sig .tc := ⟨.hbm, 239, rfl⟩
abbrev main_v115 : Ref sig .tc := ⟨.hbm, 240, rfl⟩
abbrev main_v116 : Ref sig .tc := ⟨.hbm, 241, rfl⟩
abbrev main_v117 : Ref sig .tc := ⟨.hbm, 242, rfl⟩
abbrev main_v118 : Ref sig .tc := ⟨.hbm, 243, rfl⟩
abbrev main_v119 : Ref sig .tc := ⟨.hbm, 244, rfl⟩
abbrev main_v120 : Ref sig .tc := ⟨.hbm, 245, rfl⟩
abbrev main_c_14 : Ref sig .tc := ⟨.hbm, 246, rfl⟩
abbrev main_call10_v0 : Ref sig .tc := ⟨.hbm, 247, rfl⟩
abbrev main_v121 : Ref sig .tc := ⟨.hbm, 248, rfl⟩
abbrev main_cst_15 : Ref sig .tc := ⟨.hbm, 249, rfl⟩
abbrev main_v122 : Ref sig .tc := ⟨.hbm, 250, rfl⟩
abbrev main_v123 : Ref sig .tc := ⟨.hbm, 251, rfl⟩
abbrev main_v124 : Ref sig .tc := ⟨.hbm, 252, rfl⟩
abbrev main_v125 : Ref sig .tc := ⟨.hbm, 253, rfl⟩
abbrev main_v126 : Ref sig .tc := ⟨.hbm, 254, rfl⟩
abbrev main_v127 : Ref sig .tc := ⟨.hbm, 255, rfl⟩
abbrev main_v128 : Ref sig .tc := ⟨.hbm, 256, rfl⟩
abbrev main_v129 : Ref sig .tc := ⟨.hbm, 257, rfl⟩
abbrev main_v130 : Ref sig .tc := ⟨.hbm, 258, rfl⟩
abbrev main_v131 : Ref sig .tc := ⟨.hbm, 259, rfl⟩
abbrev main_v132 : Ref sig .tc := ⟨.hbm, 260, rfl⟩
abbrev main_v133 : Ref sig .tc := ⟨.hbm, 261, rfl⟩
abbrev main_v134 : Ref sig .tc := ⟨.hbm, 262, rfl⟩
abbrev main_v135 : Ref sig .tc := ⟨.hbm, 263, rfl⟩
abbrev main_v136 : Ref sig .tc := ⟨.hbm, 264, rfl⟩
abbrev main_v137 : Ref sig .tc := ⟨.hbm, 265, rfl⟩
abbrev main_v138 : Ref sig .tc := ⟨.hbm, 266, rfl⟩
abbrev main_v139 : Ref sig .tc := ⟨.hbm, 267, rfl⟩
abbrev main_v140 : Ref sig .tc := ⟨.hbm, 268, rfl⟩
abbrev main_v141 : Ref sig .tc := ⟨.hbm, 269, rfl⟩
abbrev main_v142 : Ref sig .tc := ⟨.hbm, 270, rfl⟩
abbrev main_v143 : Ref sig .tc := ⟨.hbm, 271, rfl⟩
abbrev main_v144 : Ref sig .tc := ⟨.hbm, 272, rfl⟩
abbrev main_v145 : Ref sig .tc := ⟨.hbm, 273, rfl⟩
abbrev main_v146 : Ref sig .tc := ⟨.hbm, 274, rfl⟩
abbrev main_v147 : Ref sig .tc := ⟨.hbm, 275, rfl⟩
abbrev main_v148 : Ref sig .tc := ⟨.hbm, 276, rfl⟩
abbrev main_v149 : Ref sig .tc := ⟨.hbm, 277, rfl⟩
abbrev main_v150 : Ref sig .tc := ⟨.hbm, 278, rfl⟩
abbrev main_v151 : Ref sig .tc := ⟨.hbm, 279, rfl⟩
abbrev main_v152 : Ref sig .tc := ⟨.hbm, 280, rfl⟩
abbrev main_v153 : Ref sig .tc := ⟨.hbm, 281, rfl⟩
abbrev main_v154 : Ref sig .tc := ⟨.hbm, 282, rfl⟩
abbrev main_v155 : Ref sig .tc := ⟨.hbm, 283, rfl⟩
abbrev main_v156 : Ref sig .tc := ⟨.hbm, 284, rfl⟩
abbrev main_v157 : Ref sig .tc := ⟨.hbm, 285, rfl⟩
abbrev main_v158 : Ref sig .tc := ⟨.hbm, 286, rfl⟩
abbrev main_call11_v0 : Ref sig .tc := ⟨.hbm, 287, rfl⟩
abbrev main_call11_v1 : Ref sig .tc := ⟨.hbm, 288, rfl⟩
abbrev main_call11_cst : Ref sig .tc := ⟨.hbm, 289, rfl⟩
abbrev main_call11_v2 : Ref sig .tc := ⟨.hbm, 290, rfl⟩
abbrev main_call11_v3 : Ref sig .tc := ⟨.hbm, 291, rfl⟩
abbrev main_call11_cst_0 : Ref sig .tc := ⟨.hbm, 292, rfl⟩
abbrev main_call11_v4 : Ref sig .tc := ⟨.hbm, 293, rfl⟩
abbrev main_call11_v5 : Ref sig .tc := ⟨.hbm, 294, rfl⟩
abbrev main_v159 : Ref sig .tc := ⟨.hbm, 295, rfl⟩
abbrev main_call12_v0 : Ref sig .tc := ⟨.hbm, 296, rfl⟩
abbrev main_call12_v1 : Ref sig .tc := ⟨.hbm, 297, rfl⟩
abbrev main_call12_cst : Ref sig .tc := ⟨.hbm, 298, rfl⟩
abbrev main_call12_v2 : Ref sig .tc := ⟨.hbm, 299, rfl⟩
abbrev main_call12_v3 : Ref sig .tc := ⟨.hbm, 300, rfl⟩
abbrev main_call12_cst_0 : Ref sig .tc := ⟨.hbm, 301, rfl⟩
abbrev main_call12_v4 : Ref sig .tc := ⟨.hbm, 302, rfl⟩
abbrev main_call12_v5 : Ref sig .tc := ⟨.hbm, 303, rfl⟩
abbrev main_v160 : Ref sig .tc := ⟨.hbm, 304, rfl⟩
abbrev main_v161 : Ref sig .tc := ⟨.hbm, 305, rfl⟩
abbrev main_v162 : Ref sig .tc := ⟨.hbm, 306, rfl⟩
abbrev main_v163 : Ref sig .tc := ⟨.hbm, 307, rfl⟩
abbrev main_v164 : Ref sig .tc := ⟨.hbm, 308, rfl⟩
abbrev main_v165 : Ref sig .tc := ⟨.hbm, 309, rfl⟩
abbrev main_v166 : Ref sig .tc := ⟨.hbm, 310, rfl⟩
abbrev main_cst_16 : Ref sig .tc := ⟨.hbm, 311, rfl⟩
abbrev main_v167 : Ref sig .tc := ⟨.hbm, 312, rfl⟩
abbrev main_v168 : Ref sig .tc := ⟨.hbm, 313, rfl⟩
abbrev main_cst_17 : Ref sig .tc := ⟨.hbm, 314, rfl⟩
abbrev main_v169 : Ref sig .tc := ⟨.hbm, 315, rfl⟩
abbrev main_v170 : Ref sig .tc := ⟨.hbm, 316, rfl⟩
abbrev main_cst_18 : Ref sig .tc := ⟨.hbm, 317, rfl⟩
abbrev main_v171 : Ref sig .tc := ⟨.hbm, 318, rfl⟩
abbrev main_v172 : Ref sig .tc := ⟨.hbm, 319, rfl⟩
abbrev main_v173 : Ref sig .tc := ⟨.hbm, 320, rfl⟩
abbrev main_v174 : Ref sig .tc := ⟨.hbm, 321, rfl⟩
abbrev main_v175 : Ref sig .tc := ⟨.hbm, 322, rfl⟩
abbrev main_v176 : Ref sig .tc := ⟨.hbm, 323, rfl⟩
abbrev main_v177 : Ref sig .tc := ⟨.hbm, 324, rfl⟩
abbrev main_v178 : Ref sig .tc := ⟨.hbm, 325, rfl⟩
abbrev main_call13_v0 : Ref sig .tc := ⟨.hbm, 326, rfl⟩
abbrev main_call13_v1 : Ref sig .tc := ⟨.hbm, 327, rfl⟩
abbrev main_call13_cst : Ref sig .tc := ⟨.hbm, 328, rfl⟩
abbrev main_call13_v2 : Ref sig .tc := ⟨.hbm, 329, rfl⟩
abbrev main_call13_v3 : Ref sig .tc := ⟨.hbm, 330, rfl⟩
abbrev main_call13_cst_0 : Ref sig .tc := ⟨.hbm, 331, rfl⟩
abbrev main_call13_v4 : Ref sig .tc := ⟨.hbm, 332, rfl⟩
abbrev main_call13_v5 : Ref sig .tc := ⟨.hbm, 333, rfl⟩
abbrev main_v179 : Ref sig .tc := ⟨.hbm, 334, rfl⟩
abbrev main_v180 : Ref sig .tc := ⟨.hbm, 335, rfl⟩
abbrev main_v181 : Ref sig .tc := ⟨.hbm, 336, rfl⟩
abbrev main_v182 : Ref sig .tc := ⟨.hbm, 337, rfl⟩
abbrev main_v183 : Ref sig .tc := ⟨.hbm, 338, rfl⟩
abbrev main_v184 : Ref sig .tc := ⟨.hbm, 339, rfl⟩
abbrev main_cst_19 : Ref sig .tc := ⟨.hbm, 340, rfl⟩
abbrev main_v185 : Ref sig .tc := ⟨.hbm, 341, rfl⟩
abbrev main_v186 : Ref sig .tc := ⟨.hbm, 342, rfl⟩
abbrev main_cst_20 : Ref sig .tc := ⟨.hbm, 343, rfl⟩
abbrev main_v187 : Ref sig .tc := ⟨.hbm, 344, rfl⟩
abbrev main_v188 : Ref sig .tc := ⟨.hbm, 345, rfl⟩
abbrev main_cst_21 : Ref sig .tc := ⟨.hbm, 346, rfl⟩
abbrev main_v189 : Ref sig .tc := ⟨.hbm, 347, rfl⟩
abbrev main_v190 : Ref sig .tc := ⟨.hbm, 348, rfl⟩
abbrev main_v191 : Ref sig .tc := ⟨.hbm, 349, rfl⟩
abbrev main_v192 : Ref sig .tc := ⟨.hbm, 350, rfl⟩
abbrev main_v193 : Ref sig .tc := ⟨.hbm, 351, rfl⟩
abbrev main_v194 : Ref sig .tc := ⟨.hbm, 352, rfl⟩
abbrev main_v195 : Ref sig .tc := ⟨.hbm, 353, rfl⟩
abbrev main_v196 : Ref sig .tc := ⟨.hbm, 354, rfl⟩
abbrev main_v197 : Ref sig .tc := ⟨.hbm, 355, rfl⟩
abbrev main_v198 : Ref sig .tc := ⟨.hbm, 356, rfl⟩
abbrev main_c_22 : Ref sig .tc := ⟨.hbm, 357, rfl⟩
abbrev main_call14_v0 : Ref sig .tc := ⟨.hbm, 358, rfl⟩
abbrev main_v199 : Ref sig .tc := ⟨.hbm, 359, rfl⟩
abbrev main_cst_23 : Ref sig .tc := ⟨.hbm, 360, rfl⟩
abbrev main_v200 : Ref sig .tc := ⟨.hbm, 361, rfl⟩
abbrev main_v201 : Ref sig .tc := ⟨.hbm, 362, rfl⟩
abbrev main_v202 : Ref sig .tc := ⟨.hbm, 363, rfl⟩
abbrev main_v203 : Ref sig .tc := ⟨.hbm, 364, rfl⟩
abbrev main_v204 : Ref sig .tc := ⟨.hbm, 365, rfl⟩
abbrev main_v205 : Ref sig .tc := ⟨.hbm, 366, rfl⟩
abbrev main_v206 : Ref sig .tc := ⟨.hbm, 367, rfl⟩
abbrev main_v207 : Ref sig .tc := ⟨.hbm, 368, rfl⟩
abbrev main_v208 : Ref sig .tc := ⟨.hbm, 369, rfl⟩
abbrev main_v209 : Ref sig .tc := ⟨.hbm, 370, rfl⟩
abbrev main_v210 : Ref sig .tc := ⟨.hbm, 371, rfl⟩
abbrev main_v211 : Ref sig .tc := ⟨.hbm, 372, rfl⟩
abbrev main_v212 : Ref sig .tc := ⟨.hbm, 373, rfl⟩
abbrev main_v213 : Ref sig .tc := ⟨.hbm, 374, rfl⟩
abbrev main_v214 : Ref sig .tc := ⟨.hbm, 375, rfl⟩
abbrev main_v215 : Ref sig .tc := ⟨.hbm, 376, rfl⟩
abbrev main_v216 : Ref sig .tc := ⟨.hbm, 377, rfl⟩
abbrev main_v217 : Ref sig .tc := ⟨.hbm, 378, rfl⟩
abbrev main_v218 : Ref sig .tc := ⟨.hbm, 379, rfl⟩
abbrev main_v219 : Ref sig .tc := ⟨.hbm, 380, rfl⟩
abbrev main_v220 : Ref sig .tc := ⟨.hbm, 381, rfl⟩
abbrev main_v221 : Ref sig .tc := ⟨.hbm, 382, rfl⟩
abbrev main_v222 : Ref sig .tc := ⟨.hbm, 383, rfl⟩
abbrev main_v223 : Ref sig .tc := ⟨.hbm, 384, rfl⟩
abbrev main_v224 : Ref sig .tc := ⟨.hbm, 385, rfl⟩
abbrev main_v225 : Ref sig .tc := ⟨.hbm, 386, rfl⟩
abbrev main_v226 : Ref sig .tc := ⟨.hbm, 387, rfl⟩
abbrev main_v227 : Ref sig .tc := ⟨.hbm, 388, rfl⟩
abbrev main_v228 : Ref sig .tc := ⟨.hbm, 389, rfl⟩
abbrev main_v229 : Ref sig .tc := ⟨.hbm, 390, rfl⟩
abbrev main_v230 : Ref sig .tc := ⟨.hbm, 391, rfl⟩
abbrev main_v231 : Ref sig .tc := ⟨.hbm, 392, rfl⟩
abbrev main_v232 : Ref sig .tc := ⟨.hbm, 393, rfl⟩
abbrev main_v233 : Ref sig .tc := ⟨.hbm, 394, rfl⟩
abbrev main_v234 : Ref sig .tc := ⟨.hbm, 395, rfl⟩
abbrev main_v235 : Ref sig .tc := ⟨.hbm, 396, rfl⟩
abbrev main_v236 : Ref sig .tc := ⟨.hbm, 397, rfl⟩
abbrev main_call15_v0 : Ref sig .tc := ⟨.hbm, 398, rfl⟩
abbrev main_call15_v1 : Ref sig .tc := ⟨.hbm, 399, rfl⟩
abbrev main_call15_cst : Ref sig .tc := ⟨.hbm, 400, rfl⟩
abbrev main_call15_v2 : Ref sig .tc := ⟨.hbm, 401, rfl⟩
abbrev main_call15_v3 : Ref sig .tc := ⟨.hbm, 402, rfl⟩
abbrev main_call15_cst_0 : Ref sig .tc := ⟨.hbm, 403, rfl⟩
abbrev main_call15_v4 : Ref sig .tc := ⟨.hbm, 404, rfl⟩
abbrev main_call15_v5 : Ref sig .tc := ⟨.hbm, 405, rfl⟩
abbrev main_v237 : Ref sig .tc := ⟨.hbm, 406, rfl⟩
abbrev main_call16_v0 : Ref sig .tc := ⟨.hbm, 407, rfl⟩
abbrev main_call16_v1 : Ref sig .tc := ⟨.hbm, 408, rfl⟩
abbrev main_call16_cst : Ref sig .tc := ⟨.hbm, 409, rfl⟩
abbrev main_call16_v2 : Ref sig .tc := ⟨.hbm, 410, rfl⟩
abbrev main_call16_v3 : Ref sig .tc := ⟨.hbm, 411, rfl⟩
abbrev main_call16_cst_0 : Ref sig .tc := ⟨.hbm, 412, rfl⟩
abbrev main_call16_v4 : Ref sig .tc := ⟨.hbm, 413, rfl⟩
abbrev main_call16_v5 : Ref sig .tc := ⟨.hbm, 414, rfl⟩
abbrev main_v238 : Ref sig .tc := ⟨.hbm, 415, rfl⟩
abbrev main_v239 : Ref sig .tc := ⟨.hbm, 416, rfl⟩
abbrev main_v240 : Ref sig .tc := ⟨.hbm, 417, rfl⟩
abbrev main_v241 : Ref sig .tc := ⟨.hbm, 418, rfl⟩
abbrev main_v242 : Ref sig .tc := ⟨.hbm, 419, rfl⟩
abbrev main_v243 : Ref sig .tc := ⟨.hbm, 420, rfl⟩
abbrev main_v244 : Ref sig .tc := ⟨.hbm, 421, rfl⟩
abbrev main_cst_24 : Ref sig .tc := ⟨.hbm, 422, rfl⟩
abbrev main_v245 : Ref sig .tc := ⟨.hbm, 423, rfl⟩
abbrev main_v246 : Ref sig .tc := ⟨.hbm, 424, rfl⟩
abbrev main_cst_25 : Ref sig .tc := ⟨.hbm, 425, rfl⟩
abbrev main_v247 : Ref sig .tc := ⟨.hbm, 426, rfl⟩
abbrev main_v248 : Ref sig .tc := ⟨.hbm, 427, rfl⟩
abbrev main_cst_26 : Ref sig .tc := ⟨.hbm, 428, rfl⟩
abbrev main_v249 : Ref sig .tc := ⟨.hbm, 429, rfl⟩
abbrev main_v250 : Ref sig .tc := ⟨.hbm, 430, rfl⟩
abbrev main_v251 : Ref sig .tc := ⟨.hbm, 431, rfl⟩
abbrev main_v252 : Ref sig .tc := ⟨.hbm, 432, rfl⟩
abbrev main_v253 : Ref sig .tc := ⟨.hbm, 433, rfl⟩
abbrev main_v254 : Ref sig .tc := ⟨.hbm, 434, rfl⟩
abbrev main_v255 : Ref sig .tc := ⟨.hbm, 435, rfl⟩
abbrev main_v256 : Ref sig .tc := ⟨.hbm, 436, rfl⟩
abbrev main_call17_v0 : Ref sig .tc := ⟨.hbm, 437, rfl⟩
abbrev main_call17_v1 : Ref sig .tc := ⟨.hbm, 438, rfl⟩
abbrev main_call17_cst : Ref sig .tc := ⟨.hbm, 439, rfl⟩
abbrev main_call17_v2 : Ref sig .tc := ⟨.hbm, 440, rfl⟩
abbrev main_call17_v3 : Ref sig .tc := ⟨.hbm, 441, rfl⟩
abbrev main_call17_cst_0 : Ref sig .tc := ⟨.hbm, 442, rfl⟩
abbrev main_call17_v4 : Ref sig .tc := ⟨.hbm, 443, rfl⟩
abbrev main_call17_v5 : Ref sig .tc := ⟨.hbm, 444, rfl⟩
abbrev main_v257 : Ref sig .tc := ⟨.hbm, 445, rfl⟩
abbrev main_v258 : Ref sig .tc := ⟨.hbm, 446, rfl⟩
abbrev main_v259 : Ref sig .tc := ⟨.hbm, 447, rfl⟩
abbrev main_v260 : Ref sig .tc := ⟨.hbm, 448, rfl⟩
abbrev main_v261 : Ref sig .tc := ⟨.hbm, 449, rfl⟩
abbrev main_v262 : Ref sig .tc := ⟨.hbm, 450, rfl⟩
abbrev main_cst_27 : Ref sig .tc := ⟨.hbm, 451, rfl⟩
abbrev main_v263 : Ref sig .tc := ⟨.hbm, 452, rfl⟩
abbrev main_v264 : Ref sig .tc := ⟨.hbm, 453, rfl⟩
abbrev main_cst_28 : Ref sig .tc := ⟨.hbm, 454, rfl⟩
abbrev main_v265 : Ref sig .tc := ⟨.hbm, 455, rfl⟩
abbrev main_v266 : Ref sig .tc := ⟨.hbm, 456, rfl⟩
abbrev main_cst_29 : Ref sig .tc := ⟨.hbm, 457, rfl⟩
abbrev main_v267 : Ref sig .tc := ⟨.hbm, 458, rfl⟩
abbrev main_v268 : Ref sig .tc := ⟨.hbm, 459, rfl⟩
abbrev main_v269 : Ref sig .tc := ⟨.hbm, 460, rfl⟩
abbrev main_v270 : Ref sig .tc := ⟨.hbm, 461, rfl⟩
abbrev main_v271 : Ref sig .tc := ⟨.hbm, 462, rfl⟩
abbrev main_v272 : Ref sig .tc := ⟨.hbm, 463, rfl⟩
abbrev main_v273 : Ref sig .tc := ⟨.hbm, 464, rfl⟩
abbrev main_v274 : Ref sig .tc := ⟨.hbm, 465, rfl⟩
abbrev main_v275 : Ref sig .tc := ⟨.hbm, 466, rfl⟩
abbrev main_v276 : Ref sig .tc := ⟨.hbm, 467, rfl⟩
abbrev main_c_30 : Ref sig .tc := ⟨.hbm, 468, rfl⟩
abbrev main_call18_v0 : Ref sig .tc := ⟨.hbm, 469, rfl⟩
abbrev main_v277 : Ref sig .tc := ⟨.hbm, 470, rfl⟩
abbrev main_cst_31 : Ref sig .tc := ⟨.hbm, 471, rfl⟩
abbrev main_v278 : Ref sig .tc := ⟨.hbm, 472, rfl⟩
abbrev main_v279 : Ref sig .tc := ⟨.hbm, 473, rfl⟩
abbrev main_v280 : Ref sig .tc := ⟨.hbm, 474, rfl⟩
abbrev main_v281 : Ref sig .tc := ⟨.hbm, 475, rfl⟩
abbrev main_v282 : Ref sig .tc := ⟨.hbm, 476, rfl⟩
abbrev main_v283 : Ref sig .tc := ⟨.hbm, 477, rfl⟩
abbrev main_v284 : Ref sig .tc := ⟨.hbm, 478, rfl⟩
abbrev main_v285 : Ref sig .tc := ⟨.hbm, 479, rfl⟩
abbrev main_v286 : Ref sig .tc := ⟨.hbm, 480, rfl⟩
abbrev main_v287 : Ref sig .tc := ⟨.hbm, 481, rfl⟩
abbrev main_v288 : Ref sig .tc := ⟨.hbm, 482, rfl⟩
abbrev main_v289 : Ref sig .tc := ⟨.hbm, 483, rfl⟩
abbrev main_v290 : Ref sig .tc := ⟨.hbm, 484, rfl⟩
abbrev main_v291 : Ref sig .tc := ⟨.hbm, 485, rfl⟩
abbrev main_v292 : Ref sig .tc := ⟨.hbm, 486, rfl⟩
abbrev main_v293 : Ref sig .tc := ⟨.hbm, 487, rfl⟩
abbrev main_v294 : Ref sig .tc := ⟨.hbm, 488, rfl⟩
abbrev main_v295 : Ref sig .tc := ⟨.hbm, 489, rfl⟩
abbrev main_v296 : Ref sig .tc := ⟨.hbm, 490, rfl⟩
abbrev main_v297 : Ref sig .tc := ⟨.hbm, 491, rfl⟩
abbrev main_v298 : Ref sig .tc := ⟨.hbm, 492, rfl⟩
abbrev main_v299 : Ref sig .tc := ⟨.hbm, 493, rfl⟩
abbrev main_v300 : Ref sig .tc := ⟨.hbm, 494, rfl⟩
abbrev main_v301 : Ref sig .tc := ⟨.hbm, 495, rfl⟩
abbrev main_v302 : Ref sig .tc := ⟨.hbm, 496, rfl⟩
abbrev main_v303 : Ref sig .tc := ⟨.hbm, 497, rfl⟩
abbrev main_v304 : Ref sig .tc := ⟨.hbm, 498, rfl⟩
abbrev main_v305 : Ref sig .tc := ⟨.hbm, 499, rfl⟩
abbrev main_v306 : Ref sig .tc := ⟨.hbm, 500, rfl⟩
abbrev main_v307 : Ref sig .tc := ⟨.hbm, 501, rfl⟩
abbrev main_v308 : Ref sig .tc := ⟨.hbm, 502, rfl⟩
abbrev main_v309 : Ref sig .tc := ⟨.hbm, 503, rfl⟩
abbrev main_v310 : Ref sig .tc := ⟨.hbm, 504, rfl⟩
abbrev main_v311 : Ref sig .tc := ⟨.hbm, 505, rfl⟩
abbrev main_v312 : Ref sig .tc := ⟨.hbm, 506, rfl⟩
abbrev main_v313 : Ref sig .tc := ⟨.hbm, 507, rfl⟩
abbrev main_v314 : Ref sig .tc := ⟨.hbm, 508, rfl⟩
abbrev main_call19_v0 : Ref sig .tc := ⟨.hbm, 509, rfl⟩
abbrev main_call19_v1 : Ref sig .tc := ⟨.hbm, 510, rfl⟩
abbrev main_call19_cst : Ref sig .tc := ⟨.hbm, 511, rfl⟩
abbrev main_call19_v2 : Ref sig .tc := ⟨.hbm, 512, rfl⟩
abbrev main_call19_v3 : Ref sig .tc := ⟨.hbm, 513, rfl⟩
abbrev main_call19_cst_0 : Ref sig .tc := ⟨.hbm, 514, rfl⟩
abbrev main_call19_v4 : Ref sig .tc := ⟨.hbm, 515, rfl⟩
abbrev main_call19_v5 : Ref sig .tc := ⟨.hbm, 516, rfl⟩
abbrev main_v315 : Ref sig .tc := ⟨.hbm, 517, rfl⟩
abbrev main_call20_v0 : Ref sig .tc := ⟨.hbm, 518, rfl⟩
abbrev main_call20_v1 : Ref sig .tc := ⟨.hbm, 519, rfl⟩
abbrev main_call20_cst : Ref sig .tc := ⟨.hbm, 520, rfl⟩
abbrev main_call20_v2 : Ref sig .tc := ⟨.hbm, 521, rfl⟩
abbrev main_call20_v3 : Ref sig .tc := ⟨.hbm, 522, rfl⟩
abbrev main_call20_cst_0 : Ref sig .tc := ⟨.hbm, 523, rfl⟩
abbrev main_call20_v4 : Ref sig .tc := ⟨.hbm, 524, rfl⟩
abbrev main_call20_v5 : Ref sig .tc := ⟨.hbm, 525, rfl⟩
abbrev main_v316 : Ref sig .tc := ⟨.hbm, 526, rfl⟩
abbrev main_v317 : Ref sig .tc := ⟨.hbm, 527, rfl⟩
abbrev main_v318 : Ref sig .tc := ⟨.hbm, 528, rfl⟩
abbrev main_v319 : Ref sig .tc := ⟨.hbm, 529, rfl⟩
abbrev main_v320 : Ref sig .tc := ⟨.hbm, 530, rfl⟩
abbrev main_v321 : Ref sig .tc := ⟨.hbm, 531, rfl⟩
abbrev main_v322 : Ref sig .tc := ⟨.hbm, 532, rfl⟩
abbrev main_cst_32 : Ref sig .tc := ⟨.hbm, 533, rfl⟩
abbrev main_v323 : Ref sig .tc := ⟨.hbm, 534, rfl⟩
abbrev main_v324 : Ref sig .tc := ⟨.hbm, 535, rfl⟩
abbrev main_cst_33 : Ref sig .tc := ⟨.hbm, 536, rfl⟩
abbrev main_v325 : Ref sig .tc := ⟨.hbm, 537, rfl⟩
abbrev main_v326 : Ref sig .tc := ⟨.hbm, 538, rfl⟩
abbrev main_cst_34 : Ref sig .tc := ⟨.hbm, 539, rfl⟩
abbrev main_v327 : Ref sig .tc := ⟨.hbm, 540, rfl⟩
abbrev main_v328 : Ref sig .tc := ⟨.hbm, 541, rfl⟩
abbrev main_v329 : Ref sig .tc := ⟨.hbm, 542, rfl⟩
abbrev main_v330 : Ref sig .tc := ⟨.hbm, 543, rfl⟩
abbrev main_v331 : Ref sig .tc := ⟨.hbm, 544, rfl⟩
abbrev main_v332 : Ref sig .tc := ⟨.hbm, 545, rfl⟩
abbrev main_v333 : Ref sig .tc := ⟨.hbm, 546, rfl⟩
abbrev main_v334 : Ref sig .tc := ⟨.hbm, 547, rfl⟩
abbrev main_call21_v0 : Ref sig .tc := ⟨.hbm, 548, rfl⟩
abbrev main_call21_v1 : Ref sig .tc := ⟨.hbm, 549, rfl⟩
abbrev main_call21_cst : Ref sig .tc := ⟨.hbm, 550, rfl⟩
abbrev main_call21_v2 : Ref sig .tc := ⟨.hbm, 551, rfl⟩
abbrev main_call21_v3 : Ref sig .tc := ⟨.hbm, 552, rfl⟩
abbrev main_call21_cst_0 : Ref sig .tc := ⟨.hbm, 553, rfl⟩
abbrev main_call21_v4 : Ref sig .tc := ⟨.hbm, 554, rfl⟩
abbrev main_call21_v5 : Ref sig .tc := ⟨.hbm, 555, rfl⟩
abbrev main_v335 : Ref sig .tc := ⟨.hbm, 556, rfl⟩
abbrev main_v336 : Ref sig .tc := ⟨.hbm, 557, rfl⟩
abbrev main_v337 : Ref sig .tc := ⟨.hbm, 558, rfl⟩
abbrev main_v338 : Ref sig .tc := ⟨.hbm, 559, rfl⟩
abbrev main_v339 : Ref sig .tc := ⟨.hbm, 560, rfl⟩
abbrev main_v340 : Ref sig .tc := ⟨.hbm, 561, rfl⟩
abbrev main_v341 : Ref sig .tc := ⟨.hbm, 562, rfl⟩
abbrev main_v342 : Ref sig .tc := ⟨.hbm, 563, rfl⟩
abbrev main_v343 : Ref sig .tc := ⟨.hbm, 564, rfl⟩
abbrev main_v344 : Ref sig .tc := ⟨.hbm, 565, rfl⟩
abbrev main_v345 : Ref sig .tc := ⟨.hbm, 566, rfl⟩
abbrev main_v346 : Ref sig .tc := ⟨.hbm, 567, rfl⟩
abbrev main_v347 : Ref sig .tc := ⟨.hbm, 568, rfl⟩

abbrev nD : Nat := 1
abbrev τ : Topo := Topo.v7x

variable {F : FTy → Type} [FloatOps F]
-- ==== Proof.KernelIdeal.First.lean ====
/- The region that finds each sequence's first segment start (custom call 1): its result array is the payload of its one
   store applied to the array of segment indices as the region finds it, and every word of that is at most 511. -/
module

public import proofs.«01_k».proof.Proof.Gen.Own.KernelIdeal.K1.Frame
public import proofs.«01_k».proof.Proof.Gen.KernelIdeal.Points
public import Idealize.ShloMosaic.Lib.Pipeline.Value
public import Idealize.ShloMosaic.Lib.SortNet.Extract

@[expose] public section

set_option maxRecDepth 16384

noncomputable section

namespace Cert.KernelIdeal.First

open Cert.KernelIdeal Cert.KernelIdeal.Gen Cert.KernelIdeal.Own
open Idealize.ShloMosaic Idealize.ShloMosaic.TcCoe Idealize.SL Idealize.SL.RA Idealize.SL.Sem

variable {F : FTy → Type} [FloatOps F]
variable {Ix : Type} [DecidableEq Ix] {U : Type} [URA U] {Lvl : Type} [Preorder Lvl]

theorem hz2 : (![0, 0] : Fin 2 → Nat) = fun _ => 0 := funext fun a => by fin_cases a <;> rfl

variable (𝒱₀ : Variants)

/-- What the run leaves in the output's staging buffer is the payload at the input block. -/
theorem out_eq (c : Dev nD) (arg0 : Memref sig .tc .vmem S4x512 .i32) (h0 : arg0.IsWhole)
    (arg1 : Memref sig .tc .vmem S4x1 .i32) (h1 : arg1.IsWhole) (x0 : Vec F S4x512 .i32) :
    K1.out1_A_1 (Ix := Ix) (U := U) (Lvl := Lvl) 𝒱₀ c arg0 h0 arg1 h1 x0 = k1_pay1 (F := F) x0 := by
  unfold K1.out1_A_1
  rw [View.read_writes_junk_eq_canon]
  show View.canon ([⟨Rect.unit ![0, 0] S4x1.size inb_S4x1_S4x1_0_0,
      k1_pay1 (F := F)
        (View.readAt (Elt F) arg0.view (Rect.unit ![0, 0] S4x512.size inb_S4x512_S4x512_0_0).toLoadRect (h0.unread x0))⟩] :
      List (View.Piece (Elt F) S4x1 .i32)) = _
  rw [View.canon_unit_zero hz2, View.readAt_eq_ld, h0.read_unread, View.ld_unit_zero hz2]

variable (V : (c : Dev nD) → (b : Ref sig .tc) → Buf (Elt F) ((c : Thread nD τ).loc b))
variable (D : Dev nD → CellTallies nD τ sig Ix)

theorem idx0 : ∀ t : Fin cfg1.N, win1_0.index t (0 : Fin 2) = 0 ∧ win1_0.index t (1 : Fin 2) = 0 :=
  (by decide +kernel : ∀ t : Fin grid1.N, _)
theorem idx1 : ∀ t : Fin cfg1.N, win1_1.index t (0 : Fin 2) = 0 ∧ win1_1.index t (1 : Fin 2) = 0 :=
  (by decide +kernel : ∀ t : Fin grid1.N, _)

theorem emb0 (t : Fin cfg1.N) (j : S4x512.Idx) : ((cfg1.win 0).blk t).view.emb j = j := by
  obtain ⟨e0, e1⟩ := idx0 t
  funext a; apply Fin.ext
  match a with
  | ⟨0, _⟩ => show win1_0.index t (0 : Fin 2) * 4 + 1 * (j 0).val = (j 0).val; omega
  | ⟨1, _⟩ => show win1_0.index t (1 : Fin 2) * 512 + 1 * (j 1).val = (j 1).val; omega

theorem emb1 (t : Fin cfg1.N) (j : S4x1.Idx) : ((cfg1.win 1).blk t).view.emb j = j := by
  obtain ⟨e0, e1⟩ := idx1 t
  funext a; apply Fin.ext
  match a with
  | ⟨0, _⟩ => show win1_1.index t (0 : Fin 2) * 4 + 1 * (j 0).val = (j 0).val; omega
  | ⟨1, _⟩ => show win1_1.index t (1 : Fin 2) * 1 + 1 * (j 1).val = (j 1).val; omega

/-- The input window's block is its array as the region finds it. -/
theorem iblk0 (c : Dev nD) (t : Fin cfg1.N) : K1.iblk V c 0 t = V c (Pipeline.arrRef spec1 0) := by
  funext j
  show V c (Pipeline.arrRef spec1 0) (((cfg1.win 0).blk t).view.emb j) = V c (Pipeline.arrRef spec1 0) j
  rw [emb0]

theorem flushed_eq (c : Dev nD) (t : Fin cfg1.N) :
    (K1.dat (Ix := Ix) (U := U) (Lvl := Lvl) 𝒱₀ V D c).flushed 1 t
      = ((cfg1.win 1).blk t).view.read (Elt F) (k1_pay1 (F := F) (V c (Pipeline.arrRef spec1 0))) := by
  have h : (K1.dat (Ix := Ix) (U := U) (Lvl := Lvl) 𝒱₀ V D c).after 1 t = k1_pay1 (F := F) (V c (Pipeline.arrRef spec1 0)) := by
    rw [K1.after1_1]; unfold K1.outsAt1; rw [out_eq, iblk0]
  funext j
  show (K1.dat (Ix := Ix) (U := U) (Lvl := Lvl) 𝒱₀ V D c).after 1 t j
    = k1_pay1 (F := F) (V c (Pipeline.arrRef spec1 0)) (((cfg1.win 1).blk t).view.emb j)
  rw [emb1, h]

theorem covered (i : S4x1.Idx) :
    ∃ t : Fin cfg1.N, (cfg1.win 1).flush t = true ∧ i ∈ ((cfg1.win 1).blk t).view.set :=
  ⟨(⟨0, by decide⟩ : Fin cfg1.N), by decide +kernel, by
    have h := ((cfg1.win 1).blk (⟨0, by decide⟩ : Fin cfg1.N)).view.emb_mem_set i; rwa [emb1] at h⟩

/-- The result array after the region: the payload of the array of segment indices. -/
theorem final (c : Dev nD) : (K1.dat (Ix := Ix) (U := U) (Lvl := Lvl) 𝒱₀ V D c).arrAt 1 cfg1.N
    = k1_pay1 (F := F) (V c (Pipeline.arrRef spec1 0)) :=
  (K1.dat (Ix := Ix) (U := U) (Lvl := Lvl) 𝒱₀ V D c).arrAt_eq_of_cover 1 _ (fun t _ => flushed_eq 𝒱₀ V D c t) covered

/-! ## The bound -/

/-- A word whose integer is between zero and 511 is at most 511 as a natural number. -/
theorem toNat_le_of_toInt (w : BitVec 32) (h0 : 0 ≤ w.toInt) (h1 : w.toInt ≤ 511) : w.toNat ≤ 511 := by
  rw [BitVec.toInt_eq_toNat_cond] at h0 h1
  have := w.isLt
  split_ifs at h0 h1 <;> omega

/-- A fold of the signed minimum, in integers, is at least any lower bound of the start and the values. -/
theorem le_fold_minsi {ι : Type} [DecidableEq ι] (s : Finset ι) (g : ι → BitVec 32) (z : BitVec 32) (m : ℤ) (hz : m ≤ z.toInt)
    (hg : ∀ i ∈ s, m ≤ (g i).toInt) : m ≤ (s.fold IntOp.minsi z g).toInt := by
  induction s using Finset.induction_on with
  | empty => simpa using hz
  | insert a s ha ih =>
    rw [Finset.fold_insert ha]
    show m ≤ (IntOp.minsi (g a) (s.fold IntOp.minsi z g)).toInt
    rw [SortNet.toInt_minsi]
    exact le_min (hg a (Finset.mem_insert_self a s)) (ih fun i hi => hg i (Finset.mem_insert_of_mem hi))

/-- So is the integer minimum of an array of nonnegative words along its rows. -/
theorem nonneg_min (src : IVec S4x512 32) (hs : ∀ i, 0 ≤ (src i).toInt) (hacc : (2147483647#32 : BitVec 32) = IKind.minsi.neutral)
    (j : S4.Idx) : 0 ≤ (multiReductionI .minsi [1] S4 src 2147483647#32 reduces_S4x512_S4 hacc j).toInt := by
  rw [multiReductionI_eq_fold]
  exact le_fold_minsi _ _ _ _ (by decide) fun i _ => hs i

/-- Every word of the payload is at most 511. -/
theorem pay_le (x : Vec F S4x512 .i32) (y : S4x1.Idx) : (k1_pay1 (F := F) x y).toNat ≤ 511 := by
  have h511 : (511#32 : BitVec 32).toInt = 511 := by decide
  unfold k1_pay1
  dsimp only
  show (IntOp.minsi (shapeCast S4x1 _ shapeCasts_S4_S4x1 y) 511#32).toNat ≤ 511
  apply toNat_le_of_toInt
  · rw [SortNet.toInt_minsi, h511]
    refine le_min ?_ (by decide)
    unfold shapeCast
    refine nonneg_min _ (fun i => ?_) rfl _
    · rw [show ∀ (c : IVec S4x512 1) (a b : S4x512.Idx → BitVec 32), select c a b i = if c i = 1#1 then a i else b i from fun _ _ _ => rfl, iota_single_apply]
      show 0 ≤ (if _ then BitVec.ofNat 32 (i 1).val else 512#32).toInt
      split_ifs
      · have := (i 1).isLt
        have h5 : (i 1).val < 512 := this
        rw [BitVec.toInt_eq_toNat_cond, BitVec.toNat_ofNat, Nat.mod_eq_of_lt (by omega)]
        split_ifs <;> omega
      · decide
  · rw [SortNet.toInt_minsi, h511]; exact min_le_right _ _

end Cert.KernelIdeal.First

end
-- ==== Proof.KernelIdeal.Mixer0.lean ====
/- The region of the first mixer layer (custom call 2), which shifts each sequence by a start index read at run time and then
   applies the layer. The body loads a window of its padded scratch buffer at the start index rounded down to a multiple of
   eight, so it is in range only when the index is at most 511: everything here is under that bound on the index array as
   the region finds it (`FirstLe`), which the region before it establishes. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Mixer0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A start word at most 511 keeps the window the body loads inside the padded buffer: decided for each of the 512 words. -/
theorem chk_small : ∀ n : Fin 512, k2_chk1 (BitVec.ofNat 32 n.val) := by
  decide +kernel

/-- The same at a word known by its bound. -/
theorem chk_of_le (w : BitVec 32) (h : w.toNat ≤ 511) : k2_chk1 w := by
  have e : w = BitVec.ofNat 32 w.toNat := by simp
  rw [e]; exact chk_small ⟨w.toNat, by omega⟩

-- the buffers' contents when the region is entered
variable (V : (c : Dev nD) → (b : Ref sig .tc) → Buf (Elt F) ((c : Thread nD τ).loc b))

/-- The start words as the region finds them are at most 511. -/
def FirstLe : Prop := ∀ (c : Dev nD) (y : S4x1.Idx), (V c main_v4 y : BitVec 32).toNat ≤ 511

/-- The block of window `w` at point `t`, read off its array as the region finds it. -/
noncomputable def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- So are the words of the start window's block, at every point. -/
theorem iblk_first (hV : FirstLe V) (c : Dev nD) (t : Fin cfg2.N) : ∀ y, (iblk V c 0 t y : BitVec 32).toNat ≤ 511 := fun y => by
  unfold iblk; rw [View.read_apply, cast_eq]; exact hV c _

theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev VO2_5 : View sig .tc .vmem S1x512x1024 .f32 := (Memref.whole cc2_stg5_0 : Memref sig .tc .vmem S1x512x1024 .f32).view
abbrev ms2_0 (t : Fin cfg2.N) : Memref sig .tc .smem S4x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x4096 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x4 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512x1024 .f32 := win2_5.stage (cfg2.slots t 5)
abbrev hs2_5 (t : Fin cfg2.N) : (ms2_5 t).IsWhole := hstage2_5 ((cfg2.slots t 5).cast nbuf2_5)
abbrev scM2_0 : Memref sig .tc .vmem S1024x1024 .f32 := Memref.whole cc2_scratch0
abbrev scM2_1 : Memref sig .tc .vmem S520x2048 .f32 := Memref.whole cc2_scratch1

/-- The two scratch buffers taken out of the scoped rest. -/
theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ Pipeline.scopedRestBut spec2 c [cc2_scratch0, cc2_scratch1]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest2_split, assoc]

/-- The region's invariant with the scratch buffers as memrefs held at some contents. -/
theorem PhiA2_eq (c : Dev nD) :
    (Pipeline.ΦA spec2 c : sProp 𝕄)
      = iprop(iprop((∃ d, owns (c : Thread nD τ) scM2_0 fullShare d) ∗ (∃ d, owns (c : Thread nD τ) scM2_1 fullShare d) ∗ Pipeline.scopedRestBut spec2 c [cc2_scratch0, cc2_scratch1]) ∗ (∃ r, prngReg c r)) := by
  unfold Pipeline.ΦA; rw [scopedRest2_flat]; simp only [scM2_0, scM2_1, owns_whole]; try rfl

set_option maxHeartbeats 1000000 in
/-- The body of the first mixer layer run on whole staging buffers, under the bound `hx0` on the start words: the pieces its
    stores leave in the output block and in the two scratch buffers, with the triple they satisfy. The bound discharges the one
    side condition the body asks for, that the padded window it loads lies inside the scratch buffer. -/
noncomputable def kernelRun2_A (c : Dev nD) (i : grid2.Coords) (arg1 : Memref sig .tc .smem S4x1 .i32) (harg1 : arg1.IsWhole) (arg2 : Memref sig .tc .vmem S1x512x1024 .f32) (harg2 : arg2.IsWhole) (arg3 : Memref sig .tc .vmem S1024x4096 .f32) (harg3 : arg3.IsWhole) (arg4 : Memref sig .tc .vmem S2048x4 .f32) (harg4 : arg4.IsWhole) (arg5 : Memref sig .tc .vmem S2048x1024 .f32) (harg5 : arg5.IsWhole) (arg6 : Memref sig .tc .vmem S1x512x1024 .f32) (harg6 : arg6.IsWhole) (arg7 : Memref sig .tc .vmem S1024x1024 .f32) (harg7 : arg7.IsWhole) (arg8 : Memref sig .tc .vmem S520x2048 .f32) (harg8 : arg8.IsWhole)
    (x0 : Vec F S4x1 .i32) (x1 : Vec F S1x512x1024 .f32) (x2 : Vec F S1024x4096 .f32) (x3 : Vec F S2048x4 .f32) (x4 : Vec F S2048x1024 .f32) (hx0 : ∀ y, (x0 y).toNat ≤ 511) :
    Σ' (L5 : List (View.Piece (Elt F) S1x512x1024 .f32)), Σ' (LT0 : List (View.Piece (Elt F) S1024x1024 .f32)), { LT1 : List (View.Piece (Elt F) S520x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LT0) ∗ (∃ f, arg8.view.loc (c : Thread nD τ) ↦[arg8.view.set]{fullShare} arg8.view.writes (Elt F) f LT1)) -∗ K ⟨⟩))
          ⊢ wp frame (wpE (defs₀ (F := F)) Variants.none c none) E (cc2__mixer0_body i arg1 harg1 arg2 harg2 arg3 harg3 arg4 harg4 arg5 harg5 arg6 harg6 arg7 harg7 arg8 harg8) K } := by
  refine ⟨?_, ?_, ?_, fun E K => ?run⟩
  case run =>
    simp only [cc2__mixer0_body_eq_skeleton]; unfold cc2__mixer0_body_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := (apply chk_of_le; delta kernelRun2_A.sl.r; simp only [View.readAt_apply, Memref.IsWhole.read_unread]; exact hx0 _))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    iexists _; iexact HS1

/-- The pieces stored into the output block cover it. -/
theorem cover2_A_5 (c : Dev nD) (i : grid2.Coords) (arg1 : Memref sig .tc .smem S4x1 .i32) (harg1 : arg1.IsWhole) (arg2 : Memref sig .tc .vmem S1x512x1024 .f32) (harg2 : arg2.IsWhole) (arg3 : Memref sig .tc .vmem S1024x4096 .f32) (harg3 : arg3.IsWhole) (arg4 : Memref sig .tc .vmem S2048x4 .f32) (harg4 : arg4.IsWhole) (arg5 : Memref sig .tc .vmem S2048x1024 .f32) (harg5 : arg5.IsWhole) (arg6 : Memref sig .tc .vmem S1x512x1024 .f32) (harg6 : arg6.IsWhole) (arg7 : Memref sig .tc .vmem S1024x1024 .f32) (harg7 : arg7.IsWhole) (arg8 : Memref sig .tc .vmem S520x2048 .f32) (harg8 : arg8.IsWhole)
    (x0 : Vec F S4x1 .i32) (x1 : Vec F S1x512x1024 .f32) (x2 : Vec F S1024x4096 .f32) (x3 : Vec F S2048x4 .f32) (x4 : Vec F S2048x1024 .f32) (hx0 : ∀ y, (x0 y).toNat ≤ 511) (y : S1x512x1024.Idx) :
    ∃ pc ∈ (kernelRun2_A c i arg1 harg1 arg2 harg2 arg3 harg3 arg4 harg4 arg5 harg5 arg6 harg6 arg7 harg7 arg8 harg8 x0 x1 x2 x3 x4 hx0).1, y ∈ pc.1.set :=
  View.cover_of_tiledL (kernelRun2_A c i arg1 harg1 arg2 harg2 arg3 harg3 arg4 harg4 arg5 harg5 arg6 harg6 arg7 harg7 arg8 harg8 x0 x1 x2 x3 x4 hx0).1 S1x512x1024.size (by sl_kernel_rfl) y

/-- What the run leaves in the output block. -/
def out2_A_5 (c : Dev nD) (i : grid2.Coords) (arg1 : Memref sig .tc .smem S4x1 .i32) (harg1 : arg1.IsWhole) (arg2 : Memref sig .tc .vmem S1x512x1024 .f32) (harg2 : arg2.IsWhole) (arg3 : Memref sig .tc .vmem S1024x4096 .f32) (harg3 : arg3.IsWhole) (arg4 : Memref sig .tc .vmem S2048x4 .f32) (harg4 : arg4.IsWhole) (arg5 : Memref sig .tc .vmem S2048x1024 .f32) (harg5 : arg5.IsWhole) (arg6 : Memref sig .tc .vmem S1x512x1024 .f32) (harg6 : arg6.IsWhole) (arg7 : Memref sig .tc .vmem S1024x1024 .f32) (harg7 : arg7.IsWhole) (arg8 : Memref sig .tc .vmem S520x2048 .f32) (harg8 : arg8.IsWhole)
    (x0 : Vec F S4x1 .i32) (x1 : Vec F S1x512x1024 .f32) (x2 : Vec F S1024x4096 .f32) (x3 : Vec F S2048x4 .f32) (x4 : Vec F S2048x1024 .f32) (hx0 : ∀ y, (x0 y).toNat ≤ 511) : Vec F S1x512x1024 .f32 :=
  VO2_5.read (Elt F) (VO2_5.writes (Elt F) VO2_5.junk (kernelRun2_A c i arg1 harg1 arg2 harg2 arg3 harg3 arg4 harg4 arg5 harg5 arg6 harg6 arg7 harg7 arg8 harg8 x0 x1 x2 x3 x4 hx0).1)

/-- The output block after point `t`. -/
def outsAt2 (hV : FirstLe V) (c : Dev nD) (t : Fin cfg2.N) : Vec F S1x512x1024 .f32 :=
  out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (iblk V c 0 t) (iblk V c 1 t) (iblk V c 2 t) (iblk V c 3 t) (iblk V c 4 t) (iblk_first V hV c t)

/-- The proof data of the region: inputs keep their blocks, the output block is the run's, nothing is owed. -/
def dat2 (hV : FirstLe V) (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt2 V hV c t)
  Φ _ := Pipeline.ΦA spec2 c
  q _ := fullShare
  owed _ := 0

theorem A_eq2 (hV : FirstLe V) (c : Dev nD) (w : Fin cfg2.W) : (dat2 V hV c).A w = V c (Pipeline.arrRef spec2 w) := by
  dsimp only [dat2]

theorem after2_0 (hV : FirstLe V) (c : Dev nD) (t : Fin cfg2.N) : (dat2 V hV c).after 0 t = iblk V c 0 t := by dsimp only [dat2]
theorem after2_1 (hV : FirstLe V) (c : Dev nD) (t : Fin cfg2.N) : (dat2 V hV c).after 1 t = iblk V c 1 t := by dsimp only [dat2]
theorem after2_2 (hV : FirstLe V) (c : Dev nD) (t : Fin cfg2.N) : (dat2 V hV c).after 2 t = iblk V c 2 t := by dsimp only [dat2]
theorem after2_3 (hV : FirstLe V) (c : Dev nD) (t : Fin cfg2.N) : (dat2 V hV c).after 3 t = iblk V c 3 t := by dsimp only [dat2]
theorem after2_4 (hV : FirstLe V) (c : Dev nD) (t : Fin cfg2.N) : (dat2 V hV c).after 4 t = iblk V c 4 t := by dsimp only [dat2]
theorem after2_5 (hV : FirstLe V) (c : Dev nD) (t : Fin cfg2.N) : (dat2 V hV c).after 5 t = (outsAt2 V hV c t) := by dsimp only [dat2]

theorem before2_0 (hV : FirstLe V) (c : Dev nD) (t : Fin cfg2.N) (d) : (dat2 V hV c).before 0 t d = iblk V c 0 t :=
  before2_0_of V (dat2 V hV c) (A_eq2 V hV c 0) (after2_0 V hV c) t d
theorem before2_1 (hV : FirstLe V) (c : Dev nD) (t : Fin cfg2.N) (d) : (dat2 V hV c).before 1 t d = iblk V c 1 t :=
  before2_1_of V (dat2 V hV c) (A_eq2 V hV c 1) (after2_1 V hV c) t d
theorem before2_2 (hV : FirstLe V) (c : Dev nD) (t : Fin cfg2.N) (d) : (dat2 V hV c).before 2 t d = iblk V c 2 t :=
  before2_2_of V (dat2 V hV c) (A_eq2 V hV c 2) (after2_2 V hV c) t d
theorem before2_3 (hV : FirstLe V) (c : Dev nD) (t : Fin cfg2.N) (d) : (dat2 V hV c).before 3 t d = iblk V c 3 t :=
  before2_3_of V (dat2 V hV c) (A_eq2 V hV c 3) (after2_3 V hV c) t d
theorem before2_4 (hV : FirstLe V) (c : Dev nD) (t : Fin cfg2.N) (d) : (dat2 V hV c).before 4 t d = iblk V c 4 t :=
  before2_4_of V (dat2 V hV c) (A_eq2 V hV c 4) (after2_4 V hV c) t d

/-- What the body is called with at point `t`. -/
def bodyPre2 (hV : FirstLe V) (c : Dev nD) (t : Fin cfg2.N) : sProp 𝕄 :=
  iprop((dat2 V hV c).Φ t.castSucc ∗ (dat2 V hV c).owesAt () t.castSucc
    ∗ (∃ d, owns (c : Thread nD τ) (ms2_0 t) fullShare ((dat2 V hV c).before 0 t d))
    ∗ (∃ d, owns (c : Thread nD τ) (ms2_1 t) fullShare ((dat2 V hV c).before 1 t d))
    ∗ (∃ d, owns (c : Thread nD τ) (ms2_2 t) fullShare ((dat2 V hV c).before 2 t d))
    ∗ (∃ d, owns (c : Thread nD τ) (ms2_3 t) fullShare ((dat2 V hV c).before 3 t d))
    ∗ (∃ d, owns (c : Thread nD τ) (ms2_4 t) fullShare ((dat2 V hV c).before 4 t d))
    ∗ (∃ d, owns (c : Thread nD τ) (ms2_5 t) fullShare ((dat2 V hV c).before 5 t d)))

/-- What the body returns at point `t`. -/
def bodyPost2 (hV : FirstLe V) (c : Dev nD) (t : Fin cfg2.N) : sProp 𝕄 :=
  iprop((dat2 V hV c).Φ t.succ ∗ (dat2 V hV c).owesAt () t.succ
    ∗ owns (c : Thread nD τ) (ms2_0 t) fullShare ((dat2 V hV c).after 0 t)
    ∗ owns (c : Thread nD τ) (ms2_1 t) fullShare ((dat2 V hV c).after 1 t)
    ∗ owns (c : Thread nD τ) (ms2_2 t) fullShare ((dat2 V hV c).after 2 t)
    ∗ owns (c : Thread nD τ) (ms2_3 t) fullShare ((dat2 V hV c).after 3 t)
    ∗ owns (c : Thread nD τ) (ms2_4 t) fullShare ((dat2 V hV c).after 4 t)
    ∗ owns (c : Thread nD τ) (ms2_5 t) fullShare ((dat2 V hV c).after 5 t))

set_option maxHeartbeats 800000 in
/-- The body's triple at any point. -/
theorem sound_body2 (hV : FirstLe V) (c : Dev nD) (t : Fin cfg2.N) :
    bodyPre2 V hV c t ⊢ wp frame (wpE (defs₀ (F := F)) Variants.none c none) Set.univ (bodyAt2 t) (fun _ => bodyPost2 V hV c t) := by
  unfold bodyPre2 bodyPost2 bodyAt2
  simp only [before2_0, before2_1, before2_2, before2_3, before2_4]
  rw [show (dat2 V hV c).Φ t.succ = (dat2 V hV c).Φ t.castSucc from rfl,
    show (dat2 V hV c).owesAt () t.succ = (dat2 V hV c).owesAt () t.castSucc from rfl,
    after2_0, after2_1, after2_2, after2_3, after2_4, after2_5]
  rw [show (dat2 V hV c).Φ t.castSucc = Pipeline.ΦA spec2 c from rfl, PhiA2_eq]
  unfold outsAt2
  unfold out2_A_5
  iintro ⟨⟨⟨HS0, HS1, HR2⟩, Hg⟩, Ho, ⟨%d0, H0⟩, ⟨%d1, H1⟩, ⟨%d2, H2⟩, ⟨%d3, H3⟩, ⟨%d4, H4⟩, ⟨%d5, H5⟩⟩
  iapply ((kernelRun2_A c (grid2.coords t) _ _ _ _ _ _ _ _ _ _ _ _ _ _ _ _ (iblk V c 0 t) (iblk V c 1 t) (iblk V c 2 t) (iblk V c 3 t) (iblk V c 4 t) (iblk_first V hV c t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, H5⟩, ⟨%fT0, HS0⟩, ⟨%fT1, HS1⟩⟩
  isplitl [HS0 HS1 HR2 Hg]
  · isplitl [HS0 HS1 HR2]
    · isplitl [HS0]
      · iexists _; unfold owns; iexists _; isplitr
        swap; · iexact HS0
        ipureintro; rfl
      isplitl [HS1]
      · iexists _; unfold owns; iexists _; isplitr
        swap; · iexact HS1
        ipureintro; rfl
      iexact HR2
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover2_A_5 c _ _ _ _ _ _ _ _ _ _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

/-- The library's obligation on the body, at every point. -/
theorem body_obligation2 (hV : FirstLe V) (c : Dev nD) : BodyObligation (dat2 (F := F) V hV c) (defs₀ (F := F)) Variants.none () Set.univ := fun t => by
  rw [bigSep_W2, bigSep_W2, defs₀_row2]
  exact triple_restated (sound_body2 V hV c t) rfl .rfl fun _ => .rfl

end Cert.KernelIdeal.Mixer0

end
-- ==== Proof.KernelIdeal.Chain.lean ====
/- The launch's contents, item by item: each host stretch applied to what is before it, each region changing its result arrays
   alone, to what its proof data leave there. The region of the first mixer layer has its proof data under a bound on the start
   words, which is shown here on the way. -/
module

public import proofs.«01_k».proof.Proof.Gen.KernelIdeal.Regions
public import proofs.«01_k».proof.Proof.Gen.Own.KernelIdeal.K0.Frame
public import proofs.«01_k».proof.Proof.Gen.Own.KernelIdeal.K1.Frame
public import proofs.«01_k».proof.Proof.Gen.Own.KernelIdeal.K3.Frame
public import proofs.«01_k».proof.Proof.Gen.Own.KernelIdeal.K4.Frame
public import proofs.«01_k».proof.Proof.Gen.Own.KernelIdeal.K5.Frame
public import proofs.«01_k».proof.Proof.Gen.Own.KernelIdeal.K6.Frame
public import proofs.«01_k».proof.Proof.Gen.Own.KernelIdeal.K7.Frame
public import proofs.«01_k».proof.Proof.Gen.Own.KernelIdeal.K8.Frame
public import proofs.«01_k».proof.Proof.Gen.Own.KernelIdeal.K9.Frame
public import proofs.«01_k».proof.Proof.Gen.Own.KernelIdeal.K10.Frame
public import Idealize.ShloMosaic.Lib.Pipeline.RegionArrays
public import proofs.«01_k».proof.Proof.KernelIdeal.First
public import proofs.«01_k».proof.Proof.KernelIdeal.Mixer0

@[expose] public section

set_option maxRecDepth 16384

noncomputable section

namespace Cert.KernelIdeal.Chain

open Cert.KernelIdeal Cert.KernelIdeal.Gen Cert.KernelIdeal.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- Two updates at one place: the later value read back is itself. -/
theorem upd_self {α : Type} [DecidableEq α] {β : α → Type} (f : (a : α) → β a) (a : α) (x : β a) :
    Function.update f a (Function.update f a x a) = Function.update f a x := by rw [Function.update_self]

/-- The contents after the first host stretch. -/
def W1 (c : Dev nD) : Valuation τ sig (Elt F) := StableHlo.after hostOps0 (V0 m c)
/-- The same at the TensorCore's references. -/
abbrev at1 (c : Dev nD) (b : Ref sig .tc) : Buf (Elt F) ((c : Thread nD τ).loc b) := W1 m c (Proc.devRef .tc b)
/-- What region 0 leaves in its result array, and the contents after it. -/
def out0 (c : Dev nD) : Buf (Elt F) ((c : Thread nD τ).loc main_v3) := (K0.dat (Ix := Unit) (U := UR sig nD τ) (Lvl := ℕ) Variants.none (at1 m) 0 c).arrAt 3 cfg0.N
def W2 (c : Dev nD) : Valuation τ sig (Elt F) := Function.update (W1 m c) main_v3 (out0 m c)
abbrev at2 (c : Dev nD) (b : Ref sig .tc) : Buf (Elt F) ((c : Thread nD τ).loc b) := W2 m c (Proc.devRef .tc b)
/-- What region 1 leaves in its result array, and the contents after it. -/
def out1 (c : Dev nD) : Buf (Elt F) ((c : Thread nD τ).loc main_v4) := (K1.dat (Ix := Unit) (U := UR sig nD τ) (Lvl := ℕ) Variants.none (at2 m) 0 c).arrAt 1 cfg1.N
def W3 (c : Dev nD) : Valuation τ sig (Elt F) := Function.update (W2 m c) main_v4 (out1 m c)
abbrev at3 (c : Dev nD) (b : Ref sig .tc) : Buf (Elt F) ((c : Thread nD τ).loc b) := W3 m c (Proc.devRef .tc b)
def W4 (c : Dev nD) : Valuation τ sig (Elt F) := StableHlo.after hostOps2 (W3 m c)
abbrev at4 (c : Dev nD) (b : Ref sig .tc) : Buf (Elt F) ((c : Thread nD τ).loc b) := W4 m c (Proc.devRef .tc b)
/-- The start words when the first mixer layer's region is entered are at most 511. -/
theorem first_le : Mixer0.FirstLe (at4 m) := fun c y => by
  have h : at4 m c main_v4 = out1 m c := by
    show StableHlo.after hostOps2 (W3 m c) (Proc.devRef .tc main_v4) = _
    rw [StableHlo.after_of_writes_sub hostOps2 _ hostOps2_writes (r := main_v4) (by decide)]
    unfold W3; rw [Function.update_self]
  rw [h]; unfold out1; rw [First.final]
  exact First.pay_le _ y
/-- What region 2 leaves in its result array, and the contents after it. -/
def out2 (c : Dev nD) : Buf (Elt F) ((c : Thread nD τ).loc main_v12) := (Mixer0.dat2 (at4 m) (first_le m) c).arrAt 5 cfg2.N
def W5 (c : Dev nD) : Valuation τ sig (Elt F) := Function.update (W4 m c) main_v12 (out2 m c)
abbrev at5 (c : Dev nD) (b : Ref sig .tc) : Buf (Elt F) ((c : Thread nD τ).loc b) := W5 m c (Proc.devRef .tc b)
def W6 (c : Dev nD) : Valuation τ sig (Elt F) := StableHlo.after hostOps3 (W5 m c)
abbrev at6 (c : Dev nD) (b : Ref sig .tc) : Buf (Elt F) ((c : Thread nD τ).loc b) := W6 m c (Proc.devRef .tc b)
/-- What region 3 leaves in its result array, and the contents after it. -/
def out3 (c : Dev nD) : Buf (Elt F) ((c : Thread nD τ).loc main_v18) := (K3.dat (Ix := Unit) (U := UR sig nD τ) (Lvl := ℕ) Variants.none (at6 m) 0 c).arrAt 3 cfg3.N
def W7 (c : Dev nD) : Valuation τ sig (Elt F) := Function.update (W6 m c) main_v18 (out3 m c)
abbrev at7 (c : Dev nD) (b : Ref sig .tc) : Buf (Elt F) ((c : Thread nD τ).loc b) := W7 m c (Proc.devRef .tc b)
def W8 (c : Dev nD) : Valuation τ sig (Elt F) := StableHlo.after hostOps4 (W7 m c)
abbrev at8 (c : Dev nD) (b : Ref sig .tc) : Buf (Elt F) ((c : Thread nD τ).loc b) := W8 m c (Proc.devRef .tc b)
/-- What region 4 leaves in its result array, and the contents after it. -/
def out4 (c : Dev nD) : Buf (Elt F) ((c : Thread nD τ).loc main_v26) := (K4.dat (Ix := Unit) (U := UR sig nD τ) (Lvl := ℕ) Variants.none (at8 m) 0 c).arrAt 4 cfg4.N
def W9 (c : Dev nD) : Valuation τ sig (Elt F) := Function.update (W8 m c) main_v26 (out4 m c)
abbrev at9 (c : Dev nD) (b : Ref sig .tc) : Buf (Elt F) ((c : Thread nD τ).loc b) := W9 m c (Proc.devRef .tc b)
def W10 (c : Dev nD) : Valuation τ sig (Elt F) := StableHlo.after hostOps5 (W9 m c)
abbrev at10 (c : Dev nD) (b : Ref sig .tc) : Buf (Elt F) ((c : Thread nD τ).loc b) := W10 m c (Proc.devRef .tc b)
/-- What region 5 leaves in its result array, and the contents after it. -/
def out5 (c : Dev nD) : Buf (Elt F) ((c : Thread nD τ).loc main_v32) := (K5.dat (Ix := Unit) (U := UR sig nD τ) (Lvl := ℕ) Variants.none (at10 m) 0 c).arrAt 3 cfg5.N
def W11 (c : Dev nD) : Valuation τ sig (Elt F) := Function.update (W10 m c) main_v32 (out5 m c)
abbrev at11 (c : Dev nD) (b : Ref sig .tc) : Buf (Elt F) ((c : Thread nD τ).loc b) := W11 m c (Proc.devRef .tc b)
def W12 (c : Dev nD) : Valuation τ sig (Elt F) := StableHlo.after hostOps6 (W11 m c)
abbrev at12 (c : Dev nD) (b : Ref sig .tc) : Buf (Elt F) ((c : Thread nD τ).loc b) := W12 m c (Proc.devRef .tc b)
/-- What region 6 leaves in its result array, and the contents after it. -/
def out6 (c : Dev nD) : Buf (Elt F) ((c : Thread nD τ).loc main_v40) := (K6.dat (Ix := Unit) (U := UR sig nD τ) (Lvl := ℕ) Variants.none (at12 m) 0 c).arrAt 4 cfg6.N
def W13 (c : Dev nD) : Valuation τ sig (Elt F) := Function.update (W12 m c) main_v40 (out6 m c)
abbrev at13 (c : Dev nD) (b : Ref sig .tc) : Buf (Elt F) ((c : Thread nD τ).loc b) := W13 m c (Proc.devRef .tc b)
def W14 (c : Dev nD) : Valuation τ sig (Elt F) := StableHlo.after hostOps7 (W13 m c)
abbrev at14 (c : Dev nD) (b : Ref sig .tc) : Buf (Elt F) ((c : Thread nD τ).loc b) := W14 m c (Proc.devRef .tc b)
/-- What region 7 leaves in its result array, and the contents after it. -/
def out7 (c : Dev nD) : Buf (Elt F) ((c : Thread nD τ).loc main_v46) := (K7.dat (Ix := Unit) (U := UR sig nD τ) (Lvl := ℕ) Variants.none (at14 m) 0 c).arrAt 3 cfg7.N
def W15 (c : Dev nD) : Valuation τ sig (Elt F) := Function.update (W14 m c) main_v46 (out7 m c)
abbrev at15 (c : Dev nD) (b : Ref sig .tc) : Buf (Elt F) ((c : Thread nD τ).loc b) := W15 m c (Proc.devRef .tc b)
def W16 (c : Dev nD) : Valuation τ sig (Elt F) := StableHlo.after hostOps8 (W15 m c)
abbrev at16 (c : Dev nD) (b : Ref sig .tc) : Buf (Elt F) ((c : Thread nD τ).loc b) := W16 m c (Proc.devRef .tc b)
/-- What region 8 leaves in its result array, and the contents after it. -/
def out8 (c : Dev nD) : Buf (Elt F) ((c : Thread nD τ).loc main_v54) := (K8.dat (Ix := Unit) (U := UR sig nD τ) (Lvl := ℕ) Variants.none (at16 m) 0 c).arrAt 4 cfg8.N
def W17 (c : Dev nD) : Valuation τ sig (Elt F) := Function.update (W16 m c) main_v54 (out8 m c)
abbrev at17 (c : Dev nD) (b : Ref sig .tc) : Buf (Elt F) ((c : Thread nD τ).loc b) := W17 m c (Proc.devRef .tc b)
def W18 (c : Dev nD) : Valuation τ sig (Elt F) := StableHlo.after hostOps9 (W17 m c)
abbrev at18 (c : Dev nD) (b : Ref sig .tc) : Buf (Elt F) ((c : Thread nD τ).loc b) := W18 m c (Proc.devRef .tc b)
/-- What region 9 leaves in its result array, and the contents after it. -/
def out9 (c : Dev nD) : Buf (Elt F) ((c : Thread nD τ).loc main_v60) := (K9.dat (Ix := Unit) (U := UR sig nD τ) (Lvl := ℕ) Variants.none (at18 m) 0 c).arrAt 3 cfg9.N
def W19 (c : Dev nD) : Valuation τ sig (Elt F) := Function.update (W18 m c) main_v60 (out9 m c)
abbrev at19 (c : Dev nD) (b : Ref sig .tc) : Buf (Elt F) ((c : Thread nD τ).loc b) := W19 m c (Proc.devRef .tc b)
def W20 (c : Dev nD) : Valuation τ sig (Elt F) := StableHlo.after hostOps10 (W19 m c)
abbrev at20 (c : Dev nD) (b : Ref sig .tc) : Buf (Elt F) ((c : Thread nD τ).loc b) := W20 m c (Proc.devRef .tc b)
/-- What the last region leaves in its result arrays. -/
def out10_0 (c : Dev nD) : Buf (Elt F) ((c : Thread nD τ).loc main_v65_0) := (K10.dat (Ix := Unit) (U := UR sig nD τ) (Lvl := ℕ) Variants.none (at20 m) 0 c).arrAt 5 cfg10.N
def out10_1 (c : Dev nD) : Buf (Elt F) ((c : Thread nD τ).loc main_v65_1) := (K10.dat (Ix := Unit) (U := UR sig nD τ) (Lvl := ℕ) Variants.none (at20 m) 0 c).arrAt 6 cfg10.N
def W21 (c : Dev nD) : Valuation τ sig (Elt F) := Function.update (Function.update (W20 m c) main_v65_0 (out10_0 m c)) main_v65_1 (out10_1 m c)
abbrev at21 (c : Dev nD) (b : Ref sig .tc) : Buf (Elt F) ((c : Thread nD τ).loc b) := W21 m c (Proc.devRef .tc b)
def W22 (c : Dev nD) : Valuation τ sig (Elt F) := StableHlo.after hostOps11 (W21 m c)
abbrev at22 (c : Dev nD) (b : Ref sig .tc) : Buf (Elt F) ((c : Thread nD τ).loc b) := W22 m c (Proc.devRef .tc b)

/-- The contents of the regions' result arrays, as the launch's valuations ask for them. -/
def outs : Outs (F := F) := fun i r c => match i with
  | 2 => W2 m c (Proc.devRef .tc r)
  | 3 => W3 m c (Proc.devRef .tc r)
  | 5 => W5 m c (Proc.devRef .tc r)
  | 7 => W7 m c (Proc.devRef .tc r)
  | 9 => W9 m c (Proc.devRef .tc r)
  | 11 => W11 m c (Proc.devRef .tc r)
  | 13 => W13 m c (Proc.devRef .tc r)
  | 15 => W15 m c (Proc.devRef .tc r)
  | 17 => W17 m c (Proc.devRef .tc r)
  | 19 => W19 m c (Proc.devRef .tc r)
  | 21 => W21 m c (Proc.devRef .tc r)
  | _ => m ((c : Thread nD τ).loc r)

/-! The launch's valuations at these contents are the chain. -/

theorem V1_eq (c : Dev nD) : V1 m c = W1 m c := rfl
theorem V2_eq (c : Dev nD) : V2 m (outs m) c = W2 m c := by
  show Function.update (V1 m c) main_v3 (W2 m c (Proc.devRef .tc main_v3)) = W2 m c
  rw [V1_eq]; exact upd_self _ _ _
theorem V3_eq (c : Dev nD) : V3 m (outs m) c = W3 m c := by
  show Function.update (V2 m (outs m) c) main_v4 (W3 m c (Proc.devRef .tc main_v4)) = W3 m c
  rw [V2_eq]; exact upd_self _ _ _
theorem V4_eq (c : Dev nD) : V4 m (outs m) c = W4 m c := by
  show StableHlo.after hostOps2 (V3 m (outs m) c) = StableHlo.after hostOps2 (W3 m c)
  rw [V3_eq]
theorem V5_eq (c : Dev nD) : V5 m (outs m) c = W5 m c := by
  show Function.update (V4 m (outs m) c) main_v12 (W5 m c (Proc.devRef .tc main_v12)) = W5 m c
  rw [V4_eq]; exact upd_self _ _ _
theorem V6_eq (c : Dev nD) : V6 m (outs m) c = W6 m c := by
  show StableHlo.after hostOps3 (V5 m (outs m) c) = StableHlo.after hostOps3 (W5 m c)
  rw [V5_eq]
theorem V7_eq (c : Dev nD) : V7 m (outs m) c = W7 m c := by
  show Function.update (V6 m (outs m) c) main_v18 (W7 m c (Proc.devRef .tc main_v18)) = W7 m c
  rw [V6_eq]; exact upd_self _ _ _
theorem V8_eq (c : Dev nD) : V8 m (outs m) c = W8 m c := by
  show StableHlo.after hostOps4 (V7 m (outs m) c) = StableHlo.after hostOps4 (W7 m c)
  rw [V7_eq]
theorem V9_eq (c : Dev nD) : V9 m (outs m) c = W9 m c := by
  show Function.update (V8 m (outs m) c) main_v26 (W9 m c (Proc.devRef .tc main_v26)) = W9 m c
  rw [V8_eq]; exact upd_self _ _ _
theorem V10_eq (c : Dev nD) : V10 m (outs m) c = W10 m c := by
  show StableHlo.after hostOps5 (V9 m (outs m) c) = StableHlo.after hostOps5 (W9 m c)
  rw [V9_eq]
theorem V11_eq (c : Dev nD) : V11 m (outs m) c = W11 m c := by
  show Function.update (V10 m (outs m) c) main_v32 (W11 m c (Proc.devRef .tc main_v32)) = W11 m c
  rw [V10_eq]; exact upd_self _ _ _
theorem V12_eq (c : Dev nD) : V12 m (outs m) c = W12 m c := by
  show StableHlo.after hostOps6 (V11 m (outs m) c) = StableHlo.after hostOps6 (W11 m c)
  rw [V11_eq]
theorem V13_eq (c : Dev nD) : V13 m (outs m) c = W13 m c := by
  show Function.update (V12 m (outs m) c) main_v40 (W13 m c (Proc.devRef .tc main_v40)) = W13 m c
  rw [V12_eq]; exact upd_self _ _ _
theorem V14_eq (c : Dev nD) : V14 m (outs m) c = W14 m c := by
  show StableHlo.after hostOps7 (V13 m (outs m) c) = StableHlo.after hostOps7 (W13 m c)
  rw [V13_eq]
theorem V15_eq (c : Dev nD) : V15 m (outs m) c = W15 m c := by
  show Function.update (V14 m (outs m) c) main_v46 (W15 m c (Proc.devRef .tc main_v46)) = W15 m c
  rw [V14_eq]; exact upd_self _ _ _
theorem V16_eq (c : Dev nD) : V16 m (outs m) c = W16 m c := by
  show StableHlo.after hostOps8 (V15 m (outs m) c) = StableHlo.after hostOps8 (W15 m c)
  rw [V15_eq]
theorem V17_eq (c : Dev nD) : V17 m (outs m) c = W17 m c := by
  show Function.update (V16 m (outs m) c) main_v54 (W17 m c (Proc.devRef .tc main_v54)) = W17 m c
  rw [V16_eq]; exact upd_self _ _ _
theorem V18_eq (c : Dev nD) : V18 m (outs m) c = W18 m c := by
  show StableHlo.after hostOps9 (V17 m (outs m) c) = StableHlo.after hostOps9 (W17 m c)
  rw [V17_eq]
theorem V19_eq (c : Dev nD) : V19 m (outs m) c = W19 m c := by
  show Function.update (V18 m (outs m) c) main_v60 (W19 m c (Proc.devRef .tc main_v60)) = W19 m c
  rw [V18_eq]; exact upd_self _ _ _
theorem V20_eq (c : Dev nD) : V20 m (outs m) c = W20 m c := by
  show StableHlo.after hostOps10 (V19 m (outs m) c) = StableHlo.after hostOps10 (W19 m c)
  rw [V19_eq]
theorem V21_eq (c : Dev nD) : V21 m (outs m) c = W21 m c := by
  show Function.update (Function.update (V20 m (outs m) c) main_v65_0 (W21 m c (Proc.devRef .tc main_v65_0))) main_v65_1 (W21 m c (Proc.devRef .tc main_v65_1)) = W21 m c
  rw [V20_eq]; unfold W21
  rw [Function.update_self, Function.update_of_ne (StableHlo.devRef_ne_of_ne (by decide)), Function.update_self]
theorem V22_eq (c : Dev nD) : V22 m (outs m) c = W22 m c := by
  show StableHlo.after hostOps11 (V21 m (outs m) c) = StableHlo.after hostOps11 (W21 m c)
  rw [V21_eq]

/-! What the launch's valuations hold at the result arrays is what the regions leave. -/

theorem outs_2 (c : Dev nD) : outs m 2 main_v3 c = out0 m c := by
  show W2 m c (Proc.devRef .tc main_v3) = _
  unfold W2; rw [Function.update_self]
theorem outs_3 (c : Dev nD) : outs m 3 main_v4 c = out1 m c := by
  show W3 m c (Proc.devRef .tc main_v4) = _
  unfold W3; rw [Function.update_self]
theorem outs_5 (c : Dev nD) : outs m 5 main_v12 c = out2 m c := by
  show W5 m c (Proc.devRef .tc main_v12) = _
  unfold W5; rw [Function.update_self]
theorem outs_7 (c : Dev nD) : outs m 7 main_v18 c = out3 m c := by
  show W7 m c (Proc.devRef .tc main_v18) = _
  unfold W7; rw [Function.update_self]
theorem outs_9 (c : Dev nD) : outs m 9 main_v26 c = out4 m c := by
  show W9 m c (Proc.devRef .tc main_v26) = _
  unfold W9; rw [Function.update_self]
theorem outs_11 (c : Dev nD) : outs m 11 main_v32 c = out5 m c := by
  show W11 m c (Proc.devRef .tc main_v32) = _
  unfold W11; rw [Function.update_self]
theorem outs_13 (c : Dev nD) : outs m 13 main_v40 c = out6 m c := by
  show W13 m c (Proc.devRef .tc main_v40) = _
  unfold W13; rw [Function.update_self]
theorem outs_15 (c : Dev nD) : outs m 15 main_v46 c = out7 m c := by
  show W15 m c (Proc.devRef .tc main_v46) = _
  unfold W15; rw [Function.update_self]
theorem outs_17 (c : Dev nD) : outs m 17 main_v54 c = out8 m c := by
  show W17 m c (Proc.devRef .tc main_v54) = _
  unfold W17; rw [Function.update_self]
theorem outs_19 (c : Dev nD) : outs m 19 main_v60 c = out9 m c := by
  show W19 m c (Proc.devRef .tc main_v60) = _
  unfold W19; rw [Function.update_self]
theorem outs_0 (c : Dev nD) : outs m 21 main_v65_0 c = out10_0 m c := by
  show W21 m c (Proc.devRef .tc main_v65_0) = _
  unfold W21; rw [Function.update_of_ne (StableHlo.devRef_ne_of_ne (by decide)), Function.update_self]
theorem outs_1 (c : Dev nD) : outs m 21 main_v65_1 c = out10_1 m c := by
  show W21 m c (Proc.devRef .tc main_v65_1) = _
  unfold W21; rw [Function.update_self]

/-- The regions' proof data. -/
def pd : (p : Fin 11) → (c : Dev nD) → Dat τ (Elt F) Unit ℕ (UR sig nD τ) ℕ (cfgs p) c
  | ⟨0, _⟩ => fun c => K0.dat (Ix := Unit) (U := UR sig nD τ) (Lvl := ℕ) Variants.none (at1 m) 0 c
  | ⟨1, _⟩ => fun c => K1.dat (Ix := Unit) (U := UR sig nD τ) (Lvl := ℕ) Variants.none (at2 m) 0 c
  | ⟨2, _⟩ => fun c => Mixer0.dat2 (at4 m) (first_le m) c
  | ⟨3, _⟩ => fun c => K3.dat (Ix := Unit) (U := UR sig nD τ) (Lvl := ℕ) Variants.none (at6 m) 0 c
  | ⟨4, _⟩ => fun c => K4.dat (Ix := Unit) (U := UR sig nD τ) (Lvl := ℕ) Variants.none (at8 m) 0 c
  | ⟨5, _⟩ => fun c => K5.dat (Ix := Unit) (U := UR sig nD τ) (Lvl := ℕ) Variants.none (at10 m) 0 c
  | ⟨6, _⟩ => fun c => K6.dat (Ix := Unit) (U := UR sig nD τ) (Lvl := ℕ) Variants.none (at12 m) 0 c
  | ⟨7, _⟩ => fun c => K7.dat (Ix := Unit) (U := UR sig nD τ) (Lvl := ℕ) Variants.none (at14 m) 0 c
  | ⟨8, _⟩ => fun c => K8.dat (Ix := Unit) (U := UR sig nD τ) (Lvl := ℕ) Variants.none (at16 m) 0 c
  | ⟨9, _⟩ => fun c => K9.dat (Ix := Unit) (U := UR sig nD τ) (Lvl := ℕ) Variants.none (at18 m) 0 c
  | ⟨10, _⟩ => fun c => K10.dat (Ix := Unit) (U := UR sig nD τ) (Lvl := ℕ) Variants.none (at20 m) 0 c

end Cert.KernelIdeal.Chain

end
-- ==== Proof.KernelIdeal.Launch.lean ====
/- The launch: from any memory the program runs to its end, nothing faulting, and leaves every held buffer at the end of the
   chain of contents (Chain.lean) and every counter at zero. -/
module

public import proofs.«01_k».proof.Proof.KernelIdeal.Chain

@[expose] public section

set_option maxRecDepth 16384

noncomputable section

namespace Cert.KernelIdeal.Launch

open Cert.KernelIdeal Cert.KernelIdeal.Gen Cert.KernelIdeal.Own Cert.KernelIdeal.Chain
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every cell of a TensorCore is waited on at one index, -/
def L (g : GSem nD τ sig) : Finset Unit := if g.1.2 = .tc then {()} else ∅
/-- all at one level. -/
def lv (_ : GSem nD τ sig) (_ : Unit) : ℕ := 0

theorem hL (g : GSem nD τ sig) (h : g.1.2 ≠ .tc) : L g = ∅ := if_neg h

/-- Nothing is owed, so every level cut holds. -/
theorem cut (p : Fin 11) : Pipeline.LevelCut (pcfgs (F := F)) adm () L lv p (0 : Dev nD → CellTallies nD τ sig Unit) (fun _ => 0) where
  hι _ _ _ := by unfold L; rw [if_pos rfl]; exact Finset.mem_singleton_self _
  hιb _ _ _ := le_refl _
  hD _ _ _ h := absurd h (lt_irrefl _)

/-- What a core holds besides the buffers between two items. -/
def E (_ : Fin 12) (c : Dev nD) : sProp 𝕄 :=
  iprop((∃ r, prngReg c r) ∗ ∃ W, owes (c : Thread nD τ) (0 : CellTallies nD τ sig Unit) W)

/-- Nothing else. -/
def Er (_ : Dev nD) : sProp 𝕄 := BI.emp

theorem hin (i : Fin 12) (c : Dev nD) : (E (F := F) i c) ⊢ iprop((∃ r, prngReg c r) ∗ (∃ W, owes (c : Thread nD τ) ((0 : Dev nD → CellTallies nD τ sig Unit) c) W) ∗ Er c) := by
  unfold E Er
  iintro ⟨Hp, HO⟩
  isplitl [Hp]; · iexact Hp
  isplitl [HO]; · iexact HO
  iempintro

theorem hout (i : Fin 12) (c : Dev nD) : iprop((∃ r, prngReg c r) ∗ (∃ W, owes (c : Thread nD τ) ((0 : Dev nD → CellTallies nD τ sig Unit) c) W) ∗ Er c) ⊢ (E (F := F) i c) := by
  unfold E Er
  iintro ⟨Hp, HO, -⟩
  isplitl [Hp]; · iexact Hp
  iexact HO

/-! ## Region 0 -/

theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
theorem arr0_S : Pipeline.arrRefs (τ := τ) spec0 ⊆ Pipeline.ucRefs τ sig :=
  Pipeline.arrRefs_sub_ucRefs spec0 (by decide)

theorem W2_of (c : Dev nD) (r : Ref sig .tc) (h0 : r ≠ main_v3) : W2 m c (Proc.devRef .tc r) = W1 m c (Proc.devRef .tc r) := by
  unfold W2; rw [Function.update_of_ne (StableHlo.devRef_ne_of_ne h0)]

theorem W2_at0 (c : Dev nD) : W2 m c (Proc.devRef .tc main_v3) = out0 m c := by
  unfold W2; rw [Function.update_self]

theorem rest0_eq (c : Dev nD) : ∀ b ∈ (Pipeline.ucRefs τ sig) \ Pipeline.arrRefs (τ := τ) spec0, W2 m c b = W1 m c b := fun b hb => by
  have hn : b ∉ Pipeline.arrRefs (τ := τ) spec0 := (Finset.mem_sdiff.mp hb).2
  have h0 : b ≠ Proc.devRef .tc main_v3 := by rintro rfl; exact hn (arr0_mem 3)
  unfold W2; rw [Function.update_of_ne h0]

/-- After the region each window's array holds what the contents after it say. -/
def d0 (c : Dev nD) : Dat τ (Elt F) Unit ℕ (UR sig nD τ) ℕ cfg0 c := K0.dat (Ix := Unit) (U := UR sig nD τ) (Lvl := ℕ) Variants.none (at1 m) 0 c
theorem exit0 (c : Dev nD) : ∀ w : Fin cfg0.W, (d0 m c).arrAt w cfg0.N = W2 m c (Proc.devRef .tc (Pipeline.arrRef spec0 w))
  | 0 => ((d0 m c).arrAt_in 0 rfl _).trans ((K0.A_eq (Ix := Unit) (U := UR sig nD τ) (Lvl := ℕ) Variants.none (at1 m) 0 c 0).trans (W2_of m c (Pipeline.arrRef spec0 0) (by decide)).symm)
  | 1 => ((d0 m c).arrAt_in 1 rfl _).trans ((K0.A_eq (Ix := Unit) (U := UR sig nD τ) (Lvl := ℕ) Variants.none (at1 m) 0 c 1).trans (W2_of m c (Pipeline.arrRef spec0 1) (by decide)).symm)
  | 2 => ((d0 m c).arrAt_in 2 rfl _).trans ((K0.A_eq (Ix := Unit) (U := UR sig nD τ) (Lvl := ℕ) Variants.none (at1 m) 0 c 2).trans (W2_of m c (Pipeline.arrRef spec0 2) (by decide)).symm)
  | 3 => (show (d0 m c).arrAt 3 cfg0.N = out0 m c from rfl).trans (W2_at0 m c).symm
  | ⟨_ + 4, h⟩ => absurd h (Nat.not_lt.2 (Nat.le_add_left _ _))

-- a library definition stated over the pinned configuration unifies only when unification may unfold plain definitions in a
-- metavariable's type
set_option backward.isDefEq.respectTransparency.types false in
set_option maxHeartbeats 1000000 in
/-- The region's record: its arrays held at the contents before it and after it. -/
def R0 : RegionSeg (pcfgs (F := F)) adm (pd m) () defs₀ Variants.none L lv 0 :=
  Pipeline.RegionSeg.ofHeld (pcfgs (F := F)) adm (pd m) () defs₀ Variants.none L lv 0 0
    (fun c => iprop(∃ r, prngReg c r)) (fun c => iprop(∃ r, prngReg c r))
    launch0.toP rfl
    (fun c => (K0.body_obligation (U := UR sig nD τ) (Lvl := ℕ) Variants.none (at1 m) 0 () c).loose) (fun _ _ => rfl) (fun _ => rfl)
    (fun c => (pd m 0 c).share_full fun _ => rfl) (fun _ => .rfl) (fun _ => .rfl) (fun _ => 0) (cut 0)
    (fun c => iprop(StableHlo.held (c : Thread nD τ) ((Pipeline.ucRefs τ sig) \ Pipeline.arrRefs (τ := τ) spec0) (W1 m c) ∗ Er c))
    (W1 m) (W2 m) (fun _ _ => rfl)
    (fun c => exit0 m c)

theorem hpre0 (c : Dev nD) :
    iprop(StableHlo.held (c : Thread nD τ) (Pipeline.ucRefs τ sig) (V1 m c) ∗ E 0 c) ⊢ (R0 m).pre c := by
  show _ ⊢ iprop(StableHlo.held (c : Thread nD τ) (Pipeline.arrRefs (τ := τ) spec0) (W1 m c) ∗ (∃ r, prngReg c r)
    ∗ (StableHlo.held (c : Thread nD τ) ((Pipeline.ucRefs τ sig) \ Pipeline.arrRefs (τ := τ) spec0) (W1 m c) ∗ Er c)
    ∗ ∃ W, owes (c : Thread nD τ) ((0 : Dev nD → CellTallies nD τ sig Unit) c) W)
  rw [V1_eq, StableHlo.held_sub_split (c : Thread nD τ) arr0_S (W1 m c)]
  iintro ⟨⟨Ha, Hr⟩, HE⟩
  ihave HE' := (hin 0 c) $$ HE
  icases HE' with ⟨Hp, HO, Hx⟩
  isplitl [Ha]; · iexact Ha
  isplitl [Hp]; · iexact Hp
  isplitl [Hr Hx]; · isplitl [Hr] <;> iassumption
  iexact HO

theorem hpost0 (c : Dev nD) :
    (R0 m).post c ⊢ iprop(StableHlo.held (c : Thread nD τ) (Pipeline.ucRefs τ sig) (V2 m (outs m) c) ∗ E 1 c) := by
  show iprop(StableHlo.held (c : Thread nD τ) (Pipeline.arrRefs (τ := τ) spec0) (W2 m c) ∗ (∃ r, prngReg c r)
    ∗ (StableHlo.held (c : Thread nD τ) ((Pipeline.ucRefs τ sig) \ Pipeline.arrRefs (τ := τ) spec0) (W1 m c) ∗ Er c)
    ∗ ∃ W, owes (c : Thread nD τ) ((0 : Dev nD → CellTallies nD τ sig Unit) c) W) ⊢ _
  rw [V2_eq, StableHlo.held_sub_split (c : Thread nD τ) arr0_S (W2 m c),
    StableHlo.held_congr (c : Thread nD τ) (S := (Pipeline.ucRefs τ sig) \ Pipeline.arrRefs (τ := τ) spec0) (rest0_eq m c)]
  iintro ⟨Ha, Hp, ⟨Hr, Hx⟩, HO⟩
  isplitl [Ha Hr]; · isplitl [Ha] <;> iassumption
  iapply (hout 1 c)
  isplitl [Hp]; · iexact Hp
  isplitl [HO]; · iexact HO
  iexact Hx

/-! ## Region 1 -/

theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
theorem arr1_S : Pipeline.arrRefs (τ := τ) spec1 ⊆ Pipeline.ucRefs τ sig :=
  Pipeline.arrRefs_sub_ucRefs spec1 (by decide)

theorem W3_of (c : Dev nD) (r : Ref sig .tc) (h0 : r ≠ main_v4) : W3 m c (Proc.devRef .tc r) = W2 m c (Proc.devRef .tc r) := by
  unfold W3; rw [Function.update_of_ne (StableHlo.devRef_ne_of_ne h0)]

theorem W3_at0 (c : Dev nD) : W3 m c (Proc.devRef .tc main_v4) = out1 m c := by
  unfold W3; rw [Function.update_self]

theorem rest1_eq (c : Dev nD) : ∀ b ∈ (Pipeline.ucRefs τ sig) \ Pipeline.arrRefs (τ := τ) spec1, W3 m c b = W2 m c b := fun b hb => by
  have hn : b ∉ Pipeline.arrRefs (τ := τ) spec1 := (Finset.mem_sdiff.mp hb).2
  have h0 : b ≠ Proc.devRef .tc main_v4 := by rintro rfl; exact hn (arr1_mem 1)
  unfold W3; rw [Function.update_of_ne h0]

/-- After the region each window's array holds what the contents after it say. -/
def d1 (c : Dev nD) : Dat τ (Elt F) Unit ℕ (UR sig nD τ) ℕ cfg1 c := K1.dat (Ix := Unit) (U := UR sig nD τ) (Lvl := ℕ) Variants.none (at2 m) 0 c
theorem exit1 (c : Dev nD) : ∀ w : Fin cfg1.W, (d1 m c).arrAt w cfg1.N = W3 m c (Proc.devRef .tc (Pipeline.arrRef spec1 w))
  | 0 => ((d1 m c).arrAt_in 0 rfl _).trans ((K1.A_eq (Ix := Unit) (U := UR sig nD τ) (Lvl := ℕ) Variants.none (at2 m) 0 c 0).trans (W3_of m c (Pipeline.arrRef spec1 0) (by decide)).symm)
  | 1 => (show (d1 m c).arrAt 1 cfg1.N = out1 m c from rfl).trans (W3_at0 m c).symm
  | ⟨_ + 2, h⟩ => absurd h (Nat.not_lt.2 (Nat.le_add_left _ _))

-- a library definition stated over the pinned configuration unifies only when unification may unfold plain definitions in a
-- metavariable's type
set_option backward.isDefEq.respectTransparency.types false in
set_option maxHeartbeats 1000000 in
/-- The region's record: its arrays held at the contents before it and after it. -/
def R1 : RegionSeg (pcfgs (F := F)) adm (pd m) () defs₀ Variants.none L lv 1 :=
  Pipeline.RegionSeg.ofHeld (pcfgs (F := F)) adm (pd m) () defs₀ Variants.none L lv 1 0
    (fun c => iprop(∃ r, prngReg c r)) (fun c => iprop(∃ r, prngReg c r))
    launch1.toP rfl
    (fun c => (K1.body_obligation (U := UR sig nD τ) (Lvl := ℕ) Variants.none (at2 m) 0 () c).loose) (fun _ _ => rfl) (fun _ => rfl)
    (fun c => (pd m 1 c).share_full fun _ => rfl) (fun _ => .rfl) (fun _ => .rfl) (fun _ => 0) (cut 1)
    (fun c => iprop(StableHlo.held (c : Thread nD τ) ((Pipeline.ucRefs τ sig) \ Pipeline.arrRefs (τ := τ) spec1) (W2 m c) ∗ Er c))
    (W2 m) (W3 m) (fun _ _ => rfl)
    (fun c => exit1 m c)

theorem hpre1 (c : Dev nD) :
    iprop(StableHlo.held (c : Thread nD τ) (Pipeline.ucRefs τ sig) (V2 m (outs m) c) ∗ E 1 c) ⊢ (R1 m).pre c := by
  show _ ⊢ iprop(StableHlo.held (c : Thread nD τ) (Pipeline.arrRefs (τ := τ) spec1) (W2 m c) ∗ (∃ r, prngReg c r)
    ∗ (StableHlo.held (c : Thread nD τ) ((Pipeline.ucRefs τ sig) \ Pipeline.arrRefs (τ := τ) spec1) (W2 m c) ∗ Er c)
    ∗ ∃ W, owes (c : Thread nD τ) ((0 : Dev nD → CellTallies nD τ sig Unit) c) W)
  rw [V2_eq, StableHlo.held_sub_split (c : Thread nD τ) arr1_S (W2 m c)]
  iintro ⟨⟨Ha, Hr⟩, HE⟩
  ihave HE' := (hin 1 c) $$ HE
  icases HE' with ⟨Hp, HO, Hx⟩
  isplitl [Ha]; · iexact Ha
  isplitl [Hp]; · iexact Hp
  isplitl [Hr Hx]; · isplitl [Hr] <;> iassumption
  iexact HO

theorem hpost1 (c : Dev nD) :
    (R1 m).post c ⊢ iprop(StableHlo.held (c : Thread nD τ) (Pipeline.ucRefs τ sig) (V3 m (outs m) c) ∗ E 2 c) := by
  show iprop(StableHlo.held (c : Thread nD τ) (Pipeline.arrRefs (τ := τ) spec1) (W3 m c) ∗ (∃ r, prngReg c r)
    ∗ (StableHlo.held (c : Thread nD τ) ((Pipeline.ucRefs τ sig) \ Pipeline.arrRefs (τ := τ) spec1) (W2 m c) ∗ Er c)
    ∗ ∃ W, owes (c : Thread nD τ) ((0 : Dev nD → CellTallies nD τ sig Unit) c) W) ⊢ _
  rw [V3_eq, StableHlo.held_sub_split (c : Thread nD τ) arr1_S (W3 m c),
    StableHlo.held_congr (c : Thread nD τ) (S := (Pipeline.ucRefs τ sig) \ Pipeline.arrRefs (τ := τ) spec1) (rest1_eq m c)]
  iintro ⟨Ha, Hp, ⟨Hr, Hx⟩, HO⟩
  isplitl [Ha Hr]; · isplitl [Ha] <;> iassumption
  iapply (hout 2 c)
  isplitl [Hp]; · iexact Hp
  isplitl [HO]; · iexact HO
  iexact Hx

/-! ## Region 2 -/

theorem arr2_mem (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
theorem arr2_S : Pipeline.arrRefs (τ := τ) spec2 ⊆ Pipeline.ucRefs τ sig :=
  Pipeline.arrRefs_sub_ucRefs spec2 (by decide)

theorem W5_of (c : Dev nD) (r : Ref sig .tc) (h0 : r ≠ main_v12) : W5 m c (Proc.devRef .tc r) = W4 m c (Proc.devRef .tc r) := by
  unfold W5; rw [Function.update_of_ne (StableHlo.devRef_ne_of_ne h0)]

theorem W5_at0 (c : Dev nD) : W5 m c (Proc.devRef .tc main_v12) = out2 m c := by
  unfold W5; rw [Function.update_self]

theorem rest2_eq (c : Dev nD) : ∀ b ∈ (Pipeline.ucRefs τ sig) \ Pipeline.arrRefs (τ := τ) spec2, W5 m c b = W4 m c b := fun b hb => by
  have hn : b ∉ Pipeline.arrRefs (τ := τ) spec2 := (Finset.mem_sdiff.mp hb).2
  have h0 : b ≠ Proc.devRef .tc main_v12 := by rintro rfl; exact hn (arr2_mem 5)
  unfold W5; rw [Function.update_of_ne h0]

/-- After the region each window's array holds what the contents after it say. -/
def d2 (c : Dev nD) : Dat τ (Elt F) Unit ℕ (UR sig nD τ) ℕ cfg2 c := Mixer0.dat2 (at4 m) (first_le m) c
theorem exit2 (c : Dev nD) : ∀ w : Fin cfg2.W, (d2 m c).arrAt w cfg2.N = W5 m c (Proc.devRef .tc (Pipeline.arrRef spec2 w))
  | 0 => ((d2 m c).arrAt_in 0 rfl _).trans ((Mixer0.A_eq2 (at4 m) (first_le m) c 0).trans (W5_of m c (Pipeline.arrRef spec2 0) (by decide)).symm)
  | 1 => ((d2 m c).arrAt_in 1 rfl _).trans ((Mixer0.A_eq2 (at4 m) (first_le m) c 1).trans (W5_of m c (Pipeline.arrRef spec2 1) (by decide)).symm)
  | 2 => ((d2 m c).arrAt_in 2 rfl _).trans ((Mixer0.A_eq2 (at4 m) (first_le m) c 2).trans (W5_of m c (Pipeline.arrRef spec2 2) (by decide)).symm)
  | 3 => ((d2 m c).arrAt_in 3 rfl _).trans ((Mixer0.A_eq2 (at4 m) (first_le m) c 3).trans (W5_of m c (Pipeline.arrRef spec2 3) (by decide)).symm)
  | 4 => ((d2 m c).arrAt_in 4 rfl _).trans ((Mixer0.A_eq2 (at4 m) (first_le m) c 4).trans (W5_of m c (Pipeline.arrRef spec2 4) (by decide)).symm)
  | 5 => (show (d2 m c).arrAt 5 cfg2.N = out2 m c from rfl).trans (W5_at0 m c).symm
  | ⟨_ + 6, h⟩ => absurd h (Nat.not_lt.2 (Nat.le_add_left _ _))

-- a library definition stated over the pinned configuration unifies only when unification may unfold plain definitions in a
-- metavariable's type
set_option backward.isDefEq.respectTransparency.types false in
set_option maxHeartbeats 1000000 in
/-- The region's record: its arrays held at the contents before it and after it. -/
def R2 : RegionSeg (pcfgs (F := F)) adm (pd m) () defs₀ Variants.none L lv 2 :=
  Pipeline.RegionSeg.ofHeld (pcfgs (F := F)) adm (pd m) () defs₀ Variants.none L lv 2 0
    (fun c => iprop(∃ r, prngReg c r)) (fun c => iprop(∃ r, prngReg c r))
    launch2.toP rfl
    (fun c => (Mixer0.body_obligation2 (at4 m) (first_le m) c).loose) (fun _ _ => rfl) (fun _ => rfl)
    (fun c => (pd m 2 c).share_full fun _ => rfl) (fun _ => .rfl) (fun _ => .rfl) (fun _ => 0) (cut 2)
    (fun c => iprop(StableHlo.held (c : Thread nD τ) ((Pipeline.ucRefs τ sig) \ Pipeline.arrRefs (τ := τ) spec2) (W4 m c) ∗ Er c))
    (W4 m) (W5 m) (fun _ _ => rfl)
    (fun c => exit2 m c)

theorem hpre2 (c : Dev nD) :
    iprop(StableHlo.held (c : Thread nD τ) (Pipeline.ucRefs τ sig) (V4 m (outs m) c) ∗ E 2 c) ⊢ (R2 m).pre c := by
  show _ ⊢ iprop(StableHlo.held (c : Thread nD τ) (Pipeline.arrRefs (τ := τ) spec2) (W4 m c) ∗ (∃ r, prngReg c r)
    ∗ (StableHlo.held (c : Thread nD τ) ((Pipeline.ucRefs τ sig) \ Pipeline.arrRefs (τ := τ) spec2) (W4 m c) ∗ Er c)
    ∗ ∃ W, owes (c : Thread nD τ) ((0 : Dev nD → CellTallies nD τ sig Unit) c) W)
  rw [V4_eq, StableHlo.held_sub_split (c : Thread nD τ) arr2_S (W4 m c)]
  iintro ⟨⟨Ha, Hr⟩, HE⟩
  ihave HE' := (hin 2 c) $$ HE
  icases HE' with ⟨Hp, HO, Hx⟩
  isplitl [Ha]; · iexact Ha
  isplitl [Hp]; · iexact Hp
  isplitl [Hr Hx]; · isplitl [Hr] <;> iassumption
  iexact HO

theorem hpost2 (c : Dev nD) :
    (R2 m).post c ⊢ iprop(StableHlo.held (c : Thread nD τ) (Pipeline.ucRefs τ sig) (V5 m (outs m) c) ∗ E 3 c) := by
  show iprop(StableHlo.held (c : Thread nD τ) (Pipeline.arrRefs (τ := τ) spec2) (W5 m c) ∗ (∃ r, prngReg c r)
    ∗ (StableHlo.held (c : Thread nD τ) ((Pipeline.ucRefs τ sig) \ Pipeline.arrRefs (τ := τ) spec2) (W4 m c) ∗ Er c)
    ∗ ∃ W, owes (c : Thread nD τ) ((0 : Dev nD → CellTallies nD τ sig Unit) c) W) ⊢ _
  rw [V5_eq, StableHlo.held_sub_split (c : Thread nD τ) arr2_S (W5 m c),
    StableHlo.held_congr (c : Thread nD τ) (S := (Pipeline.ucRefs τ sig) \ Pipeline.arrRefs (τ := τ) spec2) (rest2_eq m c)]
  iintro ⟨Ha, Hp, ⟨Hr, Hx⟩, HO⟩
  isplitl [Ha Hr]; · isplitl [Ha] <;> iassumption
  iapply (hout 3 c)
  isplitl [Hp]; · iexact Hp
  isplitl [HO]; · iexact HO
  iexact Hx

/-! ## Region 3 -/

theorem arr3_mem (w : Fin cfg3.W) : (Proc.devRef .tc (Pipeline.arrRef spec3 w) : DevRef τ sig) ∈ Pipeline.arrRefs (τ := τ) spec3 :=
  Finset.mem_map_of_mem _ (Finset.mem_image_of_mem _ (Finset.mem_univ w))
theorem arr3_S : Pipeline.arrRefs (τ := τ) spec3 ⊆ Pipeline.ucRefs τ sig :=
  Pipeline.arrRefs_sub_ucRefs spec3 (by decide)

theorem W7_of (c : Dev nD) (r : Ref sig .tc) (h0 : r ≠ main_v18) : W7 m c (Proc.devRef .tc r) = W6 m c (Proc.devRef .tc r) := by
  unfold W7; rw [Function.update_of_ne (StableHlo.devRef_ne_of_ne h0)]

theorem W7_at0 (c : Dev nD) : W7 m c (Proc.devRef .tc main_v18) = out3 m c := by
  unfold W7; rw [Function.update_self]

theorem rest3_eq (c : Dev nD) : ∀ b ∈ (Pipeline.ucRefs τ sig) \ Pipeline.arrRefs (τ := τ) spec3, W7 m c b = W6 m c b := fun b hb => by
  have hn : b ∉ Pipeline.arrRefs (τ := τ) spec3 := (Finset.mem_sdiff.mp hb).2
  have h0 : b ≠ Proc.devRef .tc main_v18 := by rintro rfl; exact hn (arr3_mem 3)
  unfold W7; rw [Function.update_of_ne h0]

/-- After the region each window's array holds what the contents after it say. -/
def d3 (c : Dev nD) : Dat τ (Elt F) Unit ℕ (UR sig nD τ) ℕ cfg3 c := K3.dat (Ix := Unit) (U := UR sig nD τ) (Lvl := ℕ) Variants.none (at6 m) 0 c
theorem exit3 (c : Dev nD) : ∀ w : Fin cfg3.W, (d3 m c).arrAt w cfg3.N = W7 m c (Proc.devRef .tc (Pipeline.arrRef spec3 w))
  | 0 => ((d3 m c).arrAt_in 0 rfl _).trans ((K3.A_eq (Ix := Unit) (U := UR sig nD τ) (Lvl := ℕ) Variants.none (at6 m) 0 c 0).trans (W7_of m c (Pipeline.arrRef spec3 0) (by decide)).symm)
  | 1 => ((d3 m c).arrAt_in 1 rfl _).trans ((K3.A_eq (Ix := Unit) (U := UR sig nD τ) (Lvl := ℕ) Variants.none (at6 m) 0 c 1).trans (W7_of m c (Pipeline.arrRef spec3 1) (by decide)).symm)
  | 2 => ((d3 m c).arrAt_in 2 rfl _).trans ((K3.A_eq (Ix := Unit) (U := UR sig nD τ) (Lvl := ℕ) Variants.none (at6 m) 0 c 2).trans (W7_of m c (Pipeline.arrRef spec3 2) (by decide)).symm)
  | 3 => (show (d3 m c).arrAt 3 cfg3.N = out3 m c from rfl).trans (W7_at0 m c).symm
  | ⟨_ + 4, h⟩ => absurd h (Nat.not_lt.2 (Nat.le_add_left _ _))

-- a library definition stated over the pinned configuration unifies only when unification may unfold plain definitions in a
-- metavariable's type
set_option backward.isDefEq.respectTransparency.types false in
set_option maxHeartbeats 1000000 in
/-- The region's record: its arrays held at the contents before it and after it. -/
def R3 : RegionSeg (pcfgs (F := F)) adm (pd m) () defs₀ Variants.none L lv 3 :=
  Pipeline.RegionSeg.ofHeld (pcfgs (F := F)) adm (pd m) () defs₀ Variants.none L lv 3 0
    (fun c => iprop(∃ r, prngReg c r)) (fun c => iprop(∃ r, prngReg c r))
    launch3.toP rfl
    (fun c => (K3.body_obligation (U := UR sig nD τ) (Lvl := ℕ) Variants.none (at6 m) 0 () c).loose) (fun _ _ => rfl) (fun _ => rfl)
    (fun c => (pd m 3 c).share_full fun _ => rfl) (fun _ => .rfl) (fun _ => .rfl) (fun _ => 0) (cut 3)
    (fun c => iprop(StableHlo.held (c : Thread nD τ) ((Pipeline.ucRefs τ sig) \ Pipeline.arrRefs (τ := τ) spec3) (W6 m c) ∗ Er c))
    (W6 m) (W7 m) (fun _ _ => rfl)
    (fun c => exit3 m c)

theorem hpre3 (c : Dev nD) :
    iprop(StableHlo.held (c : Thread nD τ) (Pipeline.ucRefs τ sig) (V6 m (outs m) c) ∗ E 3 c) ⊢ (R3 m).pre c := by
  show _ ⊢ iprop(StableHlo.held (c : Thread nD τ) (Pipeline.arrRefs (τ := τ) spec3) (W6 m c) ∗ (∃ r, prngReg c r)
    ∗ (StableHlo.held (c : Thread nD τ) ((Pipeline.ucRefs τ sig) \ Pipeline.arrRefs (τ := τ) spec3) (W6 m c) ∗ Er c)
    ∗ ∃ W, owes (c : Thread nD τ) ((0 : Dev nD → CellTallies nD τ sig Unit) c) W)
  rw [V6_eq, StableHlo.held_sub_split (c : Thread nD τ) arr3_S (W6 m c)]
  iintro ⟨⟨Ha, Hr⟩, HE⟩
  ihave HE' := (hin 3 c) $$ HE
  icases HE' with ⟨Hp, HO, Hx⟩
  isplitl [Ha]; · iexact Ha
  isplitl [Hp]; · iexact Hp
  isplitl [Hr Hx]; · isplitl [Hr] <;> iassumption
  iexact HO

theorem hpost3 (c : Dev nD) :
    (R3 m).post c ⊢ iprop(StableHlo.held (c : Thread nD τ) (Pipeline.ucRefs τ sig) (V7 m (outs m) c) ∗ E 4 c) := by
  show iprop(StableHlo.held (c : Thread nD τ) (Pipeline.arrRefs (τ := τ) spec3) (W7 m c) ∗ (∃ r, prngReg c r)
    ∗ (StableHlo.held (c : Thread nD τ) ((Pipeline.ucRefs τ sig) \ Pipeline.arrRefs (τ := τ) spec3) (W6 m c) ∗ Er c)
    ∗ ∃ W, owes (c : Thread nD τ) ((0 : Dev nD → CellTallies nD τ sig Unit) c) W) ⊢ _
  rw [V7_eq, StableHlo.held_sub_split (c : Thread nD τ) arr3_S (W7 m c),
    StableHlo.held_congr (c : Thread nD τ) (S := (Pipeline.ucRefs τ sig) \ Pipeline.arrRefs (τ := τ) spec3) (rest3_eq m c)]
  iintro ⟨Ha, Hp, ⟨Hr, Hx⟩, HO⟩
  isplitl [Ha Hr]; · isplitl [Ha] <;> iassumption
  iapply (hout 4 c)
  isplitl [Hp]; · iexact Hp
  isplitl [HO]; · iexact HO
  iexact Hx

/-! ## Region 4 -/

theorem arr4_mem (w : Fin cfg4.W) : (Proc.devRef .tc (Pipeline.arrRef spec4 w) : DevRef τ sig) ∈ Pipeline.arrRefs (τ := τ) spec4 :=
  Finset.mem_map_of_mem _ (Finset.mem_image_of_mem _ (Finset.mem_univ w))
theorem arr4_S : Pipeline.arrRefs (τ := τ) spec4 ⊆ Pipeline.ucRefs τ sig :=
  Pipeline.arrRefs_sub_ucRefs spec4 (by decide)

theorem W9_of (c : Dev nD) (r : Ref sig .tc) (h0 : r ≠ main_v26) : W9 m c (Proc.devRef .tc r) = W8 m c (Proc.devRef .tc r) := by
  unfold W9; rw [Function.update_of_ne (StableHlo.devRef_ne_of_ne h0)]

theorem W9_at0 (c : Dev nD) : W9 m c (Proc.devRef .tc main_v26) = out4 m c := by
  unfold W9; rw [Function.update_self]

theorem rest4_eq (c : Dev nD) : ∀ b ∈ (Pipeline.ucRefs τ sig) \ Pipeline.arrRefs (τ := τ) spec4, W9 m c b = W8 m c b := fun b hb => by
  have hn : b ∉ Pipeline.arrRefs (τ := τ) spec4 := (Finset.mem_sdiff.mp hb).2
  have h0 : b ≠ Proc.devRef .tc main_v26 := by rintro rfl; exact hn (arr4_mem 4)
  unfold W9; rw [Function.update_of_ne h0]

/-- After the region each window's array holds what the contents after it say. -/
def d4 (c : Dev nD) : Dat τ (Elt F) Unit ℕ (UR sig nD τ) ℕ cfg4 c := K4.dat (Ix := Unit) (U := UR sig nD τ) (Lvl := ℕ) Variants.none (at8 m) 0 c
theorem exit4 (c : Dev nD) : ∀ w : Fin cfg4.W, (d4 m c).arrAt w cfg4.N = W9 m c (Proc.devRef .tc (Pipeline.arrRef spec4 w))
  | 0 => ((d4 m c).arrAt_in 0 rfl _).trans ((K4.A_eq (Ix := Unit) (U := UR sig nD τ) (Lvl := ℕ) Variants.none (at8 m) 0 c 0).trans (W9_of m c (Pipeline.arrRef spec4 0) (by decide)).symm)
  | 1 => ((d4 m c).arrAt_in 1 rfl _).trans ((K4.A_eq (Ix := Unit) (U := UR sig nD τ) (Lvl := ℕ) Variants.none (at8 m) 0 c 1).trans (W9_of m c (Pipeline.arrRef spec4 1) (by decide)).symm)
  | 2 => ((d4 m c).arrAt_in 2 rfl _).trans ((K4.A_eq (Ix := Unit) (U := UR sig nD τ) (Lvl := ℕ) Variants.none (at8 m) 0 c 2).trans (W9_of m c (Pipeline.arrRef spec4 2) (by decide)).symm)
  | 3 => ((d4 m c).arrAt_in 3 rfl _).trans ((K4.A_eq (Ix := Unit) (U := UR sig nD τ) (Lvl := ℕ) Variants.none (at8 m) 0 c 3).trans (W9_of m c (Pipeline.arrRef spec4 3) (by decide)).symm)
  | 4 => (show (d4 m c).arrAt 4 cfg4.N = out4 m c from rfl).trans (W9_at0 m c).symm
  | ⟨_ + 5, h⟩ => absurd h (Nat.not_lt.2 (Nat.le_add_left _ _))

-- a library definition stated over the pinned configuration unifies only when unification may unfold plain definitions in a
-- metavariable's type
set_option backward.isDefEq.respectTransparency.types false in
set_option maxHeartbeats 1000000 in
/-- The region's record: its arrays held at the contents before it and after it. -/
def R4 : RegionSeg (pcfgs (F := F)) adm (pd m) () defs₀ Variants.none L lv 4 :=
  Pipeline.RegionSeg.ofHeld (pcfgs (F := F)) adm (pd m) () defs₀ Variants.none L lv 4 0
    (fun c => iprop(∃ r, prngReg c r)) (fun c => iprop(∃ r, prngReg c r))
    launch4.toP rfl
    (fun c => (K4.body_obligation (U := UR sig nD τ) (Lvl := ℕ) Variants.none (at8 m) 0 () c).loose) (fun _ _ => rfl) (fun _ => rfl)
    (fun c => (pd m 4 c).share_full fun _ => rfl) (fun _ => .rfl) (fun _ => .rfl) (fun _ => 0) (cut 4)
    (fun c => iprop(StableHlo.held (c : Thread nD τ) ((Pipeline.ucRefs τ sig) \ Pipeline.arrRefs (τ := τ) spec4) (W8 m c) ∗ Er c))
    (W8 m) (W9 m) (fun _ _ => rfl)
    (fun c => exit4 m c)

theorem hpre4 (c : Dev nD) :
    iprop(StableHlo.held (c : Thread nD τ) (Pipeline.ucRefs τ sig) (V8 m (outs m) c) ∗ E 4 c) ⊢ (R4 m).pre c := by
  show _ ⊢ iprop(StableHlo.held (c : Thread nD τ) (Pipeline.arrRefs (τ := τ) spec4) (W8 m c) ∗ (∃ r, prngReg c r)
    ∗ (StableHlo.held (c : Thread nD τ) ((Pipeline.ucRefs τ sig) \ Pipeline.arrRefs (τ := τ) spec4) (W8 m c) ∗ Er c)
    ∗ ∃ W, owes (c : Thread nD τ) ((0 : Dev nD → CellTallies nD τ sig Unit) c) W)
  rw [V8_eq, StableHlo.held_sub_split (c : Thread nD τ) arr4_S (W8 m c)]
  iintro ⟨⟨Ha, Hr⟩, HE⟩
  ihave HE' := (hin 4 c) $$ HE
  icases HE' with ⟨Hp, HO, Hx⟩
  isplitl [Ha]; · iexact Ha
  isplitl [Hp]; · iexact Hp
  isplitl [Hr Hx]; · isplitl [Hr] <;> iassumption
  iexact HO

theorem hpost4 (c : Dev nD) :
    (R4 m).post c ⊢ iprop(StableHlo.held (c : Thread nD τ) (Pipeline.ucRefs τ sig) (V9 m (outs m) c) ∗ E 5 c) := by
  show iprop(StableHlo.held (c : Thread nD τ) (Pipeline.arrRefs (τ := τ) spec4) (W9 m c) ∗ (∃ r, prngReg c r)
    ∗ (StableHlo.held (c : Thread nD τ) ((Pipeline.ucRefs τ sig) \ Pipeline.arrRefs (τ := τ) spec4) (W8 m c) ∗ Er c)
    ∗ ∃ W, owes (c : Thread nD τ) ((0 : Dev nD → CellTallies nD τ sig Unit) c) W) ⊢ _
  rw [V9_eq, StableHlo.held_sub_split (c : Thread nD τ) arr4_S (W9 m c),
    StableHlo.held_congr (c : Thread nD τ) (S := (Pipeline.ucRefs τ sig) \ Pipeline.arrRefs (τ := τ) spec4) (rest4_eq m c)]
  iintro ⟨Ha, Hp, ⟨Hr, Hx⟩, HO⟩
  isplitl [Ha Hr]; · isplitl [Ha] <;> iassumption
  iapply (hout 5 c)
  isplitl [Hp]; · iexact Hp
  isplitl [HO]; · iexact HO
  iexact Hx

/-! ## Region 5 -/

theorem arr5_mem (w : Fin cfg5.W) : (Proc.devRef .tc (Pipeline.arrRef spec5 w) : DevRef τ sig) ∈ Pipeline.arrRefs (τ := τ) spec5 :=
  Finset.mem_map_of_mem _ (Finset.mem_image_of_mem _ (Finset.mem_univ w))
theorem arr5_S : Pipeline.arrRefs (τ := τ) spec5 ⊆ Pipeline.ucRefs τ sig :=
  Pipeline.arrRefs_sub_ucRefs spec5 (by decide)

theorem W11_of (c : Dev nD) (r : Ref sig .tc) (h0 : r ≠ main_v32) : W11 m c (Proc.devRef .tc r) = W10 m c (Proc.devRef .tc r) := by
  unfold W11; rw [Function.update_of_ne (StableHlo.devRef_ne_of_ne h0)]

theorem W11_at0 (c : Dev nD) : W11 m c (Proc.devRef .tc main_v32) = out5 m c := by
  unfold W11; rw [Function.update_self]

theorem rest5_eq (c : Dev nD) : ∀ b ∈ (Pipeline.ucRefs τ sig) \ Pipeline.arrRefs (τ := τ) spec5, W11 m c b = W10 m c b := fun b hb => by
  have hn : b ∉ Pipeline.arrRefs (τ := τ) spec5 := (Finset.mem_sdiff.mp hb).2
  have h0 : b ≠ Proc.devRef .tc main_v32 := by rintro rfl; exact hn (arr5_mem 3)
  unfold W11; rw [Function.update_of_ne h0]

/-- After the region each window's array holds what the contents after it say. -/
def d5 (c : Dev nD) : Dat τ (Elt F) Unit ℕ (UR sig nD τ) ℕ cfg5 c := K5.dat (Ix := Unit) (U := UR sig nD τ) (Lvl := ℕ) Variants.none (at10 m) 0 c
theorem exit5 (c : Dev nD) : ∀ w : Fin cfg5.W, (d5 m c).arrAt w cfg5.N = W11 m c (Proc.devRef .tc (Pipeline.arrRef spec5 w))
  | 0 => ((d5 m c).arrAt_in 0 rfl _).trans ((K5.A_eq (Ix := Unit) (U := UR sig nD τ) (Lvl := ℕ) Variants.none (at10 m) 0 c 0).trans (W11_of m c (Pipeline.arrRef spec5 0) (by decide)).symm)
  | 1 => ((d5 m c).arrAt_in 1 rfl _).trans ((K5.A_eq (Ix := Unit) (U := UR sig nD τ) (Lvl := ℕ) Variants.none (at10 m) 0 c 1).trans (W11_of m c (Pipeline.arrRef spec5 1) (by decide)).symm)
  | 2 => ((d5 m c).arrAt_in 2 rfl _).trans ((K5.A_eq (Ix := Unit) (U := UR sig nD τ) (Lvl := ℕ) Variants.none (at10 m) 0 c 2).trans (W11_of m c (Pipeline.arrRef spec5 2) (by decide)).symm)
  | 3 => (show (d5 m c).arrAt 3 cfg5.N = out5 m c from rfl).trans (W11_at0 m c).symm
  | ⟨_ + 4, h⟩ => absurd h (Nat.not_lt.2 (Nat.le_add_left _ _))

-- a library definition stated over the pinned configuration unifies only when unification may unfold plain definitions in a
-- metavariable's type
set_option backward.isDefEq.respectTransparency.types false in
set_option maxHeartbeats 1000000 in
/-- The region's record: its arrays held at the contents before it and after it. -/
def R5 : RegionSeg (pcfgs (F := F)) adm (pd m) () defs₀ Variants.none L lv 5 :=
  Pipeline.RegionSeg.ofHeld (pcfgs (F := F)) adm (pd m) () defs₀ Variants.none L lv 5 0
    (fun c => iprop(∃ r, prngReg c r)) (fun c => iprop(∃ r, prngReg c r))
    launch5.toP rfl
    (fun c => (K5.body_obligation (U := UR sig nD τ) (Lvl := ℕ) Variants.none (at10 m) 0 () c).loose) (fun _ _ => rfl) (fun _ => rfl)
    (fun c => (pd m 5 c).share_full fun _ => rfl) (fun _ => .rfl) (fun _ => .rfl) (fun _ => 0) (cut 5)
    (fun c => iprop(StableHlo.held (c : Thread nD τ) ((Pipeline.ucRefs τ sig) \ Pipeline.arrRefs (τ := τ) spec5) (W10 m c) ∗ Er c))
    (W10 m) (W11 m) (fun _ _ => rfl)
    (fun c => exit5 m c)

theorem hpre5 (c : Dev nD) :
    iprop(StableHlo.held (c : Thread nD τ) (Pipeline.ucRefs τ sig) (V10 m (outs m) c) ∗ E 5 c) ⊢ (R5 m).pre c := by
  show _ ⊢ iprop(StableHlo.held (c : Thread nD τ) (Pipeline.arrRefs (τ := τ) spec5) (W10 m c) ∗ (∃ r, prngReg c r)
    ∗ (StableHlo.held (c : Thread nD τ) ((Pipeline.ucRefs τ sig) \ Pipeline.arrRefs (τ := τ) spec5) (W10 m c) ∗ Er c)
    ∗ ∃ W, owes (c : Thread nD τ) ((0 : Dev nD → CellTallies nD τ sig Unit) c) W)
  rw [V10_eq, StableHlo.held_sub_split (c : Thread nD τ) arr5_S (W10 m c)]
  iintro ⟨⟨Ha, Hr⟩, HE⟩
  ihave HE' := (hin 5 c) $$ HE
  icases HE' with ⟨Hp, HO, Hx⟩
  isplitl [Ha]; · iexact Ha
  isplitl [Hp]; · iexact Hp
  isplitl [Hr Hx]; · isplitl [Hr] <;> iassumption
  iexact HO

theorem hpost5 (c : Dev nD) :
    (R5 m).post c ⊢ iprop(StableHlo.held (c : Thread nD τ) (Pipeline.ucRefs τ sig) (V11 m (outs m) c) ∗ E 6 c) := by
  show iprop(StableHlo.held (c : Thread nD τ) (Pipeline.arrRefs (τ := τ) spec5) (W11 m c) ∗ (∃ r, prngReg c r)
    ∗ (StableHlo.held (c : Thread nD τ) ((Pipeline.ucRefs τ sig) \ Pipeline.arrRefs (τ := τ) spec5) (W10 m c) ∗ Er c)
    ∗ ∃ W, owes (c : Thread nD τ) ((0 : Dev nD → CellTallies nD τ sig Unit) c) W) ⊢ _
  rw [V11_eq, StableHlo.held_sub_split (c : Thread nD τ) arr5_S (W11 m c),
    StableHlo.held_congr (c : Thread nD τ) (S := (Pipeline.ucRefs τ sig) \ Pipeline.arrRefs (τ := τ) spec5) (rest5_eq m c)]
  iintro ⟨Ha, Hp, ⟨Hr, Hx⟩, HO⟩
  isplitl [Ha Hr]; · isplitl [Ha] <;> iassumption
  iapply (hout 6 c)
  isplitl [Hp]; · iexact Hp
  isplitl [HO]; · iexact HO
  iexact Hx

/-! ## Region 6 -/

theorem arr6_mem (w : Fin cfg6.W) : (Proc.devRef .tc (Pipeline.arrRef spec6 w) : DevRef τ sig) ∈ Pipeline.arrRefs (τ := τ) spec6 :=
  Finset.mem_map_of_mem _ (Finset.mem_image_of_mem _ (Finset.mem_univ w))
theorem arr6_S : Pipeline.arrRefs (τ := τ) spec6 ⊆ Pipeline.ucRefs τ sig :=
  Pipeline.arrRefs_sub_ucRefs spec6 (by decide)

theorem W13_of (c : Dev nD) (r : Ref sig .tc) (h0 : r ≠ main_v40) : W13 m c (Proc.devRef .tc r) = W12 m c (Proc.devRef .tc r) := by
  unfold W13; rw [Function.update_of_ne (StableHlo.devRef_ne_of_ne h0)]

theorem W13_at0 (c : Dev nD) : W13 m c (Proc.devRef .tc main_v40) = out6 m c := by
  unfold W13; rw [Function.update_self]

theorem rest6_eq (c : Dev nD) : ∀ b ∈ (Pipeline.ucRefs τ sig) \ Pipeline.arrRefs (τ := τ) spec6, W13 m c b = W12 m c b := fun b hb => by
  have hn : b ∉ Pipeline.arrRefs (τ := τ) spec6 := (Finset.mem_sdiff.mp hb).2
  have h0 : b ≠ Proc.devRef .tc main_v40 := by rintro rfl; exact hn (arr6_mem 4)
  unfold W13; rw [Function.update_of_ne h0]

/-- After the region each window's array holds what the contents after it say. -/
def d6 (c : Dev nD) : Dat τ (Elt F) Unit ℕ (UR sig nD τ) ℕ cfg6 c := K6.dat (Ix := Unit) (U := UR sig nD τ) (Lvl := ℕ) Variants.none (at12 m) 0 c
theorem exit6 (c : Dev nD) : ∀ w : Fin cfg6.W, (d6 m c).arrAt w cfg6.N = W13 m c (Proc.devRef .tc (Pipeline.arrRef spec6 w))
  | 0 => ((d6 m c).arrAt_in 0 rfl _).trans ((K6.A_eq (Ix := Unit) (U := UR sig nD τ) (Lvl := ℕ) Variants.none (at12 m) 0 c 0).trans (W13_of m c (Pipeline.arrRef spec6 0) (by decide)).symm)
  | 1 => ((d6 m c).arrAt_in 1 rfl _).trans ((K6.A_eq (Ix := Unit) (U := UR sig nD τ) (Lvl := ℕ) Variants.none (at12 m) 0 c 1).trans (W13_of m c (Pipeline.arrRef spec6 1) (by decide)).symm)
  | 2 => ((d6 m c).arrAt_in 2 rfl _).trans ((K6.A_eq (Ix := Unit) (U := UR sig nD τ) (Lvl := ℕ) Variants.none (at12 m) 0 c 2).trans (W13_of m c (Pipeline.arrRef spec6 2) (by decide)).symm)
  | 3 => ((d6 m c).arrAt_in 3 rfl _).trans ((K6.A_eq (Ix := Unit) (U := UR sig nD τ) (Lvl := ℕ) Variants.none (at12 m) 0 c 3).trans (W13_of m c (Pipeline.arrRef spec6 3) (by decide)).symm)
  | 4 => (show (d6 m c).arrAt 4 cfg6.N = out6 m c from rfl).trans (W13_at0 m c).symm
  | ⟨_ + 5, h⟩ => absurd h (Nat.not_lt.2 (Nat.le_add_left _ _))

-- a library definition stated over the pinned configuration unifies only when unification may unfold plain definitions in a
-- metavariable's type
set_option backward.isDefEq.respectTransparency.types false in
set_option maxHeartbeats 1000000 in
/-- The region's record: its arrays held at the contents before it and after it. -/
def R6 : RegionSeg (pcfgs (F := F)) adm (pd m) () defs₀ Variants.none L lv 6 :=
  Pipeline.RegionSeg.ofHeld (pcfgs (F := F)) adm (pd m) () defs₀ Variants.none L lv 6 0
    (fun c => iprop(∃ r, prngReg c r)) (fun c => iprop(∃ r, prngReg c r))
    launch6.toP rfl
    (fun c => (K6.body_obligation (U := UR sig nD τ) (Lvl := ℕ) Variants.none (at12 m) 0 () c).loose) (fun _ _ => rfl) (fun _ => rfl)
    (fun c => (pd m 6 c).share_full fun _ => rfl) (fun _ => .rfl) (fun _ => .rfl) (fun _ => 0) (cut 6)
    (fun c => iprop(StableHlo.held (c : Thread nD τ) ((Pipeline.ucRefs τ sig) \ Pipeline.arrRefs (τ := τ) spec6) (W12 m c) ∗ Er c))
    (W12 m) (W13 m) (fun _ _ => rfl)
    (fun c => exit6 m c)

theorem hpre6 (c : Dev nD) :
    iprop(StableHlo.held (c : Thread nD τ) (Pipeline.ucRefs τ sig) (V12 m (outs m) c) ∗ E 6 c) ⊢ (R6 m).pre c := by
  show _ ⊢ iprop(StableHlo.held (c : Thread nD τ) (Pipeline.arrRefs (τ := τ) spec6) (W12 m c) ∗ (∃ r, prngReg c r)
    ∗ (StableHlo.held (c : Thread nD τ) ((Pipeline.ucRefs τ sig) \ Pipeline.arrRefs (τ := τ) spec6) (W12 m c) ∗ Er c)
    ∗ ∃ W, owes (c : Thread nD τ) ((0 : Dev nD → CellTallies nD τ sig Unit) c) W)
  rw [V12_eq, StableHlo.held_sub_split (c : Thread nD τ) arr6_S (W12 m c)]
  iintro ⟨⟨Ha, Hr⟩, HE⟩
  ihave HE' := (hin 6 c) $$ HE
  icases HE' with ⟨Hp, HO, Hx⟩
  isplitl [Ha]; · iexact Ha
  isplitl [Hp]; · iexact Hp
  isplitl [Hr Hx]; · isplitl [Hr] <;> iassumption
  iexact HO

theorem hpost6 (c : Dev nD) :
    (R6 m).post c ⊢ iprop(StableHlo.held (c : Thread nD τ) (Pipeline.ucRefs τ sig) (V13 m (outs m) c) ∗ E 7 c) := by
  show iprop(StableHlo.held (c : Thread nD τ) (Pipeline.arrRefs (τ := τ) spec6) (W13 m c) ∗ (∃ r, prngReg c r)
    ∗ (StableHlo.held (c : Thread nD τ) ((Pipeline.ucRefs τ sig) \ Pipeline.arrRefs (τ := τ) spec6) (W12 m c) ∗ Er c)
    ∗ ∃ W, owes (c : Thread nD τ) ((0 : Dev nD → CellTallies nD τ sig Unit) c) W) ⊢ _
  rw [V13_eq, StableHlo.held_sub_split (c : Thread nD τ) arr6_S (W13 m c),
    StableHlo.held_congr (c : Thread nD τ) (S := (Pipeline.ucRefs τ sig) \ Pipeline.arrRefs (τ := τ) spec6) (rest6_eq m c)]
  iintro ⟨Ha, Hp, ⟨Hr, Hx⟩, HO⟩
  isplitl [Ha Hr]; · isplitl [Ha] <;> iassumption
  iapply (hout 7 c)
  isplitl [Hp]; · iexact Hp
  isplitl [HO]; · iexact HO
  iexact Hx

/-! ## Region 7 -/

theorem arr7_mem (w : Fin cfg7.W) : (Proc.devRef .tc (Pipeline.arrRef spec7 w) : DevRef τ sig) ∈ Pipeline.arrRefs (τ := τ) spec7 :=
  Finset.mem_map_of_mem _ (Finset.mem_image_of_mem _ (Finset.mem_univ w))
theorem arr7_S : Pipeline.arrRefs (τ := τ) spec7 ⊆ Pipeline.ucRefs τ sig :=
  Pipeline.arrRefs_sub_ucRefs spec7 (by decide)

theorem W15_of (c : Dev nD) (r : Ref sig .tc) (h0 : r ≠ main_v46) : W15 m c (Proc.devRef .tc r) = W14 m c (Proc.devRef .tc r) := by
  unfold W15; rw [Function.update_of_ne (StableHlo.devRef_ne_of_ne h0)]

theorem W15_at0 (c : Dev nD) : W15 m c (Proc.devRef .tc main_v46) = out7 m c := by
  unfold W15; rw [Function.update_self]

theorem rest7_eq (c : Dev nD) : ∀ b ∈ (Pipeline.ucRefs τ sig) \ Pipeline.arrRefs (τ := τ) spec7, W15 m c b = W14 m c b := fun b hb => by
  have hn : b ∉ Pipeline.arrRefs (τ := τ) spec7 := (Finset.mem_sdiff.mp hb).2
  have h0 : b ≠ Proc.devRef .tc main_v46 := by rintro rfl; exact hn (arr7_mem 3)
  unfold W15; rw [Function.update_of_ne h0]

/-- After the region each window's array holds what the contents after it say. -/
def d7 (c : Dev nD) : Dat τ (Elt F) Unit ℕ (UR sig nD τ) ℕ cfg7 c := K7.dat (Ix := Unit) (U := UR sig nD τ) (Lvl := ℕ) Variants.none (at14 m) 0 c
theorem exit7 (c : Dev nD) : ∀ w : Fin cfg7.W, (d7 m c).arrAt w cfg7.N = W15 m c (Proc.devRef .tc (Pipeline.arrRef spec7 w))
  | 0 => ((d7 m c).arrAt_in 0 rfl _).trans ((K7.A_eq (Ix := Unit) (U := UR sig nD τ) (Lvl := ℕ) Variants.none (at14 m) 0 c 0).trans (W15_of m c (Pipeline.arrRef spec7 0) (by decide)).symm)
  | 1 => ((d7 m c).arrAt_in 1 rfl _).trans ((K7.A_eq (Ix := Unit) (U := UR sig nD τ) (Lvl := ℕ) Variants.none (at14 m) 0 c 1).trans (W15_of m c (Pipeline.arrRef spec7 1) (by decide)).symm)
  | 2 => ((d7 m c).arrAt_in 2 rfl _).trans ((K7.A_eq (Ix := Unit) (U := UR sig nD τ) (Lvl := ℕ) Variants.none (at14 m) 0 c 2).trans (W15_of m c (Pipeline.arrRef spec7 2) (by decide)).symm)
  | 3 => (show (d7 m c).arrAt 3 cfg7.N = out7 m c from rfl).trans (W15_at0 m c).symm
  | ⟨_ + 4, h⟩ => absurd h (Nat.not_lt.2 (Nat.le_add_left _ _))

-- a library definition stated over the pinned configuration unifies only when unification may unfold plain definitions in a
-- metavariable's type
set_option backward.isDefEq.respectTransparency.types false in
set_option maxHeartbeats 1000000 in
/-- The region's record: its arrays held at the contents before it and after it. -/
def R7 : RegionSeg (pcfgs (F := F)) adm (pd m) () defs₀ Variants.none L lv 7 :=
  Pipeline.RegionSeg.ofHeld (pcfgs (F := F)) adm (pd m) () defs₀ Variants.none L lv 7 0
    (fun c => iprop(∃ r, prngReg c r)) (fun c => iprop(∃ r, prngReg c r))
    launch7.toP rfl
    (fun c => (K7.body_obligation (U := UR sig nD τ) (Lvl := ℕ) Variants.none (at14 m) 0 () c).loose) (fun _ _ => rfl) (fun _ => rfl)
    (fun c => (pd m 7 c).share_full fun _ => rfl) (fun _ => .rfl) (fun _ => .rfl) (fun _ => 0) (cut 7)
    (fun c => iprop(StableHlo.held (c : Thread nD τ) ((Pipeline.ucRefs τ sig) \ Pipeline.arrRefs (τ := τ) spec7) (W14 m c) ∗ Er c))
    (W14 m) (W15 m) (fun _ _ => rfl)
    (fun c => exit7 m c)

theorem hpre7 (c : Dev nD) :
    iprop(StableHlo.held (c : Thread nD τ) (Pipeline.ucRefs τ sig) (V14 m (outs m) c) ∗ E 7 c) ⊢ (R7 m).pre c := by
  show _ ⊢ iprop(StableHlo.held (c : Thread nD τ) (Pipeline.arrRefs (τ := τ) spec7) (W14 m c) ∗ (∃ r, prngReg c r)
    ∗ (StableHlo.held (c : Thread nD τ) ((Pipeline.ucRefs τ sig) \ Pipeline.arrRefs (τ := τ) spec7) (W14 m c) ∗ Er c)
    ∗ ∃ W, owes (c : Thread nD τ) ((0 : Dev nD → CellTallies nD τ sig Unit) c) W)
  rw [V14_eq, StableHlo.held_sub_split (c : Thread nD τ) arr7_S (W14 m c)]
  iintro ⟨⟨Ha, Hr⟩, HE⟩
  ihave HE' := (hin 7 c) $$ HE
  icases HE' with ⟨Hp, HO, Hx⟩
  isplitl [Ha]; · iexact Ha
  isplitl [Hp]; · iexact Hp
  isplitl [Hr Hx]; · isplitl [Hr] <;> iassumption
  iexact HO

theorem hpost7 (c : Dev nD) :
    (R7 m).post c ⊢ iprop(StableHlo.held (c : Thread nD τ) (Pipeline.ucRefs τ sig) (V15 m (outs m) c) ∗ E 8 c) := by
  show iprop(StableHlo.held (c : Thread nD τ) (Pipeline.arrRefs (τ := τ) spec7) (W15 m c) ∗ (∃ r, prngReg c r)
    ∗ (StableHlo.held (c : Thread nD τ) ((Pipeline.ucRefs τ sig) \ Pipeline.arrRefs (τ := τ) spec7) (W14 m c) ∗ Er c)
    ∗ ∃ W, owes (c : Thread nD τ) ((0 : Dev nD → CellTallies nD τ sig Unit) c) W) ⊢ _
  rw [V15_eq, StableHlo.held_sub_split (c : Thread nD τ) arr7_S (W15 m c),
    StableHlo.held_congr (c : Thread nD τ) (S := (Pipeline.ucRefs τ sig) \ Pipeline.arrRefs (τ := τ) spec7) (rest7_eq m c)]
  iintro ⟨Ha, Hp, ⟨Hr, Hx⟩, HO⟩
  isplitl [Ha Hr]; · isplitl [Ha] <;> iassumption
  iapply (hout 8 c)
  isplitl [Hp]; · iexact Hp
  isplitl [HO]; · iexact HO
  iexact Hx

/-! ## Region 8 -/

theorem arr8_mem (w : Fin cfg8.W) : (Proc.devRef .tc (Pipeline.arrRef spec8 w) : DevRef τ sig) ∈ Pipeline.arrRefs (τ := τ) spec8 :=
  Finset.mem_map_of_mem _ (Finset.mem_image_of_mem _ (Finset.mem_univ w))
theorem arr8_S : Pipeline.arrRefs (τ := τ) spec8 ⊆ Pipeline.ucRefs τ sig :=
  Pipeline.arrRefs_sub_ucRefs spec8 (by decide)

theorem W17_of (c : Dev nD) (r : Ref sig .tc) (h0 : r ≠ main_v54) : W17 m c (Proc.devRef .tc r) = W16 m c (Proc.devRef .tc r) := by
  unfold W17; rw [Function.update_of_ne (StableHlo.devRef_ne_of_ne h0)]

theorem W17_at0 (c : Dev nD) : W17 m c (Proc.devRef .tc main_v54) = out8 m c := by
  unfold W17; rw [Function.update_self]

theorem rest8_eq (c : Dev nD) : ∀ b ∈ (Pipeline.ucRefs τ sig) \ Pipeline.arrRefs (τ := τ) spec8, W17 m c b = W16 m c b := fun b hb => by
  have hn : b ∉ Pipeline.arrRefs (τ := τ) spec8 := (Finset.mem_sdiff.mp hb).2
  have h0 : b ≠ Proc.devRef .tc main_v54 := by rintro rfl; exact hn (arr8_mem 4)
  unfold W17; rw [Function.update_of_ne h0]

/-- After the region each window's array holds what the contents after it say. -/
def d8 (c : Dev nD) : Dat τ (Elt F) Unit ℕ (UR sig nD τ) ℕ cfg8 c := K8.dat (Ix := Unit) (U := UR sig nD τ) (Lvl := ℕ) Variants.none (at16 m) 0 c
theorem exit8 (c : Dev nD) : ∀ w : Fin cfg8.W, (d8 m c).arrAt w cfg8.N = W17 m c (Proc.devRef .tc (Pipeline.arrRef spec8 w))
  | 0 => ((d8 m c).arrAt_in 0 rfl _).trans ((K8.A_eq (Ix := Unit) (U := UR sig nD τ) (Lvl := ℕ) Variants.none (at16 m) 0 c 0).trans (W17_of m c (Pipeline.arrRef spec8 0) (by decide)).symm)
  | 1 => ((d8 m c).arrAt_in 1 rfl _).trans ((K8.A_eq (Ix := Unit) (U := UR sig nD τ) (Lvl := ℕ) Variants.none (at16 m) 0 c 1).trans (W17_of m c (Pipeline.arrRef spec8 1) (by decide)).symm)
  | 2 => ((d8 m c).arrAt_in 2 rfl _).trans ((K8.A_eq (Ix := Unit) (U := UR sig nD τ) (Lvl := ℕ) Variants.none (at16 m) 0 c 2).trans (W17_of m c (Pipeline.arrRef spec8 2) (by decide)).symm)
  | 3 => ((d8 m c).arrAt_in 3 rfl _).trans ((K8.A_eq (Ix := Unit) (U := UR sig nD τ) (Lvl := ℕ) Variants.none (at16 m) 0 c 3).trans (W17_of m c (Pipeline.arrRef spec8 3) (by decide)).symm)
  | 4 => (show (d8 m c).arrAt 4 cfg8.N = out8 m c from rfl).trans (W17_at0 m c).symm
  | ⟨_ + 5, h⟩ => absurd h (Nat.not_lt.2 (Nat.le_add_left _ _))

-- a library definition stated over the pinned configuration unifies only when unification may unfold plain definitions in a
-- metavariable's type
set_option backward.isDefEq.respectTransparency.types false in
set_option maxHeartbeats 1000000 in
/-- The region's record: its arrays held at the contents before it and after it. -/
def R8 : RegionSeg (pcfgs (F := F)) adm (pd m) () defs₀ Variants.none L lv 8 :=
  Pipeline.RegionSeg.ofHeld (pcfgs (F := F)) adm (pd m) () defs₀ Variants.none L lv 8 0
    (fun c => iprop(∃ r, prngReg c r)) (fun c => iprop(∃ r, prngReg c r))
    launch8.toP rfl
    (fun c => (K8.body_obligation (U := UR sig nD τ) (Lvl := ℕ) Variants.none (at16 m) 0 () c).loose) (fun _ _ => rfl) (fun _ => rfl)
    (fun c => (pd m 8 c).share_full fun _ => rfl) (fun _ => .rfl) (fun _ => .rfl) (fun _ => 0) (cut 8)
    (fun c => iprop(StableHlo.held (c : Thread nD τ) ((Pipeline.ucRefs τ sig) \ Pipeline.arrRefs (τ := τ) spec8) (W16 m c) ∗ Er c))
    (W16 m) (W17 m) (fun _ _ => rfl)
    (fun c => exit8 m c)

theorem hpre8 (c : Dev nD) :
    iprop(StableHlo.held (c : Thread nD τ) (Pipeline.ucRefs τ sig) (V16 m (outs m) c) ∗ E 8 c) ⊢ (R8 m).pre c := by
  show _ ⊢ iprop(StableHlo.held (c : Thread nD τ) (Pipeline.arrRefs (τ := τ) spec8) (W16 m c) ∗ (∃ r, prngReg c r)
    ∗ (StableHlo.held (c : Thread nD τ) ((Pipeline.ucRefs τ sig) \ Pipeline.arrRefs (τ := τ) spec8) (W16 m c) ∗ Er c)
    ∗ ∃ W, owes (c : Thread nD τ) ((0 : Dev nD → CellTallies nD τ sig Unit) c) W)
  rw [V16_eq, StableHlo.held_sub_split (c : Thread nD τ) arr8_S (W16 m c)]
  iintro ⟨⟨Ha, Hr⟩, HE⟩
  ihave HE' := (hin 8 c) $$ HE
  icases HE' with ⟨Hp, HO, Hx⟩
  isplitl [Ha]; · iexact Ha
  isplitl [Hp]; · iexact Hp
  isplitl [Hr Hx]; · isplitl [Hr] <;> iassumption
  iexact HO

theorem hpost8 (c : Dev nD) :
    (R8 m).post c ⊢ iprop(StableHlo.held (c : Thread nD τ) (Pipeline.ucRefs τ sig) (V17 m (outs m) c) ∗ E 9 c) := by
  show iprop(StableHlo.held (c : Thread nD τ) (Pipeline.arrRefs (τ := τ) spec8) (W17 m c) ∗ (∃ r, prngReg c r)
    ∗ (StableHlo.held (c : Thread nD τ) ((Pipeline.ucRefs τ sig) \ Pipeline.arrRefs (τ := τ) spec8) (W16 m c) ∗ Er c)
    ∗ ∃ W, owes (c : Thread nD τ) ((0 : Dev nD → CellTallies nD τ sig Unit) c) W) ⊢ _
  rw [V17_eq, StableHlo.held_sub_split (c : Thread nD τ) arr8_S (W17 m c),
    StableHlo.held_congr (c : Thread nD τ) (S := (Pipeline.ucRefs τ sig) \ Pipeline.arrRefs (τ := τ) spec8) (rest8_eq m c)]
  iintro ⟨Ha, Hp, ⟨Hr, Hx⟩, HO⟩
  isplitl [Ha Hr]; · isplitl [Ha] <;> iassumption
  iapply (hout 9 c)
  isplitl [Hp]; · iexact Hp
  isplitl [HO]; · iexact HO
  iexact Hx

/-! ## Region 9 -/

theorem arr9_mem (w : Fin cfg9.W) : (Proc.devRef .tc (Pipeline.arrRef spec9 w) : DevRef τ sig) ∈ Pipeline.arrRefs (τ := τ) spec9 :=
  Finset.mem_map_of_mem _ (Finset.mem_image_of_mem _ (Finset.mem_univ w))
theorem arr9_S : Pipeline.arrRefs (τ := τ) spec9 ⊆ Pipeline.ucRefs τ sig :=
  Pipeline.arrRefs_sub_ucRefs spec9 (by decide)

theorem W19_of (c : Dev nD) (r : Ref sig .tc) (h0 : r ≠ main_v60) : W19 m c (Proc.devRef .tc r) = W18 m c (Proc.devRef .tc r) := by
  unfold W19; rw [Function.update_of_ne (StableHlo.devRef_ne_of_ne h0)]

theorem W19_at0 (c : Dev nD) : W19 m c (Proc.devRef .tc main_v60) = out9 m c := by
  unfold W19; rw [Function.update_self]

theorem rest9_eq (c : Dev nD) : ∀ b ∈ (Pipeline.ucRefs τ sig) \ Pipeline.arrRefs (τ := τ) spec9, W19 m c b = W18 m c b := fun b hb => by
  have hn : b ∉ Pipeline.arrRefs (τ := τ) spec9 := (Finset.mem_sdiff.mp hb).2
  have h0 : b ≠ Proc.devRef .tc main_v60 := by rintro rfl; exact hn (arr9_mem 3)
  unfold W19; rw [Function.update_of_ne h0]

/-- After the region each window's array holds what the contents after it say. -/
def d9 (c : Dev nD) : Dat τ (Elt F) Unit ℕ (UR sig nD τ) ℕ cfg9 c := K9.dat (Ix := Unit) (U := UR sig nD τ) (Lvl := ℕ) Variants.none (at18 m) 0 c
theorem exit9 (c : Dev nD) : ∀ w : Fin cfg9.W, (d9 m c).arrAt w cfg9.N = W19 m c (Proc.devRef .tc (Pipeline.arrRef spec9 w))
  | 0 => ((d9 m c).arrAt_in 0 rfl _).trans ((K9.A_eq (Ix := Unit) (U := UR sig nD τ) (Lvl := ℕ) Variants.none (at18 m) 0 c 0).trans (W19_of m c (Pipeline.arrRef spec9 0) (by decide)).symm)
  | 1 => ((d9 m c).arrAt_in 1 rfl _).trans ((K9.A_eq (Ix := Unit) (U := UR sig nD τ) (Lvl := ℕ) Variants.none (at18 m) 0 c 1).trans (W19_of m c (Pipeline.arrRef spec9 1) (by decide)).symm)
  | 2 => ((d9 m c).arrAt_in 2 rfl _).trans ((K9.A_eq (Ix := Unit) (U := UR sig nD τ) (Lvl := ℕ) Variants.none (at18 m) 0 c 2).trans (W19_of m c (Pipeline.arrRef spec9 2) (by decide)).symm)
  | 3 => (show (d9 m c).arrAt 3 cfg9.N = out9 m c from rfl).trans (W19_at0 m c).symm
  | ⟨_ + 4, h⟩ => absurd h (Nat.not_lt.2 (Nat.le_add_left _ _))

-- a library definition stated over the pinned configuration unifies only when unification may unfold plain definitions in a
-- metavariable's type
set_option backward.isDefEq.respectTransparency.types false in
set_option maxHeartbeats 1000000 in
/-- The region's record: its arrays held at the contents before it and after it. -/
def R9 : RegionSeg (pcfgs (F := F)) adm (pd m) () defs₀ Variants.none L lv 9 :=
  Pipeline.RegionSeg.ofHeld (pcfgs (F := F)) adm (pd m) () defs₀ Variants.none L lv 9 0
    (fun c => iprop(∃ r, prngReg c r)) (fun c => iprop(∃ r, prngReg c r))
    launch9.toP rfl
    (fun c => (K9.body_obligation (U := UR sig nD τ) (Lvl := ℕ) Variants.none (at18 m) 0 () c).loose) (fun _ _ => rfl) (fun _ => rfl)
    (fun c => (pd m 9 c).share_full fun _ => rfl) (fun _ => .rfl) (fun _ => .rfl) (fun _ => 0) (cut 9)
    (fun c => iprop(StableHlo.held (c : Thread nD τ) ((Pipeline.ucRefs τ sig) \ Pipeline.arrRefs (τ := τ) spec9) (W18 m c) ∗ Er c))
    (W18 m) (W19 m) (fun _ _ => rfl)
    (fun c => exit9 m c)

theorem hpre9 (c : Dev nD) :
    iprop(StableHlo.held (c : Thread nD τ) (Pipeline.ucRefs τ sig) (V18 m (outs m) c) ∗ E 9 c) ⊢ (R9 m).pre c := by
  show _ ⊢ iprop(StableHlo.held (c : Thread nD τ) (Pipeline.arrRefs (τ := τ) spec9) (W18 m c) ∗ (∃ r, prngReg c r)
    ∗ (StableHlo.held (c : Thread nD τ) ((Pipeline.ucRefs τ sig) \ Pipeline.arrRefs (τ := τ) spec9) (W18 m c) ∗ Er c)
    ∗ ∃ W, owes (c : Thread nD τ) ((0 : Dev nD → CellTallies nD τ sig Unit) c) W)
  rw [V18_eq, StableHlo.held_sub_split (c : Thread nD τ) arr9_S (W18 m c)]
  iintro ⟨⟨Ha, Hr⟩, HE⟩
  ihave HE' := (hin 9 c) $$ HE
  icases HE' with ⟨Hp, HO, Hx⟩
  isplitl [Ha]; · iexact Ha
  isplitl [Hp]; · iexact Hp
  isplitl [Hr Hx]; · isplitl [Hr] <;> iassumption
  iexact HO

theorem hpost9 (c : Dev nD) :
    (R9 m).post c ⊢ iprop(StableHlo.held (c : Thread nD τ) (Pipeline.ucRefs τ sig) (V19 m (outs m) c) ∗ E 10 c) := by
  show iprop(StableHlo.held (c : Thread nD τ) (Pipeline.arrRefs (τ := τ) spec9) (W19 m c) ∗ (∃ r, prngReg c r)
    ∗ (StableHlo.held (c : Thread nD τ) ((Pipeline.ucRefs τ sig) \ Pipeline.arrRefs (τ := τ) spec9) (W18 m c) ∗ Er c)
    ∗ ∃ W, owes (c : Thread nD τ) ((0 : Dev nD → CellTallies nD τ sig Unit) c) W) ⊢ _
  rw [V19_eq, StableHlo.held_sub_split (c : Thread nD τ) arr9_S (W19 m c),
    StableHlo.held_congr (c : Thread nD τ) (S := (Pipeline.ucRefs τ sig) \ Pipeline.arrRefs (τ := τ) spec9) (rest9_eq m c)]
  iintro ⟨Ha, Hp, ⟨Hr, Hx⟩, HO⟩
  isplitl [Ha Hr]; · isplitl [Ha] <;> iassumption
  iapply (hout 10 c)
  isplitl [Hp]; · iexact Hp
  isplitl [HO]; · iexact HO
  iexact Hx

/-! ## Region 10 -/

theorem arr10_mem (w : Fin cfg10.W) : (Proc.devRef .tc (Pipeline.arrRef spec10 w) : DevRef τ sig) ∈ Pipeline.arrRefs (τ := τ) spec10 :=
  Finset.mem_map_of_mem _ (Finset.mem_image_of_mem _ (Finset.mem_univ w))
theorem arr10_S : Pipeline.arrRefs (τ := τ) spec10 ⊆ Pipeline.ucRefs τ sig :=
  Pipeline.arrRefs_sub_ucRefs spec10 (by decide)

theorem W21_of (c : Dev nD) (r : Ref sig .tc) (h0 : r ≠ main_v65_0) (h1 : r ≠ main_v65_1) : W21 m c (Proc.devRef .tc r) = W20 m c (Proc.devRef .tc r) := by
  unfold W21; rw [Function.update_of_ne (StableHlo.devRef_ne_of_ne h1), Function.update_of_ne (StableHlo.devRef_ne_of_ne h0)]

theorem W21_at0 (c : Dev nD) : W21 m c (Proc.devRef .tc main_v65_0) = out10_0 m c := by
  unfold W21; rw [Function.update_of_ne (StableHlo.devRef_ne_of_ne (by decide)), Function.update_self]

theorem W21_at1 (c : Dev nD) : W21 m c (Proc.devRef .tc main_v65_1) = out10_1 m c := by
  unfold W21; rw [Function.update_self]

theorem rest10_eq (c : Dev nD) : ∀ b ∈ (Pipeline.ucRefs τ sig) \ Pipeline.arrRefs (τ := τ) spec10, W21 m c b = W20 m c b := fun b hb => by
  have hn : b ∉ Pipeline.arrRefs (τ := τ) spec10 := (Finset.mem_sdiff.mp hb).2
  have h0 : b ≠ Proc.devRef .tc main_v65_0 := by rintro rfl; exact hn (arr10_mem 5)
  have h1 : b ≠ Proc.devRef .tc main_v65_1 := by rintro rfl; exact hn (arr10_mem 6)
  unfold W21; rw [Function.update_of_ne h1, Function.update_of_ne h0]

/-- After the region each window's array holds what the contents after it say. -/
def d10 (c : Dev nD) : Dat τ (Elt F) Unit ℕ (UR sig nD τ) ℕ cfg10 c := K10.dat (Ix := Unit) (U := UR sig nD τ) (Lvl := ℕ) Variants.none (at20 m) 0 c
theorem exit10 (c : Dev nD) : ∀ w : Fin cfg10.W, (d10 m c).arrAt w cfg10.N = W21 m c (Proc.devRef .tc (Pipeline.arrRef spec10 w))
  | 0 => ((d10 m c).arrAt_in 0 rfl _).trans ((K10.A_eq (Ix := Unit) (U := UR sig nD τ) (Lvl := ℕ) Variants.none (at20 m) 0 c 0).trans (W21_of m c (Pipeline.arrRef spec10 0) (by decide) (by decide)).symm)
  | 1 => ((d10 m c).arrAt_in 1 rfl _).trans ((K10.A_eq (Ix := Unit) (U := UR sig nD τ) (Lvl := ℕ) Variants.none (at20 m) 0 c 1).trans (W21_of m c (Pipeline.arrRef spec10 1) (by decide) (by decide)).symm)
  | 2 => ((d10 m c).arrAt_in 2 rfl _).trans ((K10.A_eq (Ix := Unit) (U := UR sig nD τ) (Lvl := ℕ) Variants.none (at20 m) 0 c 2).trans (W21_of m c (Pipeline.arrRef spec10 2) (by decide) (by decide)).symm)
  | 3 => ((d10 m c).arrAt_in 3 rfl _).trans ((K10.A_eq (Ix := Unit) (U := UR sig nD τ) (Lvl := ℕ) Variants.none (at20 m) 0 c 3).trans (W21_of m c (Pipeline.arrRef spec10 3) (by decide) (by decide)).symm)
  | 4 => ((d10 m c).arrAt_in 4 rfl _).trans ((K10.A_eq (Ix := Unit) (U := UR sig nD τ) (Lvl := ℕ) Variants.none (at20 m) 0 c 4).trans (W21_of m c (Pipeline.arrRef spec10 4) (by decide) (by decide)).symm)
  | 5 => (show (d10 m c).arrAt 5 cfg10.N = out10_0 m c from rfl).trans (W21_at0 m c).symm
  | 6 => (show (d10 m c).arrAt 6 cfg10.N = out10_1 m c from rfl).trans (W21_at1 m c).symm
  | ⟨_ + 7, h⟩ => absurd h (Nat.not_lt.2 (Nat.le_add_left _ _))

-- a library definition stated over the pinned configuration unifies only when unification may unfold plain definitions in a
-- metavariable's type
set_option backward.isDefEq.respectTransparency.types false in
set_option maxHeartbeats 1000000 in
/-- The region's record: its arrays held at the contents before it and after it. -/
def R10 : RegionSeg (pcfgs (F := F)) adm (pd m) () defs₀ Variants.none L lv 10 :=
  Pipeline.RegionSeg.ofHeld (pcfgs (F := F)) adm (pd m) () defs₀ Variants.none L lv 10 0
    (fun c => iprop(∃ r, prngReg c r)) (fun c => iprop(∃ r, prngReg c r))
    launch10.toP rfl
    (fun c => (K10.body_obligation (U := UR sig nD τ) (Lvl := ℕ) Variants.none (at20 m) 0 () c).loose) (fun _ _ => rfl) (fun _ => rfl)
    (fun c => (pd m 10 c).share_full fun _ => rfl) (fun _ => .rfl) (fun _ => .rfl) (fun _ => 0) (cut 10)
    (fun c => iprop(StableHlo.held (c : Thread nD τ) ((Pipeline.ucRefs τ sig) \ Pipeline.arrRefs (τ := τ) spec10) (W20 m c) ∗ Er c))
    (W20 m) (W21 m) (fun _ _ => rfl)
    (fun c => exit10 m c)

theorem hpre10 (c : Dev nD) :
    iprop(StableHlo.held (c : Thread nD τ) (Pipeline.ucRefs τ sig) (V20 m (outs m) c) ∗ E 10 c) ⊢ (R10 m).pre c := by
  show _ ⊢ iprop(StableHlo.held (c : Thread nD τ) (Pipeline.arrRefs (τ := τ) spec10) (W20 m c) ∗ (∃ r, prngReg c r)
    ∗ (StableHlo.held (c : Thread nD τ) ((Pipeline.ucRefs τ sig) \ Pipeline.arrRefs (τ := τ) spec10) (W20 m c) ∗ Er c)
    ∗ ∃ W, owes (c : Thread nD τ) ((0 : Dev nD → CellTallies nD τ sig Unit) c) W)
  rw [V20_eq, StableHlo.held_sub_split (c : Thread nD τ) arr10_S (W20 m c)]
  iintro ⟨⟨Ha, Hr⟩, HE⟩
  ihave HE' := (hin 10 c) $$ HE
  icases HE' with ⟨Hp, HO, Hx⟩
  isplitl [Ha]; · iexact Ha
  isplitl [Hp]; · iexact Hp
  isplitl [Hr Hx]; · isplitl [Hr] <;> iassumption
  iexact HO

theorem hpost10 (c : Dev nD) :
    (R10 m).post c ⊢ iprop(StableHlo.held (c : Thread nD τ) (Pipeline.ucRefs τ sig) (V21 m (outs m) c) ∗ E 11 c) := by
  show iprop(StableHlo.held (c : Thread nD τ) (Pipeline.arrRefs (τ := τ) spec10) (W21 m c) ∗ (∃ r, prngReg c r)
    ∗ (StableHlo.held (c : Thread nD τ) ((Pipeline.ucRefs τ sig) \ Pipeline.arrRefs (τ := τ) spec10) (W20 m c) ∗ Er c)
    ∗ ∃ W, owes (c : Thread nD τ) ((0 : Dev nD → CellTallies nD τ sig Unit) c) W) ⊢ _
  rw [V21_eq, StableHlo.held_sub_split (c : Thread nD τ) arr10_S (W21 m c),
    StableHlo.held_congr (c : Thread nD τ) (S := (Pipeline.ucRefs τ sig) \ Pipeline.arrRefs (τ := τ) spec10) (rest10_eq m c)]
  iintro ⟨Ha, Hp, ⟨Hr, Hx⟩, HO⟩
  isplitl [Ha Hr]; · isplitl [Ha] <;> iassumption
  iapply (hout 11 c)
  isplitl [Hp]; · iexact Hp
  isplitl [HO]; · iexact HO
  iexact Hx

/-! ## The run -/

theorem hE11 (c : Dev nD) : E (F := F) 11 c ⊢ iprop(∃ W, owes (c : Thread nD τ) (0 : CellTallies nD τ sig Unit) W) := by
  unfold E; iintro ⟨-, HO⟩; iexact HO

/-- The launch makes the first rest state on a core. -/
theorem hE0c (c : Dev nD) : iprop(unscopedSems0 c ∗ owes (c : Thread nD τ) ((0 : Dev nD → CellTallies nD τ sig Unit) c) ∅
        ∗ Pipeline.launchCred 0 c ∗ prngReg c (ρ c) ∗ (BI.emp : sProp 𝕄)) ⊢ (E 0 c : sProp 𝕄) := by
  unfold E
  iintro ⟨-, HO, -, Hp, -⟩
  isplitl [Hp]; · iexists _; iexact Hp
  iexists ∅; iexact HO

/-- The launch makes the first rest state on every core. -/
theorem hE0 : iprop((bigSep Finset.univ fun c : Dev nD => iprop(unscopedSems0 c ∗ owes (c : Thread nD τ) ((0 : Dev nD → CellTallies nD τ sig Unit) c) ∅
        ∗ Pipeline.launchCred 0 c ∗ prngReg c (ρ c) ∗ (BI.emp : sProp 𝕄))) ∗ levAts L lv)
      ⊢ (|={Set.univ}=> bigSep Finset.univ (E 0) : sProp 𝕄) := by
  have h : (bigSep Finset.univ fun c : Dev nD => iprop(unscopedSems0 c ∗ owes (c : Thread nD τ) ((0 : Dev nD → CellTallies nD τ sig Unit) c) ∅
        ∗ Pipeline.launchCred 0 c ∗ prngReg c (ρ c) ∗ (BI.emp : sProp 𝕄))) ⊢ (bigSep Finset.univ (E 0) : sProp 𝕄) :=
    bigSep_mono fun c _ => hE0c ρ c
  iintro ⟨H, -⟩
  imodintro
  iapply h
  iexact H

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
      ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

-- the implicit arguments are found by unifying the conclusion, which takes unfolding plain definitions in a metavariable's type
set_option backward.isDefEq.respectTransparency.types false in
/-- THE RUN: every weakly fair execution ends, nothing faulting, with every held buffer at the end of the chain. -/
theorem run : θ_run defs (onTc (τ := τ) (main (F := F))) ⟨m, fun _ => 0, ρ⟩ (fun r =>
    (∀ c : Dev nD, ∀ b ∈ Pipeline.ucRefs τ sig, r.2.mem ((c : Thread nD τ).1, b) = W22 m c b) ∧ r.2.sem = fun _ => 0) := by
  refine Pipeline.θ_run_regions_kit_dev_sems (pcfgs (F := F)) adm (pd m) () cellOf_inj emb₁ defs₀ Variants.none L lv m ρ main
    (segs m (outs m) Variants.none L lv E () (pd m) (R0 m) (R1 m) (R2 m) (R3 m) (R4 m) (R5 m) (R6 m) (R7 m) (R8 m) (R9 m) (R10 m))
    (fun c Q => by
      rewrite [main_chain c, Seg.run_eq_chain,
        show (segs m (outs m) Variants.none L lv E () (pd m) (R0 m) (R1 m) (R2 m) (R3 m) (R4 m) (R5 m) (R6 m) (R7 m) (R8 m) (R9 m) (R10 m) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11 ] from rfl]
      dsimp (config := { failIfUnchanged := false }) only
      exact .rfl)
    (fun c => by simp only [segs, Seg.pipes_host, Seg.pipes_region, Seg.pipes_nil]; decide) 0 hL (fun _ => BI.emp)
    (initOf (Pipeline.cells cfgs cellOf_inj) (Pipeline.launchToks cfgs cellOf_inj)) hu₀
    (T₀ := fun c => iprop(StableHlo.held (c : Thread nD τ) (Pipeline.ucRefs τ sig) (V0 m c) ∗ E 0 c))
    (Tₙ := fun c => StableHlo.held (c : Thread nD τ) (Pipeline.ucRefs τ sig) (V22 m (outs m) c))
    (hch := fun c => ⟨.rfl, hpre0 m c, (hpost0 m c).trans (hpre1 m c), hpost1 m c, hpre2 m c, hpost2 m c, hpre3 m c, hpost3 m c, hpre4 m c, hpost4 m c, hpre5 m c, hpost5 m c, hpre6 m c, hpost6 m c, hpre7 m c, hpost7 m c, hpre8 m c, hpost8 m c, hpre9 m c, hpost9 m c, hpre10 m c, hpost10 m c, sep_mono .rfl (hE11 c)⟩)
    (hinit := ?_) (QY := fun c s => ∀ b ∈ Pipeline.ucRefs τ sig, s.mem ((c : Thread nD τ).1, b) = W22 m c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred 0 c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred 0 c ∗ prngReg c (ρ c) ∗ (BI.emp : sProp 𝕄)))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: every held buffer read off the last valuation
    rw [V22_eq]
    unfold StableHlo.held
    iintro ⟨Hh, HSI⟩
    ihave Hr := (pointsTo_read_all (Pipeline.ucRefs τ sig) (fun b => ((c : Thread nD τ).1, b)) (W22 m c) s') $$ [Hh HSI]
    · isplitl [Hh] <;> iassumption
    icases Hr with ⟨%h, HSI⟩
    imodintro
    isplitr
    · ipureintro; exact h
    · iexact HSI

/-- A TensorCore's unscoped reference is among the held buffers. -/
theorem mem_uc (r : Ref sig .tc) (h : r.isScoped = false) : (Proc.devRef .tc r : DevRef τ sig) ∈ Pipeline.ucRefs τ sig :=
  Finset.mem_filter.mpr ⟨StableHlo.devRef_mem_tcRefs r, by simp [h]⟩

/-- No item writes an argument's array. -/
theorem W22_main_arg0 (c : Dev nD) : W22 m c (Proc.devRef .tc main_arg0) = m ((c : Thread nD τ).loc main_arg0) :=
  (congrFun (V22_eq m c) _).symm.trans (V22_main_arg0 m (outs m) c)
theorem W22_main_arg1 (c : Dev nD) : W22 m c (Proc.devRef .tc main_arg1) = m ((c : Thread nD τ).loc main_arg1) :=
  (congrFun (V22_eq m c) _).symm.trans (V22_main_arg1 m (outs m) c)
theorem W22_main_arg2 (c : Dev nD) : W22 m c (Proc.devRef .tc main_arg2) = m ((c : Thread nD τ).loc main_arg2) :=
  (congrFun (V22_eq m c) _).symm.trans (V22_main_arg2 m (outs m) c)
theorem W22_main_arg3 (c : Dev nD) : W22 m c (Proc.devRef .tc main_arg3) = m ((c : Thread nD τ).loc main_arg3) :=
  (congrFun (V22_eq m c) _).symm.trans (V22_main_arg3 m (outs m) c)
theorem W22_main_arg4 (c : Dev nD) : W22 m c (Proc.devRef .tc main_arg4) = m ((c : Thread nD τ).loc main_arg4) :=
  (congrFun (V22_eq m c) _).symm.trans (V22_main_arg4 m (outs m) c)
theorem W22_main_arg5 (c : Dev nD) : W22 m c (Proc.devRef .tc main_arg5) = m ((c : Thread nD τ).loc main_arg5) :=
  (congrFun (V22_eq m c) _).symm.trans (V22_main_arg5 m (outs m) c)
theorem W22_main_arg6 (c : Dev nD) : W22 m c (Proc.devRef .tc main_arg6) = m ((c : Thread nD τ).loc main_arg6) :=
  (congrFun (V22_eq m c) _).symm.trans (V22_main_arg6 m (outs m) c)
theorem W22_main_arg7 (c : Dev nD) : W22 m c (Proc.devRef .tc main_arg7) = m ((c : Thread nD τ).loc main_arg7) :=
  (congrFun (V22_eq m c) _).symm.trans (V22_main_arg7 m (outs m) c)
theorem W22_main_arg8 (c : Dev nD) : W22 m c (Proc.devRef .tc main_arg8) = m ((c : Thread nD τ).loc main_arg8) :=
  (congrFun (V22_eq m c) _).symm.trans (V22_main_arg8 m (outs m) c)
theorem W22_main_arg9 (c : Dev nD) : W22 m c (Proc.devRef .tc main_arg9) = m ((c : Thread nD τ).loc main_arg9) :=
  (congrFun (V22_eq m c) _).symm.trans (V22_main_arg9 m (outs m) c)
theorem W22_main_arg10 (c : Dev nD) : W22 m c (Proc.devRef .tc main_arg10) = m ((c : Thread nD τ).loc main_arg10) :=
  (congrFun (V22_eq m c) _).symm.trans (V22_main_arg10 m (outs m) c)
theorem W22_main_arg11 (c : Dev nD) : W22 m c (Proc.devRef .tc main_arg11) = m ((c : Thread nD τ).loc main_arg11) :=
  (congrFun (V22_eq m c) _).symm.trans (V22_main_arg11 m (outs m) c)
theorem W22_main_arg12 (c : Dev nD) : W22 m c (Proc.devRef .tc main_arg12) = m ((c : Thread nD τ).loc main_arg12) :=
  (congrFun (V22_eq m c) _).symm.trans (V22_main_arg12 m (outs m) c)

end Cert.KernelIdeal.Launch

end
-- ==== Proof.Frames.lean ====
module

public import proofs.«01_k».proof.Defs
public import proofs.«01_k».proof.Proof.Kernel.Launch
public import proofs.«01_k».proof.Proof.KernelIdeal.Launch
public import proofs.«01_k».proof.Proof.Gen.ReferenceIdeal.Run
public import Idealize.ShloMosaic.Lib.Quiescent

/-! The frames: each program ends, its arguments unchanged, every counter at zero. -/

@[expose] public section

noncomputable section

open Idealize.ShloMosaic Idealize.ShloMosaic.TcCoe Idealize.SL.Sem

namespace Cert.Kernel.Launch

open Cert.Kernel Cert.Kernel.Gen

variable {F : FTy → Type} [FloatOps F]

/-- Every run ends, the arguments as they were and every counter at zero. -/
theorem ends (m : (ℓ : Loc nD τ sig) → Buf (Elt F) ℓ) (g : Dev nD → PrngReg) :
    θ_run (defs (F := F)) (onTc (τ := τ) (main (F := F))) ⟨m, fun _ => 0, g⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run (defs (F := F)) _ _).mono (fun r h => by
    obtain ⟨hm, hs⟩ := h
    refine ⟨fun c => ⟨(hm c _ (mem_uc main_arg0 rfl)).trans (W22_main_arg0 m c), (hm c _ (mem_uc main_arg1 rfl)).trans (W22_main_arg1 m c), (hm c _ (mem_uc main_arg2 rfl)).trans (W22_main_arg2 m c), (hm c _ (mem_uc main_arg3 rfl)).trans (W22_main_arg3 m c), (hm c _ (mem_uc main_arg4 rfl)).trans (W22_main_arg4 m c), (hm c _ (mem_uc main_arg5 rfl)).trans (W22_main_arg5 m c), (hm c _ (mem_uc main_arg6 rfl)).trans (W22_main_arg6 m c), (hm c _ (mem_uc main_arg7 rfl)).trans (W22_main_arg7 m c), (hm c _ (mem_uc main_arg8 rfl)).trans (W22_main_arg8 m c), (hm c _ (mem_uc main_arg9 rfl)).trans (W22_main_arg9 m c), (hm c _ (mem_uc main_arg10 rfl)).trans (W22_main_arg10 m c), (hm c _ (mem_uc main_arg11 rfl)).trans (W22_main_arg11 m c), (hm c _ (mem_uc main_arg12 rfl)).trans (W22_main_arg12 m c)⟩, hs⟩) (run m g)

end Cert.Kernel.Launch

namespace Cert.KernelIdeal.Launch

open Cert.KernelIdeal Cert.KernelIdeal.Gen

variable {F : FTy → Type} [FloatOps F]

/-- Every run ends, the arguments as they were and every counter at zero. -/
theorem ends (m : (ℓ : Loc nD τ sig) → Buf (Elt F) ℓ) (g : Dev nD → PrngReg) :
    θ_run (defs (F := F)) (onTc (τ := τ) (main (F := F))) ⟨m, fun _ => 0, g⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run (defs (F := F)) _ _).mono (fun r h => by
    obtain ⟨hm, hs⟩ := h
    refine ⟨fun c => ⟨(hm c _ (mem_uc main_arg0 rfl)).trans (W22_main_arg0 m c), (hm c _ (mem_uc main_arg1 rfl)).trans (W22_main_arg1 m c), (hm c _ (mem_uc main_arg2 rfl)).trans (W22_main_arg2 m c), (hm c _ (mem_uc main_arg3 rfl)).trans (W22_main_arg3 m c), (hm c _ (mem_uc main_arg4 rfl)).trans (W22_main_arg4 m c), (hm c _ (mem_uc main_arg5 rfl)).trans (W22_main_arg5 m c), (hm c _ (mem_uc main_arg6 rfl)).trans (W22_main_arg6 m c), (hm c _ (mem_uc main_arg7 rfl)).trans (W22_main_arg7 m c), (hm c _ (mem_uc main_arg8 rfl)).trans (W22_main_arg8 m c), (hm c _ (mem_uc main_arg9 rfl)).trans (W22_main_arg9 m c), (hm c _ (mem_uc main_arg10 rfl)).trans (W22_main_arg10 m c), (hm c _ (mem_uc main_arg11 rfl)).trans (W22_main_arg11 m c), (hm c _ (mem_uc main_arg12 rfl)).trans (W22_main_arg12 m c)⟩, hs⟩) (run m g)

end Cert.KernelIdeal.Launch

namespace Cert.Proof

theorem frame_kernel : Cert.quiescent_Kernel := fun m g _ => Cert.Kernel.Launch.ends m g

theorem frame_ideal : Cert.quiescent_KernelIdeal := fun m g _ => Cert.KernelIdeal.Launch.ends m g

theorem frame_reference : Cert.quiescent_ReferenceIdeal := fun m g _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m g)

end Cert.Proof

end
-- ==== Proof.KernelIdeal.ValHost.lean ====
module

public import proofs.«01_k».proof.Proof.KernelIdeal.Chain
public import Idealize.ShloMosaic.Lib.Pipeline.Value
public import Idealize.ShloMosaic.Lib.Pointwise

/-! What the host operations between the regions leave: rows regrouped by batch, and one layer's weights cut out of the
    stacked arrays. -/

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL Idealize.SL.RA Idealize.SL.Sem

/-- Row `t` of batch `b` among all rows. -/
def row (b : Fin 4) (t : Fin 512) : Fin 2048 := ⟨512 * b.val + t.val, by have := b.isLt; have := t.isLt; omega⟩

variable (V : Valuation τ sig (Elt Ideal))

/-- One layer cut out of a stacked array. -/
theorem slab {A B : ℕ} {α : Type} (l : Fin 4) (x : (⟨3, ![4, A, B]⟩ : Shape).Idx → α)
    (h : (⟨3, ![4, A, B]⟩ : Shape).Slices ![l.val, 0, 0] ⟨3, ![1, A, B]⟩) (h' : (⟨3, ![1, A, B]⟩ : Shape).ShapeCasts ⟨2, ![A, B]⟩)
    (p : Fin A) (q : Fin B) :
    shapeCast ⟨2, ![A, B]⟩ (extractStridedSlice ⟨3, ![1, A, B]⟩ ![l.val, 0, 0] x h) h' (ix2 p q) = x (ix3 l p q) := by
  refine (shapeCast_apply _ _ _ (ix3 0 p q) ?_).trans (extractStridedSlice_apply _ _ _ _ (ix3 l p q) ?_)
  · rw [Shape.rowMajor_val_two, Shape.rowMajor_val_three]
    show (0 * A + p.val) * B + q.val = p.val * B + q.val
    rw [zero_mul, zero_add]
  · intro a
    match a with
    | ⟨0, _⟩ => show l.val = l.val + 0; omega
    | ⟨1, _⟩ => show p.val = 0 + p.val; omega
    | ⟨2, _⟩ => show q.val = 0 + q.val; omega

/-- The token ids, row by row. -/
theorem read0_id (b : Fin 4) (t : Fin 512) :
    StableHlo.after hostOps0 V (Proc.devRef .tc main_v0) (ix2 (row b t) 0) = V (Proc.devRef .tc main_arg1) (ix3 b t 0) := by
  have hh : StableHlo.after hostOps0 V (Proc.devRef .tc main_v0)
      = shapeCast S2048x1 (V (Proc.devRef .tc main_arg1) : Vec Ideal S4x512x1 .i32) shapeCasts_S4x512x1_S2048x1 := by
    after_results
    rfl
  rw [hh]
  refine shapeCast_apply _ _ _ (ix3 b t 0) ?_
  rw [Shape.rowMajor_val_three, Shape.rowMajor_val_two]
  show (b.val * 512 + t.val) * 1 + 0 = (512 * b.val + t.val) * 1 + 0
  omega

/-- The segment ids, by batch and row. -/
theorem read0_seg (b : Fin 4) (t : Fin 512) :
    StableHlo.after hostOps0 V (Proc.devRef .tc main_v1) (ix2 b t) = V (Proc.devRef .tc main_arg2) (ix3 b t 0) := by
  have hh : StableHlo.after hostOps0 V (Proc.devRef .tc main_v1)
      = shapeCast S4x512 (V (Proc.devRef .tc main_arg2) : Vec Ideal S4x512x1 .i32) shapeCasts_S4x512x1_S4x512 := by
    after_results
    rfl
  rw [hh]
  refine shapeCast_apply _ _ _ (ix3 b t 0) ?_
  rw [Shape.rowMajor_val_three, Shape.rowMajor_val_two]
  show (b.val * 512 + t.val) * 1 + 0 = b.val * 512 + t.val
  omega

/-- The logits, row by row. -/
theorem read0_dec (b : Fin 4) (t : Fin 512) (v : Fin 8192) :
    StableHlo.after hostOps0 V (Proc.devRef .tc main_v2) (ix2 (row b t) v) = V (Proc.devRef .tc main_arg0) (ix3 b t v) := by
  have hh : StableHlo.after hostOps0 V (Proc.devRef .tc main_v2)
      = shapeCast S2048x8192 (V (Proc.devRef .tc main_arg0) : Vec Ideal S4x512x8192 .f32) shapeCasts_S4x512x8192_S2048x8192 := by
    after_results
    rfl
  rw [hh]
  refine shapeCast_apply _ _ _ (ix3 b t v) ?_
  rw [Shape.rowMajor_val_three, Shape.rowMajor_val_two]
  show (b.val * 512 + t.val) * 8192 + v.val = (512 * b.val + t.val) * 8192 + v.val
  omega

/-- The rows, by batch. -/
theorem read2_x (b : Fin 4) (t : Fin 512) (e : Fin 1024) :
    StableHlo.after hostOps2 V (Proc.devRef .tc main_v5) (ix3 b t e) = V (Proc.devRef .tc main_v3) (ix2 (row b t) e) := by
  have hh : StableHlo.after hostOps2 V (Proc.devRef .tc main_v5)
      = shapeCast S4x512x1024 (V (Proc.devRef .tc main_v3) : Vec Ideal S2048x1024 .f32) shapeCasts_S2048x1024_S4x512x1024 := by
    after_results
    rfl
  rw [hh]
  refine shapeCast_apply _ _ _ (ix2 (row b t) e) ?_
  rw [Shape.rowMajor_val_two, Shape.rowMajor_val_three]
  show (512 * b.val + t.val) * 1024 + e.val = (b.val * 512 + t.val) * 1024 + e.val
  omega

/-- Layer 0 of argument 4. -/
theorem read2_a (k : Fin 1024) (h : Fin 4096) :
    StableHlo.after hostOps2 V (Proc.devRef .tc main_v7) (ix2 k h) = V (Proc.devRef .tc main_arg4) (ix3 0 k h) := by
  have hh : StableHlo.after hostOps2 V (Proc.devRef .tc main_v7)
      = shapeCast S1024x4096 (extractStridedSlice S1x1024x4096 ![0, 0, 0] (V (Proc.devRef .tc main_arg4) : Vec Ideal S4x1024x4096 .f32)
          slices_S4x1024x4096_S1x1024x4096_0_0_0) shapeCasts_S1x1024x4096_S1024x4096 := by
    after_results
    rfl
  rw [hh]
  exact slab (A := 1024) (B := 4096) 0 _ _ _ k h

/-- Layer 0 of argument 5. -/
theorem read2_c (d : Fin 2048) (k : Fin 4) :
    StableHlo.after hostOps2 V (Proc.devRef .tc main_v9) (ix2 d k) = V (Proc.devRef .tc main_arg5) (ix3 0 d k) := by
  have hh : StableHlo.after hostOps2 V (Proc.devRef .tc main_v9)
      = shapeCast S2048x4 (extractStridedSlice S1x2048x4 ![0, 0, 0] (V (Proc.devRef .tc main_arg5) : Vec Ideal S4x2048x4 .f32)
          slices_S4x2048x4_S1x2048x4_0_0_0) shapeCasts_S1x2048x4_S2048x4 := by
    after_results
    rfl
  rw [hh]
  exact slab (A := 2048) (B := 4) 0 _ _ _ d k

/-- Layer 0 of argument 6. -/
theorem read2_b (d : Fin 2048) (e : Fin 1024) :
    StableHlo.after hostOps2 V (Proc.devRef .tc main_v11) (ix2 d e) = V (Proc.devRef .tc main_arg6) (ix3 0 d e) := by
  have hh : StableHlo.after hostOps2 V (Proc.devRef .tc main_v11)
      = shapeCast S2048x1024 (extractStridedSlice S1x2048x1024 ![0, 0, 0] (V (Proc.devRef .tc main_arg6) : Vec Ideal S4x2048x1024 .f32)
          slices_S4x2048x1024_S1x2048x1024_0_0_0) shapeCasts_S1x2048x1024_S2048x1024 := by
    after_results
    rfl
  rw [hh]
  exact slab (A := 2048) (B := 1024) 0 _ _ _ d e

/-- All rows. -/
theorem read3_x (b : Fin 4) (t : Fin 512) (e : Fin 1024) :
    StableHlo.after hostOps3 V (Proc.devRef .tc main_v13) (ix2 (row b t) e) = V (Proc.devRef .tc main_v12) (ix3 b t e) := by
  have hh : StableHlo.after hostOps3 V (Proc.devRef .tc main_v13)
      = shapeCast S2048x1024 (V (Proc.devRef .tc main_v12) : Vec Ideal S4x512x1024 .f32) shapeCasts_S4x512x1024_S2048x1024 := by
    after_results
    rfl
  rw [hh]
  refine shapeCast_apply _ _ _ (ix3 b t e) ?_
  rw [Shape.rowMajor_val_three, Shape.rowMajor_val_two]
  show (b.val * 512 + t.val) * 1024 + e.val = (512 * b.val + t.val) * 1024 + e.val
  omega

/-- Layer 0 of argument 7. -/
theorem read3_a (k : Fin 1024) (h : Fin 4096) :
    StableHlo.after hostOps3 V (Proc.devRef .tc main_v15) (ix2 k h) = V (Proc.devRef .tc main_arg7) (ix3 0 k h) := by
  have hh : StableHlo.after hostOps3 V (Proc.devRef .tc main_v15)
      = shapeCast S1024x4096 (extractStridedSlice S1x1024x4096 ![0, 0, 0] (V (Proc.devRef .tc main_arg7) : Vec Ideal S4x1024x4096 .f32)
          slices_S4x1024x4096_S1x1024x4096_0_0_0) shapeCasts_S1x1024x4096_S1024x4096 := by
    after_results
    rfl
  rw [hh]
  exact slab (A := 1024) (B := 4096) 0 _ _ _ k h

/-- Layer 0 of argument 8. -/
theorem read3_b (h : Fin 4096) (e : Fin 1024) :
    StableHlo.after hostOps3 V (Proc.devRef .tc main_v17) (ix2 h e) = V (Proc.devRef .tc main_arg8) (ix3 0 h e) := by
  have hh : StableHlo.after hostOps3 V (Proc.devRef .tc main_v17)
      = shapeCast S4096x1024 (extractStridedSlice S1x4096x1024 ![0, 0, 0] (V (Proc.devRef .tc main_arg8) : Vec Ideal S4x4096x1024 .f32)
          slices_S4x4096x1024_S1x4096x1024_0_0_0) shapeCasts_S1x4096x1024_S4096x1024 := by
    after_results
    rfl
  rw [hh]
  exact slab (A := 4096) (B := 1024) 0 _ _ _ h e

/-- The rows, by batch. -/
theorem read4_x (b : Fin 4) (t : Fin 512) (e : Fin 1024) :
    StableHlo.after hostOps4 V (Proc.devRef .tc main_v19) (ix3 b t e) = V (Proc.devRef .tc main_v18) (ix2 (row b t) e) := by
  have hh : StableHlo.after hostOps4 V (Proc.devRef .tc main_v19)
      = shapeCast S4x512x1024 (V (Proc.devRef .tc main_v18) : Vec Ideal S2048x1024 .f32) shapeCasts_S2048x1024_S4x512x1024 := by
    after_results
    rfl
  rw [hh]
  refine shapeCast_apply _ _ _ (ix2 (row b t) e) ?_
  rw [Shape.rowMajor_val_two, Shape.rowMajor_val_three]
  show (512 * b.val + t.val) * 1024 + e.val = (b.val * 512 + t.val) * 1024 + e.val
  omega

/-- Layer 1 of argument 4. -/
theorem read4_a (k : Fin 1024) (h : Fin 4096) :
    StableHlo.after hostOps4 V (Proc.devRef .tc main_v21) (ix2 k h) = V (Proc.devRef .tc main_arg4) (ix3 1 k h) := by
  have hh : StableHlo.after hostOps4 V (Proc.devRef .tc main_v21)
      = shapeCast S1024x4096 (extractStridedSlice S1x1024x4096 ![1, 0, 0] (V (Proc.devRef .tc main_arg4) : Vec Ideal S4x1024x4096 .f32)
          slices_S4x1024x4096_S1x1024x4096_1_0_0) shapeCasts_S1x1024x4096_S1024x4096 := by
    after_results
    rfl
  rw [hh]
  exact slab (A := 1024) (B := 4096) 1 _ _ _ k h

/-- Layer 1 of argument 5. -/
theorem read4_c (d : Fin 2048) (k : Fin 4) :
    StableHlo.after hostOps4 V (Proc.devRef .tc main_v23) (ix2 d k) = V (Proc.devRef .tc main_arg5) (ix3 1 d k) := by
  have hh : StableHlo.after hostOps4 V (Proc.devRef .tc main_v23)
      = shapeCast S2048x4 (extractStridedSlice S1x2048x4 ![1, 0, 0] (V (Proc.devRef .tc main_arg5) : Vec Ideal S4x2048x4 .f32)
          slices_S4x2048x4_S1x2048x4_1_0_0) shapeCasts_S1x2048x4_S2048x4 := by
    after_results
    rfl
  rw [hh]
  exact slab (A := 2048) (B := 4) 1 _ _ _ d k

/-- Layer 1 of argument 6. -/
theorem read4_b (d : Fin 2048) (e : Fin 1024) :
    StableHlo.after hostOps4 V (Proc.devRef .tc main_v25) (ix2 d e) = V (Proc.devRef .tc main_arg6) (ix3 1 d e) := by
  have hh : StableHlo.after hostOps4 V (Proc.devRef .tc main_v25)
      = shapeCast S2048x1024 (extractStridedSlice S1x2048x1024 ![1, 0, 0] (V (Proc.devRef .tc main_arg6) : Vec Ideal S4x2048x1024 .f32)
          slices_S4x2048x1024_S1x2048x1024_1_0_0) shapeCasts_S1x2048x1024_S2048x1024 := by
    after_results
    rfl
  rw [hh]
  exact slab (A := 2048) (B := 1024) 1 _ _ _ d e

/-- All rows. -/
theorem read5_x (b : Fin 4) (t : Fin 512) (e : Fin 1024) :
    StableHlo.after hostOps5 V (Proc.devRef .tc main_v27) (ix2 (row b t) e) = V (Proc.devRef .tc main_v26) (ix3 b t e) := by
  have hh : StableHlo.after hostOps5 V (Proc.devRef .tc main_v27)
      = shapeCast S2048x1024 (V (Proc.devRef .tc main_v26) : Vec Ideal S4x512x1024 .f32) shapeCasts_S4x512x1024_S2048x1024 := by
    after_results
    rfl
  rw [hh]
  refine shapeCast_apply _ _ _ (ix3 b t e) ?_
  rw [Shape.rowMajor_val_three, Shape.rowMajor_val_two]
  show (b.val * 512 + t.val) * 1024 + e.val = (512 * b.val + t.val) * 1024 + e.val
  omega

/-- Layer 1 of argument 7. -/
theorem read5_a (k : Fin 1024) (h : Fin 4096) :
    StableHlo.after hostOps5 V (Proc.devRef .tc main_v29) (ix2 k h) = V (Proc.devRef .tc main_arg7) (ix3 1 k h) := by
  have hh : StableHlo.after hostOps5 V (Proc.devRef .tc main_v29)
      = shapeCast S1024x4096 (extractStridedSlice S1x1024x4096 ![1, 0, 0] (V (Proc.devRef .tc main_arg7) : Vec Ideal S4x1024x4096 .f32)
          slices_S4x1024x4096_S1x1024x4096_1_0_0) shapeCasts_S1x1024x4096_S1024x4096 := by
    after_results
    rfl
  rw [hh]
  exact slab (A := 1024) (B := 4096) 1 _ _ _ k h

/-- Layer 1 of argument 8. -/
theorem read5_b (h : Fin 4096) (e : Fin 1024) :
    StableHlo.after hostOps5 V (Proc.devRef .tc main_v31) (ix2 h e) = V (Proc.devRef .tc main_arg8) (ix3 1 h e) := by
  have hh : StableHlo.after hostOps5 V (Proc.devRef .tc main_v31)
      = shapeCast S4096x1024 (extractStridedSlice S1x4096x1024 ![1, 0, 0] (V (Proc.devRef .tc main_arg8) : Vec Ideal S4x4096x1024 .f32)
          slices_S4x4096x1024_S1x4096x1024_1_0_0) shapeCasts_S1x4096x1024_S4096x1024 := by
    after_results
    rfl
  rw [hh]
  exact slab (A := 4096) (B := 1024) 1 _ _ _ h e

/-- The rows, by batch. -/
theorem read6_x (b : Fin 4) (t : Fin 512) (e : Fin 1024) :
    StableHlo.after hostOps6 V (Proc.devRef .tc main_v33) (ix3 b t e) = V (Proc.devRef .tc main_v32) (ix2 (row b t) e) := by
  have hh : StableHlo.after hostOps6 V (Proc.devRef .tc main_v33)
      = shapeCast S4x512x1024 (V (Proc.devRef .tc main_v32) : Vec Ideal S2048x1024 .f32) shapeCasts_S2048x1024_S4x512x1024 := by
    after_results
    rfl
  rw [hh]
  refine shapeCast_apply _ _ _ (ix2 (row b t) e) ?_
  rw [Shape.rowMajor_val_two, Shape.rowMajor_val_three]
  show (512 * b.val + t.val) * 1024 + e.val = (b.val * 512 + t.val) * 1024 + e.val
  omega

/-- Layer 2 of argument 4. -/
theorem read6_a (k : Fin 1024) (h : Fin 4096) :
    StableHlo.after hostOps6 V (Proc.devRef .tc main_v35) (ix2 k h) = V (Proc.devRef .tc main_arg4) (ix3 2 k h) := by
  have hh : StableHlo.after hostOps6 V (Proc.devRef .tc main_v35)
      = shapeCast S1024x4096 (extractStridedSlice S1x1024x4096 ![2, 0, 0] (V (Proc.devRef .tc main_arg4) : Vec Ideal S4x1024x4096 .f32)
          slices_S4x1024x4096_S1x1024x4096_2_0_0) shapeCasts_S1x1024x4096_S1024x4096 := by
    after_results
    rfl
  rw [hh]
  exact slab (A := 1024) (B := 4096) 2 _ _ _ k h

/-- Layer 2 of argument 5. -/
theorem read6_c (d : Fin 2048) (k : Fin 4) :
    StableHlo.after hostOps6 V (Proc.devRef .tc main_v37) (ix2 d k) = V (Proc.devRef .tc main_arg5) (ix3 2 d k) := by
  have hh : StableHlo.after hostOps6 V (Proc.devRef .tc main_v37)
      = shapeCast S2048x4 (extractStridedSlice S1x2048x4 ![2, 0, 0] (V (Proc.devRef .tc main_arg5) : Vec Ideal S4x2048x4 .f32)
          slices_S4x2048x4_S1x2048x4_2_0_0) shapeCasts_S1x2048x4_S2048x4 := by
    after_results
    rfl
  rw [hh]
  exact slab (A := 2048) (B := 4) 2 _ _ _ d k

/-- Layer 2 of argument 6. -/
theorem read6_b (d : Fin 2048) (e : Fin 1024) :
    StableHlo.after hostOps6 V (Proc.devRef .tc main_v39) (ix2 d e) = V (Proc.devRef .tc main_arg6) (ix3 2 d e) := by
  have hh : StableHlo.after hostOps6 V (Proc.devRef .tc main_v39)
      = shapeCast S2048x1024 (extractStridedSlice S1x2048x1024 ![2, 0, 0] (V (Proc.devRef .tc main_arg6) : Vec Ideal S4x2048x1024 .f32)
          slices_S4x2048x1024_S1x2048x1024_2_0_0) shapeCasts_S1x2048x1024_S2048x1024 := by
    after_results
    rfl
  rw [hh]
  exact slab (A := 2048) (B := 1024) 2 _ _ _ d e

/-- All rows. -/
theorem read7_x (b : Fin 4) (t : Fin 512) (e : Fin 1024) :
    StableHlo.after hostOps7 V (Proc.devRef .tc main_v41) (ix2 (row b t) e) = V (Proc.devRef .tc main_v40) (ix3 b t e) := by
  have hh : StableHlo.after hostOps7 V (Proc.devRef .tc main_v41)
      = shapeCast S2048x1024 (V (Proc.devRef .tc main_v40) : Vec Ideal S4x512x1024 .f32) shapeCasts_S4x512x1024_S2048x1024 := by
    after_results
    rfl
  rw [hh]
  refine shapeCast_apply _ _ _ (ix3 b t e) ?_
  rw [Shape.rowMajor_val_three, Shape.rowMajor_val_two]
  show (b.val * 512 + t.val) * 1024 + e.val = (512 * b.val + t.val) * 1024 + e.val
  omega

/-- Layer 2 of argument 7. -/
theorem read7_a (k : Fin 1024) (h : Fin 4096) :
    StableHlo.after hostOps7 V (Proc.devRef .tc main_v43) (ix2 k h) = V (Proc.devRef .tc main_arg7) (ix3 2 k h) := by
  have hh : StableHlo.after hostOps7 V (Proc.devRef .tc main_v43)
      = shapeCast S1024x4096 (extractStridedSlice S1x1024x4096 ![2, 0, 0] (V (Proc.devRef .tc main_arg7) : Vec Ideal S4x1024x4096 .f32)
          slices_S4x1024x4096_S1x1024x4096_2_0_0) shapeCasts_S1x1024x4096_S1024x4096 := by
    after_results
    rfl
  rw [hh]
  exact slab (A := 1024) (B := 4096) 2 _ _ _ k h

/-- Layer 2 of argument 8. -/
theorem read7_b (h : Fin 4096) (e : Fin 1024) :
    StableHlo.after hostOps7 V (Proc.devRef .tc main_v45) (ix2 h e) = V (Proc.devRef .tc main_arg8) (ix3 2 h e) := by
  have hh : StableHlo.after hostOps7 V (Proc.devRef .tc main_v45)
      = shapeCast S4096x1024 (extractStridedSlice S1x4096x1024 ![2, 0, 0] (V (Proc.devRef .tc main_arg8) : Vec Ideal S4x4096x1024 .f32)
          slices_S4x4096x1024_S1x4096x1024_2_0_0) shapeCasts_S1x4096x1024_S4096x1024 := by
    after_results
    rfl
  rw [hh]
  exact slab (A := 4096) (B := 1024) 2 _ _ _ h e

/-- The rows, by batch. -/
theorem read8_x (b : Fin 4) (t : Fin 512) (e : Fin 1024) :
    StableHlo.after hostOps8 V (Proc.devRef .tc main_v47) (ix3 b t e) = V (Proc.devRef .tc main_v46) (ix2 (row b t) e) := by
  have hh : StableHlo.after hostOps8 V (Proc.devRef .tc main_v47)
      = shapeCast S4x512x1024 (V (Proc.devRef .tc main_v46) : Vec Ideal S2048x1024 .f32) shapeCasts_S2048x1024_S4x512x1024 := by
    after_results
    rfl
  rw [hh]
  refine shapeCast_apply _ _ _ (ix2 (row b t) e) ?_
  rw [Shape.rowMajor_val_two, Shape.rowMajor_val_three]
  show (512 * b.val + t.val) * 1024 + e.val = (b.val * 512 + t.val) * 1024 + e.val
  omega

/-- Layer 3 of argument 4. -/
theorem read8_a (k : Fin 1024) (h : Fin 4096) :
    StableHlo.after hostOps8 V (Proc.devRef .tc main_v49) (ix2 k h) = V (Proc.devRef .tc main_arg4) (ix3 3 k h) := by
  have hh : StableHlo.after hostOps8 V (Proc.devRef .tc main_v49)
      = shapeCast S1024x4096 (extractStridedSlice S1x1024x4096 ![3, 0, 0] (V (Proc.devRef .tc main_arg4) : Vec Ideal S4x1024x4096 .f32)
          slices_S4x1024x4096_S1x1024x4096_3_0_0) shapeCasts_S1x1024x4096_S1024x4096 := by
    after_results
    rfl
  rw [hh]
  exact slab (A := 1024) (B := 4096) 3 _ _ _ k h

/-- Layer 3 of argument 5. -/
theorem read8_c (d : Fin 2048) (k : Fin 4) :
    StableHlo.after hostOps8 V (Proc.devRef .tc main_v51) (ix2 d k) = V (Proc.devRef .tc main_arg5) (ix3 3 d k) := by
  have hh : StableHlo.after hostOps8 V (Proc.devRef .tc main_v51)
      = shapeCast S2048x4 (extractStridedSlice S1x2048x4 ![3, 0, 0] (V (Proc.devRef .tc main_arg5) : Vec Ideal S4x2048x4 .f32)
          slices_S4x2048x4_S1x2048x4_3_0_0) shapeCasts_S1x2048x4_S2048x4 := by
    after_results
    rfl
  rw [hh]
  exact slab (A := 2048) (B := 4) 3 _ _ _ d k

/-- Layer 3 of argument 6. -/
theorem read8_b (d : Fin 2048) (e : Fin 1024) :
    StableHlo.after hostOps8 V (Proc.devRef .tc main_v53) (ix2 d e) = V (Proc.devRef .tc main_arg6) (ix3 3 d e) := by
  have hh : StableHlo.after hostOps8 V (Proc.devRef .tc main_v53)
      = shapeCast S2048x1024 (extractStridedSlice S1x2048x1024 ![3, 0, 0] (V (Proc.devRef .tc main_arg6) : Vec Ideal S4x2048x1024 .f32)
          slices_S4x2048x1024_S1x2048x1024_3_0_0) shapeCasts_S1x2048x1024_S2048x1024 := by
    after_results
    rfl
  rw [hh]
  exact slab (A := 2048) (B := 1024) 3 _ _ _ d e

/-- All rows. -/
theorem read9_x (b : Fin 4) (t : Fin 512) (e : Fin 1024) :
    StableHlo.after hostOps9 V (Proc.devRef .tc main_v55) (ix2 (row b t) e) = V (Proc.devRef .tc main_v54) (ix3 b t e) := by
  have hh : StableHlo.after hostOps9 V (Proc.devRef .tc main_v55)
      = shapeCast S2048x1024 (V (Proc.devRef .tc main_v54) : Vec Ideal S4x512x1024 .f32) shapeCasts_S4x512x1024_S2048x1024 := by
    after_results
    rfl
  rw [hh]
  refine shapeCast_apply _ _ _ (ix3 b t e) ?_
  rw [Shape.rowMajor_val_three, Shape.rowMajor_val_two]
  show (b.val * 512 + t.val) * 1024 + e.val = (512 * b.val + t.val) * 1024 + e.val
  omega

/-- Layer 3 of argument 7. -/
theorem read9_a (k : Fin 1024) (h : Fin 4096) :
    StableHlo.after hostOps9 V (Proc.devRef .tc main_v57) (ix2 k h) = V (Proc.devRef .tc main_arg7) (ix3 3 k h) := by
  have hh : StableHlo.after hostOps9 V (Proc.devRef .tc main_v57)
      = shapeCast S1024x4096 (extractStridedSlice S1x1024x4096 ![3, 0, 0] (V (Proc.devRef .tc main_arg7) : Vec Ideal S4x1024x4096 .f32)
          slices_S4x1024x4096_S1x1024x4096_3_0_0) shapeCasts_S1x1024x4096_S1024x4096 := by
    after_results
    rfl
  rw [hh]
  exact slab (A := 1024) (B := 4096) 3 _ _ _ k h

/-- Layer 3 of argument 8. -/
theorem read9_b (h : Fin 4096) (e : Fin 1024) :
    StableHlo.after hostOps9 V (Proc.devRef .tc main_v59) (ix2 h e) = V (Proc.devRef .tc main_arg8) (ix3 3 h e) := by
  have hh : StableHlo.after hostOps9 V (Proc.devRef .tc main_v59)
      = shapeCast S4096x1024 (extractStridedSlice S1x4096x1024 ![3, 0, 0] (V (Proc.devRef .tc main_arg8) : Vec Ideal S4x4096x1024 .f32)
          slices_S4x4096x1024_S1x4096x1024_3_0_0) shapeCasts_S1x4096x1024_S4096x1024 := by
    after_results
    rfl
  rw [hh]
  exact slab (A := 4096) (B := 1024) 3 _ _ _ h e

/-- The rows, regrouped by batch and back. -/
theorem read10_x (r : Fin 2048) (e : Fin 1024) :
    StableHlo.after hostOps10 V (Proc.devRef .tc main_v62) (ix2 r e) = V (Proc.devRef .tc main_v60) (ix2 r e) := by
  have hh : StableHlo.after hostOps10 V (Proc.devRef .tc main_v62)
      = shapeCast S2048x1024 (shapeCast S4x512x1024 (V (Proc.devRef .tc main_v60) : Vec Ideal S2048x1024 .f32) shapeCasts_S2048x1024_S4x512x1024)
          shapeCasts_S4x512x1024_S2048x1024 := by
    after_results
    rfl
  rw [hh, shapeCast_shapeCast]

/-- Argument 10 as one row. -/
theorem read10_p (e : Fin 1024) :
    StableHlo.after hostOps10 V (Proc.devRef .tc main_v63) (ix2 0 e) = V (Proc.devRef .tc main_arg10) (ix1 e) := by
  have hh : StableHlo.after hostOps10 V (Proc.devRef .tc main_v63)
      = shapeCast S1x1024 (V (Proc.devRef .tc main_arg10) : Vec Ideal S1024 .f32) shapeCasts_S1024_S1x1024 := by
    after_results
    rfl
  rw [hh]
  refine shapeCast_apply _ _ _ (ix1 e) ?_
  rw [Shape.rowMajor_val_one, Shape.rowMajor_val_two]
  show e.val = 0 * 1024 + e.val
  omega

/-- Argument 12 as one row. -/
theorem read10_q (e : Fin 1024) :
    StableHlo.after hostOps10 V (Proc.devRef .tc main_v64) (ix2 0 e) = V (Proc.devRef .tc main_arg12) (ix1 e) := by
  have hh : StableHlo.after hostOps10 V (Proc.devRef .tc main_v64)
      = shapeCast S1x1024 (V (Proc.devRef .tc main_arg12) : Vec Ideal S1024 .f32) shapeCasts_S1024_S1x1024 := by
    after_results
    rfl
  rw [hh]
  refine shapeCast_apply _ _ _ (ix1 e) ?_
  rw [Shape.rowMajor_val_one, Shape.rowMajor_val_two]
  show e.val = 0 * 1024 + e.val
  omega

/-- A result, by batch. -/
theorem read11_p (b : Fin 4) (t : Fin 512) (e : Fin 1024) :
    StableHlo.after hostOps11 V (Proc.devRef .tc main_v66) (ix3 b t e) = V (Proc.devRef .tc main_v65_0) (ix2 (row b t) e) := by
  have hh : StableHlo.after hostOps11 V (Proc.devRef .tc main_v66)
      = shapeCast S4x512x1024 (V (Proc.devRef .tc main_v65_0) : Vec Ideal S2048x1024 .f32) shapeCasts_S2048x1024_S4x512x1024 := by
    after_results
    rfl
  rw [hh]
  refine shapeCast_apply _ _ _ (ix2 (row b t) e) ?_
  rw [Shape.rowMajor_val_two, Shape.rowMajor_val_three]
  show (512 * b.val + t.val) * 1024 + e.val = (b.val * 512 + t.val) * 1024 + e.val
  omega

/-- A result, by batch. -/
theorem read11_q (b : Fin 4) (t : Fin 512) (e : Fin 1024) :
    StableHlo.after hostOps11 V (Proc.devRef .tc main_v67) (ix3 b t e) = V (Proc.devRef .tc main_v65_1) (ix2 (row b t) e) := by
  have hh : StableHlo.after hostOps11 V (Proc.devRef .tc main_v67)
      = shapeCast S4x512x1024 (V (Proc.devRef .tc main_v65_1) : Vec Ideal S2048x1024 .f32) shapeCasts_S2048x1024_S4x512x1024 := by
    after_results
    rfl
  rw [hh]
  refine shapeCast_apply _ _ _ (ix2 (row b t) e) ?_
  rw [Shape.rowMajor_val_two, Shape.rowMajor_val_three]
  show (512 * b.val + t.val) * 1024 + e.val = (b.val * 512 + t.val) * 1024 + e.val
  omega

end Cert.KernelIdeal.Val
-- ==== Proof.Spec.lean ====
module

public import Idealize.ShloMosaic.PureOps.Ideal
public import Idealize.ShloMosaic.Lib.IdealHost

/-! The maths both programs compute, over the extended reals, on plain functions of row and column
    numbers: the norm, the gate, one mixer layer, one MLP layer, one head. -/

@[expose] public section

namespace Cert.Spec
open Idealize.ShloMosaic
noncomputable section

/-- The width of a row, as the programs write it. -/
def width : EReal := Ideal.ofBits .f32 0x44800000#32

/-- The small number the norm adds to the mean. -/
def eps : EReal := Ideal.ofBits .f32 0x358637BD#32

/-- One half, as the kernel writes it. -/
def half : EReal := Ideal.ofBits .f32 0x3F000000#32

/-- A row divided by the root of its mean square. -/
def rms (x : Fin 1024 → EReal) (k : Fin 1024) : EReal :=
  x k * Ideal.rsqrt (Ideal.div (∑ q, x q * x q) width + eps)

/-- A row times a matrix. -/
def mv {n m : ℕ} (x : Fin n → EReal) (w : Fin n → Fin m → EReal) (e : Fin m) : EReal :=
  ∑ q, x q * w q e

/-- The gate `x · logistic x`. -/
def silu (x : EReal) : EReal := x * Ideal.logistic x

/-- The gate as the kernel computes it, from the hyperbolic tangent. -/
def gate (x : EReal) : EReal := x * (half * Ideal.tanh (half * x) + half)

/-- One MLP layer on a row. -/
def mlp (x : Fin 1024 → EReal) (w1 : Fin 1024 → Fin 4096 → EReal) (w2 : Fin 4096 → Fin 1024 → EReal)
    (e : Fin 1024) : EReal :=
  x e + mv (fun h => silu (mv (rms x) w1 h)) w2 e

/-- The value `d` rows earlier, zero before the first row. -/
def back {n : ℕ} (f : Fin 512 → Fin n → EReal) (d : ℕ) (t : Fin 512) (e : Fin n) : EReal :=
  if d ≤ t.val then f ⟨t.val - d, by have := t.isLt; omega⟩ e else 0

/-- The causal convolution of width four along the rows. -/
def conv (f : Fin 512 → Fin 2048 → EReal) (cw : Fin 2048 → Fin 4 → EReal) (t : Fin 512)
    (e : Fin 2048) : EReal :=
  back f 3 t e * cw e 0 + back f 2 t e * cw e 1 + back f 1 t e * cw e 2 + f t e * cw e 3

/-- The left half of the projected row. -/
def lft (w : Fin 1024 → Fin 4096 → EReal) (k : Fin 1024) (e : Fin 2048) : EReal :=
  w k ⟨e.val, by have := e.isLt; omega⟩

/-- The right half of the projected row. -/
def rgt (w : Fin 1024 → Fin 4096 → EReal) (k : Fin 1024) (e : Fin 2048) : EReal :=
  w k ⟨2048 + e.val, by have := e.isLt; omega⟩

/-- One mixer layer on a batch of 512 rows. -/
def mixer (x : Fin 512 → Fin 1024 → EReal) (win : Fin 1024 → Fin 4096 → EReal)
    (cw : Fin 2048 → Fin 4 → EReal) (wout : Fin 2048 → Fin 1024 → EReal)
    (t : Fin 512) (e : Fin 1024) : EReal :=
  x t e + mv (fun d => silu (conv (fun s => mv (rms (x s)) (lft win)) cw t d)
    * silu (mv (rms (x t)) (rgt win) d)) wout e

/-- One head on a row. -/
def head (x : Fin 1024 → EReal) (w : Fin 1024 → Fin 1024 → EReal) (b : Fin 1024 → EReal)
    (e : Fin 1024) : EReal := mv x w e + b e

/-- A row of logits, with one added at its token's column, times the embedding table. -/
def embed (a : Fin 8192 → EReal) (id : BitVec 32) (emb : Fin 8192 → Fin 1024 → EReal) (e : Fin 1024) : EReal :=
  ∑ v, (a v + (if id = BitVec.ofNat 32 v.val then 1 else 0)) * emb v e

theorem width_eq : width = ((1024 : ℝ) : EReal) := by
  simp [width, Ideal.ofBits, Ideal.ieee]; norm_cast; norm_num

theorem half_eq : half = ((1 / 2 : ℝ) : EReal) := by
  simp [half, Ideal.ofBits, Ideal.ieee]; norm_cast; norm_num

theorem inv_width_eq : Ideal.ofBits .f32 0x3A800000#32 = ((1 / 1024 : ℝ) : EReal) := by
  simp [Ideal.ofBits, Ideal.ieee]; norm_cast; norm_num

/-- Dividing by the width is multiplying by its reciprocal. -/
theorem div_width (x : EReal) : Ideal.div x width = x * Ideal.ofBits .f32 0x3A800000#32 := by
  rw [width_eq, inv_width_eq, Ideal.div_coe (by norm_num)]

/-- The two forms of the gate agree everywhere, the infinities included. -/
theorem gate_eq (x : EReal) : gate x = silu x := by
  unfold gate silu
  congr 1
  rw [half_eq]
  induction x using EReal.rec with
  | bot =>
    rw [EReal.coe_mul_bot_of_pos (by norm_num), Ideal.tanh_bot, Ideal.logistic_bot]
    rw [mul_neg, mul_one, ← EReal.coe_neg, ← EReal.coe_add]; norm_num
  | top =>
    rw [EReal.coe_mul_top_of_pos (by norm_num), Ideal.tanh_top, Ideal.logistic_top]
    rw [mul_one]; norm_cast; norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (1 / 2 * r) ≠ 0 := (Real.exp_pos _).ne'
    have h2 : Real.exp (-r) = Real.exp (-(1 / 2 * r)) * Real.exp (-(1 / 2 * r)) := by
      rw [← Real.exp_add]; congr 1; ring
    have h3 : Real.exp (1 / 2 * r) * Real.exp (-(1 / 2 * r)) = 1 := by
      rw [← Real.exp_add]; simp
    have p1 := Real.exp_pos (1 / 2 * r)
    have p2 := Real.exp_pos (-(1 / 2 * r))
    rw [h2]
    generalize Real.exp (1 / 2 * r) = a at *
    generalize Real.exp (-(1 / 2 * r)) = b at *
    have : a + b ≠ 0 := by positivity
    have : 1 + b * b ≠ 0 := by positivity
    field_simp
    nlinarith

end
end Cert.Spec
end
-- ==== Proof.KernelIdeal.ValEmb.lean ====
module

public import proofs.«01_k».proof.Proof.Spec
public import proofs.«01_k».proof.Proof.Gen.Own.KernelIdeal.K0.Frame
public import proofs.«01_k».proof.Proof.Gen.KernelIdeal.Points
public import Idealize.ShloMosaic.Lib.Pipeline.Value
public import Idealize.ShloMosaic.Lib.Pointwise

/-! The embedding region at the extended reals: every row of the logits, with one added at its token, times the embedding table. -/

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL Idealize.SL.RA Idealize.SL.Sem

variable {Ix : Type} [DecidableEq Ix] {U : Type} [URA U] {Lvl : Type} [Preorder Lvl]
variable (𝒱₀ : Variants)
variable (V : (c : Dev nD) → (b : Ref sig .tc) → Buf (Elt Ideal) ((c : Thread nD τ).loc b))
variable (D : Dev nD → CellTallies nD τ sig Ix)

theorem hz0 : (![0, 0] : Fin 2 → Nat) = fun _ => 0 := funext fun a => by fin_cases a <;> rfl

/-- The logits with one added at a token's column, times the embedding table. -/
def embArr (I : Vec Ideal S2048x1 .i32) (A : Vec Ideal S2048x8192 .f32) (E : Vec Ideal S8192x1024 .f32) :
    Vec Ideal S2048x1024 .f32 := fun i =>
  Spec.embed (fun v => A (ix2 (i 0) v)) (I (ix2 (i 0) 0)) (fun v e => E (ix2 v e)) (i 1)

/-- A choice between one and zero on the equality of two words. -/
theorem sel_eq (a b : BitVec 32) : Scalar.select (IntOp.cmpi .eq a b) (1 : EReal) 0 = if a = b then 1 else 0 := by
  unfold Scalar.select IntOp.cmpi
  by_cases h : a = b
  · simp [h]
  · have hb : (a == b) = false := by simp [h]
    simp [h, hb]

theorem pay0 (A : Vec Ideal S256x8192 .f32) (I : Vec Ideal S256x1 .i32) (E : Vec Ideal S8192x1024 .f32) (r : Fin 256) (e : Fin 1024) :
    k0_pay1 A I E (ix2 r e) = Spec.embed (fun v => A (ix2 r v)) (I (ix2 r 0)) (fun v e => E (ix2 v e)) e := by
  pointwise [k0_pay1]
  unfold Spec.embed
  refine Finset.sum_congr rfl fun v _ => ?_
  rw [sel_eq]
  try rfl

theorem out_eq0 (c : Dev nD) (i : grid0.Coords) (a1 : Memref sig .tc .vmem S256x1 .i32) (h1 : a1.IsWhole)
    (a2 : Memref sig .tc .vmem S256x8192 .f32) (h2 : a2.IsWhole) (a3 : Memref sig .tc .vmem S8192x1024 .f32) (h3 : a3.IsWhole)
    (a4 : Memref sig .tc .vmem S256x1024 .f32) (h4 : a4.IsWhole) (x0 : Vec Ideal S256x1 .i32)
    (x1 : Vec Ideal S256x8192 .f32) (x2 : Vec Ideal S8192x1024 .f32) :
    K0.out0_A_3 (Ix := Ix) (U := U) (Lvl := Lvl) 𝒱₀ c i a1 h1 a2 h2 a3 h3 a4 h4 x0 x1 x2 = k0_pay1 (F := Ideal) x1 x0 x2 := by
  unfold K0.out0_A_3
  rw [View.read_writes_junk_eq_canon]
  show View.canon ([⟨Rect.unit ![0, 0] S256x1024.size inb_S256x1024_S256x1024_0_0,
      k0_pay1 (F := Ideal)
        (View.readAt (Elt Ideal) a2.view (Rect.unit ![0, 0] S256x8192.size inb_S256x8192_S256x8192_0_0).toLoadRect (h2.unread x1))
        (View.readAt (Elt Ideal) a1.view (Rect.unit ![0, 0] S256x1.size inb_S256x1_S256x1_0_0).toLoadRect (h1.unread x0))
        (View.readAt (Elt Ideal) a3.view (Rect.unit ![0, 0] S8192x1024.size inb_S8192x1024_S8192x1024_0_0).toLoadRect (h3.unread x2))⟩] :
      List (View.Piece (Elt Ideal) S256x1024 .f32)) = _
  rw [View.canon_unit_zero hz0, View.readAt_eq_ld, View.readAt_eq_ld, View.readAt_eq_ld, h1.read_unread, h2.read_unread,
    h3.read_unread, View.ld_unit_zero hz0, View.ld_unit_zero hz0, View.ld_unit_zero hz0]

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)
theorem N0 : cfg0.N = 8 := by decide +kernel

/-- The row of the array that row `r` of block `t` is. -/
def row0 (t : Fin cfg0.N) (r : Fin 256) : Fin 2048 := ⟨t.val * 256 + r.val, by
  have := t.isLt; have := r.isLt; have := N0; omega⟩

theorem emb0_0 (t : Fin cfg0.N) (r : Fin 256) (e : Fin 1) :
    ((cfg0.win 0).blk t).view.emb (ix2 r e : S256x1.Idx) = (ix2 (row0 t r) e : S2048x1.Idx) := by
  obtain ⟨e0, e1⟩ := idx0_0 t
  funext a; apply Fin.ext
  match a with
  | ⟨0, _⟩ => show win0_0.index t (0 : Fin 2) * 256 + 1 * r.val = t.val * 256 + r.val; omega
  | ⟨1, _⟩ => show win0_0.index t (1 : Fin 2) * 1 + 1 * e.val = e.val; omega
theorem emb0_1 (t : Fin cfg0.N) (r : Fin 256) (e : Fin 8192) :
    ((cfg0.win 1).blk t).view.emb (ix2 r e : S256x8192.Idx) = (ix2 (row0 t r) e : S2048x8192.Idx) := by
  obtain ⟨e0, e1⟩ := idx0_1 t
  funext a; apply Fin.ext
  match a with
  | ⟨0, _⟩ => show win0_1.index t (0 : Fin 2) * 256 + 1 * r.val = t.val * 256 + r.val; omega
  | ⟨1, _⟩ => show win0_1.index t (1 : Fin 2) * 8192 + 1 * e.val = e.val; omega
theorem emb0_2 (t : Fin cfg0.N) (r : Fin 8192) (e : Fin 1024) :
    ((cfg0.win 2).blk t).view.emb (ix2 r e : S8192x1024.Idx) = (ix2 r e : S8192x1024.Idx) := by
  obtain ⟨e0, e1⟩ := idx0_2 t
  funext a; apply Fin.ext
  match a with
  | ⟨0, _⟩ => show win0_2.index t (0 : Fin 2) * 8192 + 1 * r.val = r.val; omega
  | ⟨1, _⟩ => show win0_2.index t (1 : Fin 2) * 1024 + 1 * e.val = e.val; omega
theorem emb0_3 (t : Fin cfg0.N) (r : Fin 256) (e : Fin 1024) :
    ((cfg0.win 3).blk t).view.emb (ix2 r e : S256x1024.Idx) = (ix2 (row0 t r) e : S2048x1024.Idx) := by
  obtain ⟨e0, e1⟩ := idx0_3 t
  funext a; apply Fin.ext
  match a with
  | ⟨0, _⟩ => show win0_3.index t (0 : Fin 2) * 256 + 1 * r.val = t.val * 256 + r.val; omega
  | ⟨1, _⟩ => show win0_3.index t (1 : Fin 2) * 1024 + 1 * e.val = e.val; omega

theorem flushed0 (c : Dev nD) (t : Fin cfg0.N) :
    (K0.dat (Ix := Ix) (U := U) (Lvl := Lvl) 𝒱₀ V D c).flushed 3 t
      = ((cfg0.win 3).blk t).view.read (Elt Ideal) (embArr (V c (Pipeline.arrRef spec0 0)) (V c (Pipeline.arrRef spec0 1))
          (V c (Pipeline.arrRef spec0 2))) := by
  have h : (K0.dat (Ix := Ix) (U := U) (Lvl := Lvl) 𝒱₀ V D c).after 3 t
      = k0_pay1 (F := Ideal) (K0.iblk V c 1 t) (K0.iblk V c 0 t) (K0.iblk V c 2 t) := by
    rw [K0.after0_3]; unfold K0.outsAt0; rw [out_eq0]
  funext j
  obtain ⟨r, e, rfl⟩ : ∃ (r : Fin 256) (e : Fin 1024), j = (ix2 r e : S256x1024.Idx) := ⟨j 0, j 1, by
    funext a; match a with | ⟨0, _⟩ => rfl | ⟨1, _⟩ => rfl⟩
  show (K0.dat (Ix := Ix) (U := U) (Lvl := Lvl) 𝒱₀ V D c).after 3 t (ix2 r e : S256x1024.Idx)
    = embArr (V c (Pipeline.arrRef spec0 0)) (V c (Pipeline.arrRef spec0 1)) (V c (Pipeline.arrRef spec0 2))
        (((cfg0.win 3).blk t).view.emb (ix2 r e : S256x1024.Idx))
  rw [emb0_3, h, pay0]
  show Spec.embed (fun k => V c (Pipeline.arrRef spec0 1) (((cfg0.win 1).blk t).view.emb (ix2 r k : S256x8192.Idx)))
      (V c (Pipeline.arrRef spec0 0) (((cfg0.win 0).blk t).view.emb (ix2 r 0 : S256x1.Idx)))
      (fun h k => V c (Pipeline.arrRef spec0 2) (((cfg0.win 2).blk t).view.emb (ix2 h k : S8192x1024.Idx))) e
    = Spec.embed (fun k => V c (Pipeline.arrRef spec0 1) (ix2 (row0 t r) k : S2048x8192.Idx)) (V c (Pipeline.arrRef spec0 0) (ix2 (row0 t r) 0 : S2048x1.Idx))
      (fun h k => V c (Pipeline.arrRef spec0 2) (ix2 h k : S8192x1024.Idx)) e
  exact congrFun (congr (congr (congrArg Spec.embed (funext fun k => congrArg (V c (Pipeline.arrRef spec0 1)) (emb0_1 t r k)))
    (congrArg (V c (Pipeline.arrRef spec0 0)) (emb0_0 t r 0)))
    (funext fun h => funext fun k => congrArg (V c (Pipeline.arrRef spec0 2)) (emb0_2 t h k))) e

theorem flush0_3 : ∀ t : Fin cfg0.N, (cfg0.win 3).flush t = true := by decide +kernel

theorem covered0_3 (i : S2048x1024.Idx) :
    ∃ t : Fin cfg0.N, (cfg0.win 3).flush t = true ∧ i ∈ ((cfg0.win 3).blk t).view.set := by
  have h0 : (i 0).val < 2048 := (i 0).isLt
  let t : Fin cfg0.N := ⟨(i 0).val / 256, by rw [N0]; omega⟩
  refine ⟨t, flush0_3 t, ?_⟩
  have h := ((cfg0.win 3).blk t).view.emb_mem_set (ix2 (⟨(i 0).val % 256, by omega⟩ : Fin 256) (i 1) : S256x1024.Idx)
  have hi : (ix2 (row0 t ⟨(i 0).val % 256, by omega⟩) (i 1) : S2048x1024.Idx) = i := by
    funext a
    match a with
    | ⟨0, _⟩ => apply Fin.ext; show (i 0).val / 256 * 256 + (i 0).val % 256 = (i 0).val; omega
    | ⟨1, _⟩ => rfl
  have he := (emb0_3 t ⟨(i 0).val % 256, by omega⟩ (i 1)).trans hi
  exact he ▸ h

/-- The result array after the region. -/
theorem final0 (c : Dev nD) : (K0.dat (Ix := Ix) (U := U) (Lvl := Lvl) 𝒱₀ V D c).arrAt 3 cfg0.N
    = embArr (V c (Pipeline.arrRef spec0 0)) (V c (Pipeline.arrRef spec0 1)) (V c (Pipeline.arrRef spec0 2)) :=
  (K0.dat (Ix := Ix) (U := U) (Lvl := Lvl) 𝒱₀ V D c).arrAt_eq_of_cover 3 _ (fun t _ => flushed0 𝒱₀ V D c t) covered0_3

end Cert.KernelIdeal.Val

end
-- ==== Proof.Start.lean ====
module

public import proofs.«01_k».proof.Proof.Spec
public import Idealize.ShloMosaic.Lib.Pointwise
public import Idealize.ShloMosaic.Lib.SortNet.Extract

/-! Where a sequence's first segment starts, and the rows read from there on. -/

@[expose] public section

noncomputable section

open Idealize.ShloMosaic

namespace Cert.Spec

/-- The position of a segment start, 512 where there is none. -/
def mark (seg : Fin 512 → BitVec 32) (t : Fin 512) : ℕ := if seg t = 0#32 then 512 else t.val

/-- The first segment start of a sequence, at most the last position. -/
def start (seg : Fin 512 → BitVec 32) : ℕ := min ((Finset.univ : Finset (Fin 512)).inf' ⟨0, Finset.mem_univ _⟩ (mark seg)) 511

theorem start_le (seg : Fin 512 → BitVec 32) : start seg ≤ 511 := min_le_right _ _

/-- The row read for row `t`: `t` rows after the start, at most the last. -/
def shifted (seg : Fin 512 → BitVec 32) (t : Fin 512) : Fin 512 := ⟨min (start seg + t.val) 511, by omega⟩

theorem mark_le (seg : Fin 512 → BitVec 32) (t : Fin 512) : mark seg t ≤ 512 := by
  unfold mark; have := t.isLt; split <;> omega

theorem toInt_small (n : ℕ) (h : n < 2147483648) : (BitVec.ofNat 32 n).toInt = n := by
  rw [BitVec.toInt_eq_toNat_cond, BitVec.toNat_ofNat, Nat.mod_eq_of_lt (by omega), if_pos (by omega)]

theorem minsi_small : ∀ n : Fin 513, IntOp.minsi (BitVec.ofNat 32 n.val) 511#32 = BitVec.ofNat 32 (min n.val 511) := by
  decide +kernel

/-- A word that is the mark of some position and at most every mark, bounded by 511, is the start. -/
theorem start_of (seg : Fin 512 → BitVec 32) (w : BitVec 32) (hw : ∃ k, w = BitVec.ofNat 32 (mark seg k))
    (hm : ∀ k, w.toInt ≤ (BitVec.ofNat 32 (mark seg k)).toInt) : IntOp.minsi w 511#32 = BitVec.ofNat 32 (start seg) := by
  obtain ⟨k, rfl⟩ := hw
  have hk := mark_le seg k
  have he : (Finset.univ : Finset (Fin 512)).inf' ⟨0, Finset.mem_univ _⟩ (mark seg) = mark seg k := by
    refine le_antisymm (Finset.inf'_le _ (Finset.mem_univ k)) (Finset.le_inf' _ _ fun j _ => ?_)
    have h := hm j
    have hj := mark_le seg j
    rw [toInt_small _ (by omega), toInt_small _ (by omega)] at h
    omega
  have h := minsi_small ⟨mark seg k, by omega⟩
  unfold start
  rw [he]; exact h

/-- One over a product: with the table's entry a real number, adding one to the factor adds the entry to the product. -/
theorem add_one_mul (a x : EReal) (hb : x ≠ ⊥) (ht : x ≠ ⊤) : (a + 1) * x = a * x + x := by
  lift x to ℝ using ⟨ht, hb⟩
  induction a with
  | coe a => norm_cast; ring
  | bot =>
    rw [show (⊥ : EReal) + 1 = ⊥ from EReal.bot_add 1]
    rcases lt_trichotomy x 0 with h | h | h
    · rw [EReal.bot_mul_coe_of_neg h]; exact (EReal.top_add_coe x).symm
    · subst h; simp
    · rw [EReal.bot_mul_coe_of_pos h]; exact (EReal.bot_add _).symm
  | top =>
    rw [show (⊤ : EReal) + 1 = ⊤ from EReal.top_add_coe 1]
    rcases lt_trichotomy x 0 with h | h | h
    · rw [EReal.top_mul_coe_of_neg h]; exact (EReal.bot_add _).symm
    · subst h; simp
    · rw [EReal.top_mul_coe_of_pos h]; exact (EReal.top_add_coe x).symm

/-- The logits with one added at the token, times a table of real numbers: the product of the logits and the token's row. -/
theorem embed_eq (a : Fin 8192 → EReal) (id : BitVec 32) (hid : id.toNat < 8192) (emb : Fin 8192 → Fin 1024 → EReal)
    (he : ∀ v e, emb v e ≠ ⊥ ∧ emb v e ≠ ⊤) (e : Fin 1024) :
    embed a id emb e = (∑ v, a v * emb v e) + emb ⟨id.toNat, hid⟩ e := by
  unfold embed
  have h : ∀ v : Fin 8192, (a v + (if id = BitVec.ofNat 32 v.val then 1 else 0)) * emb v e
      = a v * emb v e + (if v = ⟨id.toNat, hid⟩ then emb v e else 0) := fun v => by
    have hv : id = BitVec.ofNat 32 v.val ↔ v = ⟨id.toNat, hid⟩ := by
      constructor
      · intro h; apply Fin.ext; show v.val = id.toNat
        rw [h, BitVec.toNat_ofNat, Nat.mod_eq_of_lt (by have := v.isLt; omega)]
      · intro h; rw [h]; simp
    by_cases hc : v = ⟨id.toNat, hid⟩
    · rw [if_pos hc, if_pos (hv.mpr hc), add_one_mul _ _ (he v e).1 (he v e).2]
    · rw [if_neg hc, if_neg (fun h => hc (hv.mp h)), add_zero, add_zero]
  rw [Finset.sum_congr rfl fun v _ => h v, Finset.sum_add_distrib, Finset.sum_ite_eq' Finset.univ, if_pos (Finset.mem_univ _)]

end Cert.Spec

end
-- ==== Proof.KernelIdeal.ValFirst.lean ====
module

public import proofs.«01_k».proof.Proof.Start
public import proofs.«01_k».proof.Proof.KernelIdeal.First
public import Idealize.ShloMosaic.Lib.Pointwise

/-! The region of the first segment starts: its payload is the start of each sequence, as a word. -/

@[expose] public section

set_option maxRecDepth 16384

noncomputable section

namespace Cert.KernelIdeal.Val

open Cert.KernelIdeal Cert.KernelIdeal.Gen
open Idealize.ShloMosaic Idealize.ShloMosaic.TcCoe

/-- A fold of the signed minimum is at most each of its values. -/
theorem fold_minsi_le {ι : Type} (s : Finset ι) (g : ι → BitVec 32) (z : BitVec 32) (a : ι) (ha : a ∈ s) :
    (s.fold IntOp.minsi z g).toInt ≤ (g a).toInt := by
  classical
  induction s using Finset.induction_on with
  | empty => simp at ha
  | insert b s hb ih =>
    rw [Finset.fold_insert hb]
    show (IntOp.minsi (g b) (s.fold IntOp.minsi z g)).toInt ≤ _
    rw [SortNet.toInt_minsi]
    rcases Finset.mem_insert.mp ha with h | h
    · rw [h]; exact min_le_left _ _
    · exact (min_le_right _ _).trans (ih h)

/-- A fold of the signed minimum is its start or one of its values. -/
theorem fold_minsi_mem {ι : Type} (s : Finset ι) (g : ι → BitVec 32) (z : BitVec 32) :
    s.fold IntOp.minsi z g = z ∨ ∃ a ∈ s, s.fold IntOp.minsi z g = g a := by
  classical
  induction s using Finset.induction_on with
  | empty => left; simp
  | insert b s hb ih =>
    rw [Finset.fold_insert hb]
    have hm : IntOp.minsi (g b) (s.fold IntOp.minsi z g) = g b ∨ IntOp.minsi (g b) (s.fold IntOp.minsi z g) = s.fold IntOp.minsi z g := by
      unfold IntOp.minsi; split <;> simp
    rcases hm with h | h
    · exact Or.inr ⟨b, Finset.mem_insert_self _ _, h⟩
    · rcases ih with h' | ⟨a, ha, h'⟩
      · exact Or.inl (h.trans h')
      · exact Or.inr ⟨a, Finset.mem_insert_of_mem ha, h.trans h'⟩

/-- The word of a position's mark. -/
theorem mark_word (seg : Fin 512 → BitVec 32) (t : Fin 512) :
    Scalar.select (IntOp.cmpi .ne (seg t) 0#32) (BitVec.ofNat 32 t.val) 512#32 = BitVec.ofNat 32 (Spec.mark seg t) := by
  unfold Scalar.select IntOp.cmpi Spec.mark
  by_cases h : seg t = 0#32
  · simp [h]
  · have hb : (seg t != 0#32) = true := by simp [h]
    simp only [hb, if_neg h]
    rfl

/-- The payload is the start of each sequence. -/
theorem first_apply (x : Vec Ideal S4x512 .i32) (b : Fin 4) (u : Fin 1) :
    k1_pay1 (F := Ideal) x (ix2 b u) = BitVec.ofNat 32 (Spec.start fun t => x (ix2 b t)) := by
  pointwise [k1_pay1]
  simp only [fun t => mark_word (fun t => x (ix2 b t)) t]
  generalize (fun t => x (ix2 b t)) = seg
  have hle : ∀ k, (Finset.univ.fold IntOp.minsi 2147483647#32 fun t => BitVec.ofNat 32 (Spec.mark seg t)).toInt
      ≤ (BitVec.ofNat 32 (Spec.mark seg k)).toInt := fun k =>
    fold_minsi_le Finset.univ (fun t => BitVec.ofNat 32 (Spec.mark seg t)) _ k (Finset.mem_univ k)
  refine Spec.start_of seg _ ?_ hle
  rcases fold_minsi_mem Finset.univ (fun t => BitVec.ofNat 32 (Spec.mark seg t)) 2147483647#32 with h | ⟨a, -, h⟩
  · exfalso
    have h0 := hle 0
    have hk := Spec.mark_le seg 0
    rw [h, Spec.toInt_small 2147483647 (by omega), Spec.toInt_small (Spec.mark seg 0) (by omega)] at h0
    omega
  · exact ⟨a, h⟩

end Cert.KernelIdeal.Val

end
-- ==== Proof.KernelIdeal.ValMixBase.lean ====
module

public import proofs.«01_k».proof.Proof.Spec
public import proofs.«01_k».proof.Proof.Gen.Own.KernelIdeal.K4.Frame
public import proofs.«01_k».proof.Proof.Gen.KernelIdeal.Points
public import Idealize.ShloMosaic.Lib.Pipeline.Value
public import Idealize.ShloMosaic.Lib.Pointwise

/-! What the mixer regions share: the layer on an array, the scratch read back, the order of the sums. -/

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL Idealize.SL.RA Idealize.SL.Sem

variable {Ix : Type} [DecidableEq Ix] {U : Type} [URA U] {Lvl : Type} [Preorder Lvl]
variable (𝒱₀ : Variants)
variable (V : (c : Dev nD) → (b : Ref sig .tc) → Buf (Elt Ideal) ((c : Thread nD τ).loc b))
variable (D : Dev nD → CellTallies nD τ sig Ix)

theorem hz2' : (![0, 0] : Fin 2 → Nat) = fun _ => 0 := funext fun a => by fin_cases a <;> rfl
theorem hz3 : (![0, 0, 0] : Fin 3 → Nat) = fun _ => 0 := funext fun a => by fin_cases a <;> rfl

/-- The mixer layer on every batch of an array. -/
def mixArr (X : Vec Ideal S4x512x1024 .f32) (A : Vec Ideal S1024x4096 .f32) (C : Vec Ideal S2048x4 .f32)
    (B : Vec Ideal S2048x1024 .f32) : Vec Ideal S4x512x1024 .f32 := fun i =>
  Spec.mixer (fun s k => X (ix3 (i 0) s k)) (fun k h => A (ix2 k h)) (fun d k => C (ix2 d k)) (fun d e => B (ix2 d e)) (i 1) (i 2)

/-- A load of 512 rows of that scratch, from row `o` on. -/
theorem scratch_read (v : View sig .tc .vmem S520x2048 .f32) (f : Vec Ideal S512x2048 .f32) (g : Vec Ideal S8x2048 .f32)
    (o : ℕ) (ho : o ≤ 8) (inb : ∀ a, (![o, 0] : Fin 2 → ℕ) a + S512x2048.size a ≤ S520x2048.size a) (t : Fin 512) (e : Fin 2048)
    (hg : ∀ i, g i = 0) :
    v.readCov [⟨Rect.unit (s := S520x2048) ![8, 0] S512x2048.size inb_S520x2048_S512x2048_8_0, f⟩, ⟨Rect.unit (s := S520x2048) ![0, 0] S8x2048.size inb_S520x2048_S8x2048_0_0, g⟩] (Rect.unit (s := S520x2048) ![o, 0] S512x2048.size inb).toLoadRect (ix2 t e : S512x2048.Idx)
      = Spec.back (fun t e => f (ix2 t e)) (8 - o) t e := by
  have hi : ∀ B : LoadRect S520x2048, v.readCov [⟨Rect.unit (s := S520x2048) ![8, 0] S512x2048.size inb_S520x2048_S512x2048_8_0, f⟩, ⟨Rect.unit (s := S520x2048) ![0, 0] S8x2048.size inb_S520x2048_S8x2048_0_0, g⟩] B = fun j => View.canon [⟨Rect.unit (s := S520x2048) ![8, 0] S512x2048.size inb_S520x2048_S512x2048_8_0, f⟩, ⟨Rect.unit (s := S520x2048) ![0, 0] S8x2048.size inb_S520x2048_S8x2048_0_0, g⟩] (B.idx j) :=
    fun B => View.readAt_writes_junk_eq_canon v [⟨Rect.unit (s := S520x2048) ![8, 0] S512x2048.size inb_S520x2048_S512x2048_8_0, f⟩, ⟨Rect.unit (s := S520x2048) ![0, 0] S8x2048.size inb_S520x2048_S8x2048_0_0, g⟩] B
  rw [hi]
  dsimp only
  have ht := t.isLt
  have hE : (Rect.unit (s := S520x2048) ![o, 0] S512x2048.size inb).toLoadRect.idx (ix2 t e : S512x2048.Idx)
      = (ix2 (⟨o + t.val, by omega⟩ : Fin 520) e : S520x2048.Idx) := by
    funext a; apply Fin.ext
    match a with
    | ⟨0, _⟩ => show o + 1 * t.val = o + t.val; omega
    | ⟨1, _⟩ => show 0 + 1 * e.val = e.val; omega
  rw [hE]
  unfold Spec.back
  by_cases h : 8 - o ≤ t.val
  · rw [if_pos h]
    have hx : (ix2 (⟨o + t.val, by omega⟩ : Fin 520) e : S520x2048.Idx)
        = (Rect.unit (s := S520x2048) ![8, 0] S512x2048.size inb_S520x2048_S512x2048_8_0).emb
            (ix2 (⟨t.val - (8 - o), by omega⟩ : Fin 512) e : S512x2048.Idx) := by
      funext a; apply Fin.ext
      match a with
      | ⟨0, _⟩ => show o + t.val = 8 + 1 * (t.val - (8 - o)); omega
      | ⟨1, _⟩ => show e.val = 0 + 1 * e.val; omega
    rw [hx, View.canon_cons_emb]
  · rw [if_neg h]
    have hx : (ix2 (⟨o + t.val, by omega⟩ : Fin 520) e : S520x2048.Idx)
        = (Rect.unit (s := S520x2048) ![0, 0] S8x2048.size inb_S520x2048_S8x2048_0_0).emb
            (ix2 (⟨o + t.val, by omega⟩ : Fin 8) e : S8x2048.Idx) := by
      funext a; apply Fin.ext
      match a with
      | ⟨0, _⟩ => show o + t.val = 0 + 1 * (o + t.val); omega
      | ⟨1, _⟩ => show e.val = 0 + 1 * e.val; omega
    rw [View.canon_cons_of_not_mem]
    · rw [hx, View.canon_cons_emb, hg]
    · intro hm
      have := (Rect.mem_set_unit (inb := inb_S520x2048_S512x2048_8_0).mp hm) 0
      have h8 : 8 ≤ o + t.val := this.1
      omega

/-- The mixer's sums in the order the body takes them. -/
theorem conv_order (f : Fin 512 → Fin 2048 → EReal) (cw : Fin 2048 → Fin 4 → EReal) (t : Fin 512) (d : Fin 2048) :
    f t d * cw d 3 + Spec.back f 3 t d * cw d 0 + Spec.back f 2 t d * cw d 1 + Spec.back f 1 t d * cw d 2 = Spec.conv f cw t d := by
  unfold Spec.conv
  ac_rfl

end Cert.KernelIdeal.Val

end
-- ==== Proof.KernelIdeal.ValMix2.lean ====
module

public import proofs.«01_k».proof.Proof.Spec
public import proofs.«01_k».proof.Proof.Start
public import proofs.«01_k».proof.Proof.KernelIdeal.ValMixBase
public import proofs.«01_k».proof.Proof.KernelIdeal.Mixer0
public import Idealize.ShloMosaic.Lib.KernelVsHost
public import proofs.«01_k».proof.Proof.Gen.KernelIdeal.Points
public import Idealize.ShloMosaic.Lib.Pipeline.Value
public import Idealize.ShloMosaic.Lib.Pointwise

/-! Mixer region 2 at the extended reals: it shifts every sequence to its start and applies the first mixer layer. -/

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL Idealize.SL.RA Idealize.SL.Sem

variable (V : (c : Dev nD) → (b : Ref sig .tc) → Buf (Elt Ideal) ((c : Thread nD τ).loc b))

/-- The amount the loaded window is rotated by, as the body computes it from the start word. -/
def amt (v1 : BitVec 32) : BitVec 32 :=
  Scalar.subi 520#32 (Scalar.subi v1 (Scalar.muli (Scalar.select (Scalar.andi (Scalar.cmpi .ne (Scalar.subi (Scalar.extui (Scalar.cmpi .sgt v1 0#32)) (Scalar.extui (Scalar.cmpi .slt v1 0#32))) (Scalar.subi (Scalar.extui (Scalar.cmpi .sgt 8#32 0#32)) (Scalar.extui (Scalar.cmpi .slt 8#32 0#32)))) (Scalar.cmpi .ne (Scalar.remsi v1 8#32) 0#32)) (Scalar.subi (Scalar.divsi v1 8#32) 1#32) (Scalar.divsi v1 8#32)) 8#32))

theorem amt_small : ∀ n : Fin 512, (amt (BitVec.ofNat 32 n.val)).toNat = 520 - n.val % 8 := by
  decide +kernel

theorem off2_small : ∀ n : Fin 512, k2_off2 (BitVec.ofNat 32 n.val) 0 = n.val / 8 * 8 ∧ k2_off2 (BitVec.ofNat 32 n.val) 1 = 0 := by
  decide +kernel

/-- The rotated window's row `t` is the loaded window's row the start's remainder later. -/
theorem pay5_apply (n : Fin 512) (v33 : Vec Ideal S520x1024 .f32) (t : Fin 512) (k : Fin 1024) :
    k2_pay5 (F := Ideal) (BitVec.ofNat 32 n.val) v33 (ix2 t k) = v33 (ix2 (⟨n.val % 8 + t.val, by omega⟩ : Fin 520) k) := by
  have h : k2_pay5 (F := Ideal) (BitVec.ofNat 32 n.val) v33
      = extractStridedSlice S512x1024 ![0, 0] (dynamicRotate 0 (amt (BitVec.ofNat 32 n.val)) none v33 rotates_S520x1024_d0) slices_S520x1024_o0_0_S512x1024 := rfl
  rw [h]
  unfold extractStridedSlice
  refine dynamicRotate_apply _ _ _ _ _ _ fun b => ?_
  have hn := n.isLt
  have ht := t.isLt
  match b with
  | ⟨0, _⟩ =>
    refine Eq.trans ?_ (if_pos rfl).symm
    rw [amt_small n]
    show n.val % 8 + t.val = (0 + t.val + 520 - (520 - n.val % 8) % 520) % 520
    omega
  | ⟨1, _⟩ =>
    refine Eq.trans ?_ (if_neg fun h => absurd (congrArg Fin.val h) (show ¬ (1 : ℕ) = 0 by omega)).symm
    exact (Nat.zero_add k.val).symm

/-- A load of 520 rows of the padded buffer, from row `o` on: the batch's rows, the last one repeated. -/
theorem pad_read (v : View sig .tc .vmem S1024x1024 .f32) (f g : Vec Ideal S512x1024 .f32) (X : Fin 512 → Fin 1024 → EReal) (off : Fin 2 → ℕ)
    (inb : ∀ a, off a + S520x1024.size a ≤ S1024x1024.size a) (o : ℕ) (h0 : off 0 = o) (h1 : off 1 = 0) (r : Fin 520) (k : Fin 1024)
    (hf : ∀ t k, f (ix2 t k) = X ⟨511, by omega⟩ k) (hg : ∀ t k, g (ix2 t k) = X t k) :
    v.readCov [⟨Rect.unit (s := S1024x1024) ![512, 0] S512x1024.size inb_S1024x1024_S512x1024_512_0, f⟩, ⟨Rect.unit (s := S1024x1024) ![0, 0] S512x1024.size inb_S1024x1024_S512x1024_0_0, g⟩] (Rect.unit (s := S1024x1024) off S520x1024.size inb).toLoadRect (ix2 r k : S520x1024.Idx)
      = X ⟨min (o + r.val) 511, by omega⟩ k := by
  have hi : ∀ B : LoadRect S1024x1024, v.readCov [⟨Rect.unit (s := S1024x1024) ![512, 0] S512x1024.size inb_S1024x1024_S512x1024_512_0, f⟩, ⟨Rect.unit (s := S1024x1024) ![0, 0] S512x1024.size inb_S1024x1024_S512x1024_0_0, g⟩] B = fun j => View.canon [⟨Rect.unit (s := S1024x1024) ![512, 0] S512x1024.size inb_S1024x1024_S512x1024_512_0, f⟩, ⟨Rect.unit (s := S1024x1024) ![0, 0] S512x1024.size inb_S1024x1024_S512x1024_0_0, g⟩] (B.idx j) :=
    fun B => View.readAt_writes_junk_eq_canon v [⟨Rect.unit (s := S1024x1024) ![512, 0] S512x1024.size inb_S1024x1024_S512x1024_512_0, f⟩, ⟨Rect.unit (s := S1024x1024) ![0, 0] S512x1024.size inb_S1024x1024_S512x1024_0_0, g⟩] B
  rw [hi]
  dsimp only
  have hr := r.isLt
  have hb : off 0 + 520 ≤ 1024 := inb 0
  have hE : (Rect.unit (s := S1024x1024) off S520x1024.size inb).toLoadRect.idx (ix2 r k : S520x1024.Idx)
      = (ix2 (⟨o + r.val, by omega⟩ : Fin 1024) k : S1024x1024.Idx) := by
    funext a; apply Fin.ext
    match a with
    | ⟨0, _⟩ => show off 0 + 1 * r.val = o + r.val; omega
    | ⟨1, _⟩ => show off 1 + 1 * k.val = k.val; omega
  rw [hE]
  by_cases h : 512 ≤ o + r.val
  · have hx : (ix2 (⟨o + r.val, by omega⟩ : Fin 1024) k : S1024x1024.Idx)
        = (Rect.unit (s := S1024x1024) ![512, 0] S512x1024.size inb_S1024x1024_S512x1024_512_0).emb
            (ix2 (⟨o + r.val - 512, by omega⟩ : Fin 512) k : S512x1024.Idx) := by
      funext a; apply Fin.ext
      match a with
      | ⟨0, _⟩ => show o + r.val = 512 + 1 * (o + r.val - 512); omega
      | ⟨1, _⟩ => show k.val = 0 + 1 * k.val; omega
    rw [hx, View.canon_cons_emb, hf]
    have hm : (⟨min (o + r.val) 511, by omega⟩ : Fin 512) = ⟨511, by omega⟩ := Fin.ext (by show min _ _ = 511; omega)
    rw [hm]
  · have hx : (ix2 (⟨o + r.val, by omega⟩ : Fin 1024) k : S1024x1024.Idx)
        = (Rect.unit (s := S1024x1024) ![0, 0] S512x1024.size inb_S1024x1024_S512x1024_0_0).emb
            (ix2 (⟨o + r.val, by omega⟩ : Fin 512) k : S512x1024.Idx) := by
      funext a; apply Fin.ext
      match a with
      | ⟨0, _⟩ => show o + r.val = 0 + 1 * (o + r.val); omega
      | ⟨1, _⟩ => show k.val = 0 + 1 * k.val; omega
    rw [View.canon_cons_of_not_mem]
    · rw [hx, View.canon_cons_emb, hg]
      have hm : (⟨min (o + r.val) 511, by omega⟩ : Fin 512) = ⟨o + r.val, by omega⟩ := Fin.ext (by show min _ _ = o + r.val; omega)
      rw [hm]
    · intro hm
      have := (Rect.mem_set_unit (inb := inb_S1024x1024_S512x1024_512_0).mp hm) 0
      have h8 : 512 ≤ o + r.val := this.1
      omega

/-- The stored last row, and the stored rows. -/
theorem pad_last (X : Vec Ideal S1x512x1024 .f32) (t : Fin 512) (k : Fin 1024) : k2_pay4 X (ix2 t k) = X (ix3 0 (⟨511, by omega⟩ : Fin 512) k) := by
  pointwise [k2_pay4, k2_pay2]

theorem pad_rows (X : Vec Ideal S1x512x1024 .f32) (t : Fin 512) (k : Fin 1024) : k2_pay3 X (ix2 t k) = X (ix3 0 t k) := by
  pointwise [k2_pay3, k2_pay2]

/-- The body's payload from its loads, on the shifted rows. -/
theorem mixpay2 (x : FVec Ideal S512x1024 .f32) (A : Vec Ideal S1024x4096 .f32) (c0 c1 c2 c3 : Vec Ideal S2048x1 .f32)
    (s5 s6 s7 : Vec Ideal S512x2048 .f32) (B : Vec Ideal S2048x1024 .f32) (u : Fin 1) (t : Fin 512) (e : Fin 1024) :
    k2_pay1 x (k2_pay9 x (mulf x x) A) (k2_pay12 x (mulf x x) A c3 s5 c0) s6 (k2_pay13 c1) s7 c2 B (ix3 u t e)
      = x (ix2 t e) + Spec.mv (fun d => Spec.silu (Spec.mv (Spec.rms fun k => x (ix2 t k)) (Spec.lft fun k h => A (ix2 k h)) d * c3 (ix2 d 0)
          + s5 (ix2 t d) * c0 (ix2 d 0) + s6 (ix2 t d) * c1 (ix2 d 0) + s7 (ix2 t d) * c2 (ix2 d 0))
        * Spec.silu (Spec.mv (Spec.rms fun k => x (ix2 t k)) (Spec.rgt fun k h => A (ix2 k h)) d)) (fun d e => B (ix2 d e)) e := by
  pointwise [k2_pay1, k2_pay9, k2_pay12, k2_pay13, k2_pay8, k2_pay7]
  simp only [dite_eq_ite, ite_self, ← Spec.gate_eq, ← Spec.div_width]
  rfl

/-- The stored left half. -/
theorem leftpay2 (x : FVec Ideal S512x1024 .f32) (A : Vec Ideal S1024x4096 .f32) (t : Fin 512) (e : Fin 2048) :
    k2_pay11 x (mulf x x) A (ix2 t e) = Spec.mv (Spec.rms fun k => x (ix2 t k)) (Spec.lft fun k h => A (ix2 k h)) e := by
  pointwise [k2_pay11, k2_pay8, k2_pay7]
  simp only [dite_eq_ite, ite_self, ← Spec.div_width]
  rfl

theorem zeropay2 (i : S8x2048.Idx) : k2_pay10 (F := Ideal) i = 0 := by
  pointwise [k2_pay10]

/-- The row `s` rows after row `n`, at most the last. -/
def later (n s : Fin 512) : Fin 512 := ⟨min (n.val + s.val) 511, by omega⟩

set_option maxHeartbeats 2000000 in
/-- What the run leaves in the output's staging buffer, with the start word `n`. -/
theorem out_eq2 (c : Dev nD) (i : grid2.Coords) (arg1 : Memref sig .tc .smem S4x1 .i32) (harg1 : arg1.IsWhole) (arg2 : Memref sig .tc .vmem S1x512x1024 .f32) (harg2 : arg2.IsWhole) (arg3 : Memref sig .tc .vmem S1024x4096 .f32) (harg3 : arg3.IsWhole) (arg4 : Memref sig .tc .vmem S2048x4 .f32) (harg4 : arg4.IsWhole) (arg5 : Memref sig .tc .vmem S2048x1024 .f32) (harg5 : arg5.IsWhole) (arg6 : Memref sig .tc .vmem S1x512x1024 .f32) (harg6 : arg6.IsWhole) (arg7 : Memref sig .tc .vmem S1024x1024 .f32) (harg7 : arg7.IsWhole) (arg8 : Memref sig .tc .vmem S520x2048 .f32) (harg8 : arg8.IsWhole)
    (x0 : Vec Ideal S4x1 .i32) (x1 : Vec Ideal S1x512x1024 .f32) (x2 : Vec Ideal S1024x4096 .f32) (x3 : Vec Ideal S2048x4 .f32) (x4 : Vec Ideal S2048x1024 .f32) (hx0 : ∀ y, (x0 y).toNat ≤ 511)
    (n : Fin 512) (b : Fin 4) (hb : (i 0).val = b.val) (hn : x0 (ix2 b 0) = BitVec.ofNat 32 n.val) (u : Fin 1) (t : Fin 512) (e : Fin 1024) :
    Mixer0.out2_A_5 c i arg1 harg1 arg2 harg2 arg3 harg3 arg4 harg4 arg5 harg5 arg6 harg6 arg7 harg7 arg8 harg8 x0 x1 x2 x3 x4 hx0 (ix3 u t e)
      = Spec.mixer (fun s k => x1 (ix3 0 (later n s) k)) (fun k h => x2 (ix2 k h)) (fun d k => x3 (ix2 d k)) (fun d e => x4 (ix2 d e)) t e := by
  unfold Mixer0.out2_A_5
  rw [View.read_writes_junk_eq_canon]
  have rX : View.readAt (Elt Ideal) arg2.view (Rect.unit (s := S1x512x1024) ![0, 0, 0] S1x512x1024.size inb_S1x512x1024_S1x512x1024_0_0_0).toLoadRect (harg2.unread x1) = x1 := by
    rw [View.readAt_eq_ld, harg2.read_unread, View.ld_unit_zero hz3]
  have rA : View.readAt (Elt Ideal) arg3.view (Rect.unit (s := S1024x4096) ![0, 0] S1024x4096.size inb_S1024x4096_S1024x4096_0_0).toLoadRect (harg3.unread x2) = x2 := by
    rw [View.readAt_eq_ld, harg3.read_unread, View.ld_unit_zero hz2']
  have rB : View.readAt (Elt Ideal) arg5.view (Rect.unit (s := S2048x1024) ![0, 0] S2048x1024.size inb_S2048x1024_S2048x1024_0_0).toLoadRect (harg5.unread x4) = x4 := by
    rw [View.readAt_eq_ld, harg5.read_unread, View.ld_unit_zero hz2']
  have rC : ∀ (k : ℕ) (hk : k < 4) (inb : ∀ a, (![0, k] : Fin 2 → ℕ) a + S2048x1.size a ≤ S2048x4.size a) (d : Fin 2048),
      View.readAt (Elt Ideal) arg4.view (Rect.unit (s := S2048x4) ![0, k] S2048x1.size inb).toLoadRect (harg4.unread x3) (ix2 d 0 : S2048x1.Idx)
        = x3 (ix2 d ⟨k, hk⟩) := by
    intro k hk inb d
    rw [View.readAt_eq_ld, harg4.read_unread]
    refine congrArg x3 ?_
    funext a; apply Fin.ext
    match a with
    | ⟨0, _⟩ => show 0 + 1 * d.val = d.val; omega
    | ⟨1, _⟩ => show k + 1 * 0 = k; omega
  have hr : Mixer0.kernelRun2_A.sl.r c i arg1 harg1 x0 = BitVec.ofNat 32 n.val := by
    delta Mixer0.kernelRun2_A.sl.r
    simp only [View.readAt_apply, Memref.IsWhole.read_unread]
    rw [← hn]
    refine congrArg x0 ?_
    have hb4 := b.isLt
    have h4 : k2_off1 i 0 = b.val := by
      show (BitVec.ofNat 32 (i 0).val).toNat = b.val
      rw [hb, BitVec.toNat_ofNat, Nat.mod_eq_of_lt (by omega)]
    funext a; apply Fin.ext
    match a with
    | ⟨0, _⟩ => show k2_off1 i 0 + 1 * 0 = b.val; omega
    | ⟨1, _⟩ => show 0 + 1 * 0 = 0; omega
  obtain ⟨xs, hxs⟩ : ∃ xs : FVec Ideal S512x1024 .f32, ∀ t k, xs (ix2 t k) = x1 (ix3 0 (later n t) k) :=
    ⟨fun j => x1 (ix3 0 (later n (j 0)) (j 1)), fun _ _ => rfl⟩
  have hX : k2_pay5 (F := Ideal) (Mixer0.kernelRun2_A.sl.r c i arg1 harg1 x0) (Mixer0.kernelRun2_A.sl.v33 c i arg1 harg1 arg2 harg2 arg7 x0 x1 hx0) = xs := by
    funext j
    obtain ⟨t, k, rfl⟩ : ∃ (t : Fin 512) (k : Fin 1024), j = (ix2 t k : S512x1024.Idx) := ⟨j 0, j 1, by
      funext a; match a with | ⟨0, _⟩ => rfl | ⟨1, _⟩ => rfl⟩
    have ho := off2_small n
    rw [← hr] at ho
    rw [hxs]
    refine (congrArg (fun w => k2_pay5 (F := Ideal) w (Mixer0.kernelRun2_A.sl.v33 c i arg1 harg1 arg2 harg2 arg7 x0 x1 hx0) (ix2 t k)) hr).trans ?_
    rw [pay5_apply]
    delta Mixer0.kernelRun2_A.sl.v33
    dsimp only
    refine (pad_read _ _ _ (fun s k => x1 (ix3 0 s k)) _ _ _ ho.1 ho.2 _ _ (fun t k => ?_) (fun t k => ?_)).trans ?_
    · rw [rX]; exact pad_last x1 t k
    · rw [rX]; exact pad_rows x1 t k
    · have ht := t.isLt
      refine congrArg (fun s => x1 (ix3 0 s k)) (Fin.ext ?_)
      show min (n.val / 8 * 8 + (n.val % 8 + t.val)) 511 = min (n.val + t.val) 511
      omega
  have hX2 : Mixer0.kernelRun2_A.sl.r_2 c i arg1 harg1 arg2 harg2 arg7 x0 x1 hx0 = mulf xs xs := by
    rw [← hX]; rfl
  unfold Mixer0.kernelRun2_A
  dsimp only
  delta Mixer0.kernelRun2_A.sl.r_1 Mixer0.kernelRun2_A.sl.r_3 Mixer0.kernelRun2_A.sl.r_4 Mixer0.kernelRun2_A.sl.r_5 Mixer0.kernelRun2_A.sl.v71 Mixer0.kernelRun2_A.sl.v78 Mixer0.kernelRun2_A.sl.v64 Mixer0.kernelRun2_A.sl.HS1_2
  dsimp only
  rw [View.canon_unit_zero hz3, hX, hX2, rA, rB, mixpay2]
  simp only [scratch_read _ _ _ 5 (by omega) _ _ _ zeropay2, scratch_read _ _ _ 6 (by omega) _ _ _ zeropay2,
    scratch_read _ _ _ 7 (by omega) _ _ _ zeropay2, rC 0 (by omega), rC 1 (by omega), rC 2 (by omega), rC 3 (by omega), leftpay2]
  unfold Spec.mixer
  simp only [← conv_order, hxs]
  rfl

theorem idx2_1 : ∀ t : Fin cfg2.N, win2_1.index t (0 : Fin 3) = t.val ∧ win2_1.index t (1 : Fin 3) = 0 ∧ win2_1.index t (2 : Fin 3) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 3) = t.val ∧ win2_5.index t (1 : Fin 3) = 0 ∧ win2_5.index t (2 : Fin 3) = 0 :=
  (by decide +kernel : ∀ t : Fin grid2.N, _)
theorem N2 : cfg2.N = 4 := by decide +kernel

/-- The batch a grid point works on. -/
def bat2 (t : Fin cfg2.N) : Fin 4 := ⟨t.val, by have := t.isLt; have := N2; omega⟩

theorem idx2_0 : ∀ t : Fin cfg2.N, win2_0.index t (0 : Fin 2) = 0 ∧ win2_0.index t (1 : Fin 2) = 0 :=
  (by decide +kernel : ∀ t : Fin grid2.N, _)
theorem coord2 : ∀ t : Fin cfg2.N, (grid2.coords t 0).val = (bat2 t).val := by
  decide +kernel
theorem emb2_0 (t : Fin cfg2.N) (b : Fin 4) (u : Fin 1) :
    ((cfg2.win 0).blk t).view.emb (ix2 b u : S4x1.Idx) = (ix2 b u : S4x1.Idx) := by
  obtain ⟨e0, e1⟩ := idx2_0 t
  funext a; apply Fin.ext
  match a with
  | ⟨0, _⟩ => show win2_0.index t (0 : Fin 2) * 4 + 1 * b.val = b.val; omega
  | ⟨1, _⟩ => show win2_0.index t (1 : Fin 2) * 1 + 1 * u.val = u.val; omega
theorem emb2_1 (t : Fin cfg2.N) (u : Fin 1) (r : Fin 512) (e : Fin 1024) :
    ((cfg2.win 1).blk t).view.emb (ix3 u r e : S1x512x1024.Idx) = (ix3 (bat2 t) r e : S4x512x1024.Idx) := by
  obtain ⟨e0, e1, e2⟩ := idx2_1 t
  have hu : u.val = 0 := by omega
  funext a; apply Fin.ext
  match a with
  | ⟨0, _⟩ => show win2_1.index t (0 : Fin 3) * 1 + 1 * u.val = t.val; omega
  | ⟨1, _⟩ => show win2_1.index t (1 : Fin 3) * 512 + 1 * r.val = r.val; omega
  | ⟨2, _⟩ => show win2_1.index t (2 : Fin 3) * 1024 + 1 * e.val = e.val; omega
theorem emb2_2 (t : Fin cfg2.N) (r : Fin 1024) (e : Fin 4096) :
    ((cfg2.win 2).blk t).view.emb (ix2 r e : S1024x4096.Idx) = (ix2 r e : S1024x4096.Idx) := by
  obtain ⟨e0, e1⟩ := idx2_2 t
  funext a; apply Fin.ext
  match a with
  | ⟨0, _⟩ => show win2_2.index t (0 : Fin 2) * 1024 + 1 * r.val = r.val; omega
  | ⟨1, _⟩ => show win2_2.index t (1 : Fin 2) * 4096 + 1 * e.val = e.val; omega
theorem emb2_3 (t : Fin cfg2.N) (r : Fin 2048) (e : Fin 4) :
    ((cfg2.win 3).blk t).view.emb (ix2 r e : S2048x4.Idx) = (ix2 r e : S2048x4.Idx) := by
  obtain ⟨e0, e1⟩ := idx2_3 t
  funext a; apply Fin.ext
  match a with
  | ⟨0, _⟩ => show win2_3.index t (0 : Fin 2) * 2048 + 1 * r.val = r.val; omega
  | ⟨1, _⟩ => show win2_3.index t (1 : Fin 2) * 4 + 1 * e.val = e.val; omega
theorem emb2_4 (t : Fin cfg2.N) (r : Fin 2048) (e : Fin 1024) :
    ((cfg2.win 4).blk t).view.emb (ix2 r e : S2048x1024.Idx) = (ix2 r e : S2048x1024.Idx) := by
  obtain ⟨e0, e1⟩ := idx2_4 t
  funext a; apply Fin.ext
  match a with
  | ⟨0, _⟩ => show win2_4.index t (0 : Fin 2) * 2048 + 1 * r.val = r.val; omega
  | ⟨1, _⟩ => show win2_4.index t (1 : Fin 2) * 1024 + 1 * e.val = e.val; omega
theorem emb2_5 (t : Fin cfg2.N) (u : Fin 1) (r : Fin 512) (e : Fin 1024) :
    ((cfg2.win 5).blk t).view.emb (ix3 u r e : S1x512x1024.Idx) = (ix3 (bat2 t) r e : S4x512x1024.Idx) := by
  obtain ⟨e0, e1, e2⟩ := idx2_5 t
  have hu : u.val = 0 := by omega
  funext a; apply Fin.ext
  match a with
  | ⟨0, _⟩ => show win2_5.index t (0 : Fin 3) * 1 + 1 * u.val = t.val; omega
  | ⟨1, _⟩ => show win2_5.index t (1 : Fin 3) * 512 + 1 * r.val = r.val; omega
  | ⟨2, _⟩ => show win2_5.index t (2 : Fin 3) * 1024 + 1 * e.val = e.val; omega

/-- The mixer layer on every batch of an array, each batch's rows taken from its start on. -/
def mixLater (n : Fin 4 → Fin 512) (X : Vec Ideal S4x512x1024 .f32) (A : Vec Ideal S1024x4096 .f32) (C : Vec Ideal S2048x4 .f32)
    (B : Vec Ideal S2048x1024 .f32) : Vec Ideal S4x512x1024 .f32 := fun i =>
  Spec.mixer (fun s k => X (ix3 (i 0) (later (n (i 0)) s) k)) (fun k h => A (ix2 k h)) (fun d k => C (ix2 d k)) (fun d e => B (ix2 d e)) (i 1) (i 2)

variable (hV : Mixer0.FirstLe V) (n : Dev nD → Fin 4 → Fin 512)
  (hn : ∀ (c : Dev nD) (b : Fin 4), V c (Pipeline.arrRef spec2 0) (ix2 b 0 : S4x1.Idx) = BitVec.ofNat 32 (n c b).val)

include hn in
set_option maxHeartbeats 2000000 in
theorem flushed2 (c : Dev nD) (t : Fin cfg2.N) :
    (Mixer0.dat2 (F := Ideal) V hV c).flushed 5 t
      = ((cfg2.win 5).blk t).view.read (Elt Ideal) (mixLater (n c) (V c (Pipeline.arrRef spec2 1)) (V c (Pipeline.arrRef spec2 2))
          (V c (Pipeline.arrRef spec2 3)) (V c (Pipeline.arrRef spec2 4))) := by
  funext j
  obtain ⟨u, r, e, rfl⟩ : ∃ (u : Fin 1) (r : Fin 512) (e : Fin 1024), j = (ix3 u r e : S1x512x1024.Idx) := ⟨j 0, j 1, j 2, by
    funext a; match a with | ⟨0, _⟩ => rfl | ⟨1, _⟩ => rfl | ⟨2, _⟩ => rfl⟩
  show (Mixer0.dat2 (F := Ideal) V hV c).after 5 t (ix3 u r e : S1x512x1024.Idx)
    = mixLater (n c) (V c (Pipeline.arrRef spec2 1)) (V c (Pipeline.arrRef spec2 2)) (V c (Pipeline.arrRef spec2 3)) (V c (Pipeline.arrRef spec2 4))
        (((cfg2.win 5).blk t).view.emb (ix3 u r e : S1x512x1024.Idx))
  rw [emb2_5, Mixer0.after2_5]
  unfold Mixer0.outsAt2
  rw [out_eq2 c _ _ _ _ _ _ _ _ _ _ _ _ _ _ _ _ _ _ _ _ _ _ _ (n c (bat2 t)) (bat2 t) (coord2 t) ((congrArg (V c (Pipeline.arrRef spec2 0)) (emb2_0 t (bat2 t) 0)).trans (hn c (bat2 t)))]
  show Spec.mixer (fun s k => V c (Pipeline.arrRef spec2 1) (((cfg2.win 1).blk t).view.emb (ix3 0 (later (n c (bat2 t)) s) k : S1x512x1024.Idx)))
      (fun k h => V c (Pipeline.arrRef spec2 2) (((cfg2.win 2).blk t).view.emb (ix2 k h : S1024x4096.Idx)))
      (fun h k => V c (Pipeline.arrRef spec2 3) (((cfg2.win 3).blk t).view.emb (ix2 h k : S2048x4.Idx)))
      (fun h k => V c (Pipeline.arrRef spec2 4) (((cfg2.win 4).blk t).view.emb (ix2 h k : S2048x1024.Idx))) r e
    = Spec.mixer (fun s k => V c (Pipeline.arrRef spec2 1) (ix3 (bat2 t) (later (n c (bat2 t)) s) k : S4x512x1024.Idx)) (fun k h => V c (Pipeline.arrRef spec2 2) (ix2 k h : S1024x4096.Idx))
      (fun h k => V c (Pipeline.arrRef spec2 3) (ix2 h k : S2048x4.Idx)) (fun h k => V c (Pipeline.arrRef spec2 4) (ix2 h k : S2048x1024.Idx)) r e
  exact congrFun (congrFun (congr (congr (congr (congrArg Spec.mixer (funext fun s => funext fun k => congrArg (V c (Pipeline.arrRef spec2 1)) (emb2_1 t 0 (later (n c (bat2 t)) s) k)))
    (funext fun k => funext fun h => congrArg (V c (Pipeline.arrRef spec2 2)) (emb2_2 t k h)))
    (funext fun h => funext fun k => congrArg (V c (Pipeline.arrRef spec2 3)) (emb2_3 t h k)))
    (funext fun h => funext fun k => congrArg (V c (Pipeline.arrRef spec2 4)) (emb2_4 t h k))) r) e

theorem flush2 : ∀ t : Fin cfg2.N, (cfg2.win 5).flush t = true := by decide +kernel

theorem covered2 (i : S4x512x1024.Idx) :
    ∃ t : Fin cfg2.N, (cfg2.win 5).flush t = true ∧ i ∈ ((cfg2.win 5).blk t).view.set := by
  have h0 : (i 0).val < 4 := (i 0).isLt
  let t : Fin cfg2.N := ⟨(i 0).val, by rw [N2]; omega⟩
  refine ⟨t, flush2 t, ?_⟩
  have h := ((cfg2.win 5).blk t).view.emb_mem_set (ix3 (0 : Fin 1) (i 1) (i 2) : S1x512x1024.Idx)
  have hi : (ix3 (bat2 t) (i 1) (i 2) : S4x512x1024.Idx) = i := by
    funext a
    match a with
    | ⟨0, _⟩ => rfl
    | ⟨1, _⟩ => rfl
    | ⟨2, _⟩ => rfl
  have he := (emb2_5 t 0 (i 1) (i 2)).trans hi
  exact he ▸ h

include hn in
/-- The result array after the region: the mixer layer on every batch, shifted. -/
theorem final2 (c : Dev nD) : (Mixer0.dat2 (F := Ideal) V hV c).arrAt 5 cfg2.N
    = mixLater (n c) (V c (Pipeline.arrRef spec2 1)) (V c (Pipeline.arrRef spec2 2)) (V c (Pipeline.arrRef spec2 3)) (V c (Pipeline.arrRef spec2 4)) :=
  (Mixer0.dat2 (F := Ideal) V hV c).arrAt_eq_of_cover 5 _ (fun t _ => flushed2 V hV n hn c t) covered2

end Cert.KernelIdeal.Val

end
-- ==== Proof.KernelIdeal.ValMix4.lean ====
module

public import proofs.«01_k».proof.Proof.Spec
public import proofs.«01_k».proof.Proof.KernelIdeal.ValMixBase
public import proofs.«01_k».proof.Proof.Gen.Own.KernelIdeal.K4.Frame
public import proofs.«01_k».proof.Proof.Gen.KernelIdeal.Points
public import Idealize.ShloMosaic.Lib.Pipeline.Value
public import Idealize.ShloMosaic.Lib.Pointwise

/-! Mixer region 4 at the extended reals: what it leaves in its result array. -/

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL Idealize.SL.RA Idealize.SL.Sem

variable {Ix : Type} [DecidableEq Ix] {U : Type} [URA U] {Lvl : Type} [Preorder Lvl]
variable (𝒱₀ : Variants)
variable (V : (c : Dev nD) → (b : Ref sig .tc) → Buf (Elt Ideal) ((c : Thread nD τ).loc b))
variable (D : Dev nD → CellTallies nD τ sig Ix)

/-- The body's payload from its loads. -/
theorem mixpay4 (X : Vec Ideal S1x512x1024 .f32) (A : Vec Ideal S1024x4096 .f32) (c0 c1 c2 c3 : Vec Ideal S2048x1 .f32)
    (s5 s6 s7 : Vec Ideal S512x2048 .f32) (B : Vec Ideal S2048x1024 .f32) (u : Fin 1) (t : Fin 512) (e : Fin 1024) :
    k4_pay1 (k4_pay2 X) (k4_pay5 X A) (k4_pay8 X A c3 s5 c0) s6 c1 s7 c2 B (ix3 u t e)
      = X (ix3 0 t e) + Spec.mv (fun d => Spec.silu (Spec.mv (Spec.rms fun k => X (ix3 0 t k)) (Spec.lft fun k h => A (ix2 k h)) d * c3 (ix2 d 0)
          + s5 (ix2 t d) * c0 (ix2 d 0) + s6 (ix2 t d) * c1 (ix2 d 0) + s7 (ix2 t d) * c2 (ix2 d 0))
        * Spec.silu (Spec.mv (Spec.rms fun k => X (ix3 0 t k)) (Spec.rgt fun k h => A (ix2 k h)) d)) (fun d e => B (ix2 d e)) e := by
  pointwise [k4_pay1, k4_pay2, k4_pay5, k4_pay8, k4_pay4, k4_pay3]
  simp only [← Spec.gate_eq]
  rfl

/-- The stored left half. -/
theorem leftpay4 (X : Vec Ideal S1x512x1024 .f32) (A : Vec Ideal S1024x4096 .f32) (t : Fin 512) (e : Fin 2048) :
    k4_pay7 X A (ix2 t e) = Spec.mv (Spec.rms fun k => X (ix3 0 t k)) (Spec.lft fun k h => A (ix2 k h)) e := by
  pointwise [k4_pay7, k4_pay2, k4_pay4, k4_pay3]
  rfl

theorem zeropay4 (i : S8x2048.Idx) : k4_pay6 (F := Ideal) i = 0 := by
  pointwise [k4_pay6]

set_option maxHeartbeats 1000000 in
/-- What the run leaves in the output's staging buffer. -/
theorem out_eq4 (c : Dev nD) (i : grid4.Coords) (a1 : Memref sig .tc .vmem S1x512x1024 .f32) (h1 : a1.IsWhole)
    (a2 : Memref sig .tc .vmem S1024x4096 .f32) (h2 : a2.IsWhole) (a3 : Memref sig .tc .vmem S2048x4 .f32) (h3 : a3.IsWhole)
    (a4 : Memref sig .tc .vmem S2048x1024 .f32) (h4 : a4.IsWhole)
    (a5 : Memref sig .tc .vmem S1x512x1024 .f32) (h5 : a5.IsWhole) (a6 : Memref sig .tc .vmem S520x2048 .f32) (h6 : a6.IsWhole)
    (x0 : Vec Ideal S1x512x1024 .f32)
    (x1 : Vec Ideal S1024x4096 .f32) (x2 : Vec Ideal S2048x4 .f32) (x3 : Vec Ideal S2048x1024 .f32)
    (u : Fin 1) (t : Fin 512) (e : Fin 1024) :
    K4.out4_A_4 (Ix := Ix) (U := U) (Lvl := Lvl) 𝒱₀ c i a1 h1 a2 h2 a3 h3 a4 h4 a5 h5 a6 h6 x0 x1 x2 x3 (ix3 u t e)
      = Spec.mixer (fun s k => x0 (ix3 0 s k)) (fun k h => x1 (ix2 k h)) (fun d k => x2 (ix2 d k)) (fun d e => x3 (ix2 d e)) t e := by
  unfold K4.out4_A_4
  rw [View.read_writes_junk_eq_canon]
  have rX : View.readAt (Elt Ideal) a1.view (Rect.unit (s := S1x512x1024) ![0, 0, 0] S1x512x1024.size inb_S1x512x1024_S1x512x1024_0_0_0).toLoadRect (h1.unread x0) = x0 := by
    rw [View.readAt_eq_ld, h1.read_unread, View.ld_unit_zero hz3]
  have rA : View.readAt (Elt Ideal) a2.view (Rect.unit (s := S1024x4096) ![0, 0] S1024x4096.size inb_S1024x4096_S1024x4096_0_0).toLoadRect (h2.unread x1) = x1 := by
    rw [View.readAt_eq_ld, h2.read_unread, View.ld_unit_zero hz2']
  have rB : View.readAt (Elt Ideal) a4.view (Rect.unit (s := S2048x1024) ![0, 0] S2048x1024.size inb_S2048x1024_S2048x1024_0_0).toLoadRect (h4.unread x3) = x3 := by
    rw [View.readAt_eq_ld, h4.read_unread, View.ld_unit_zero hz2']
  have rC : ∀ (k : ℕ) (hk : k < 4) (inb : ∀ a, (![0, k] : Fin 2 → ℕ) a + S2048x1.size a ≤ S2048x4.size a) (d : Fin 2048),
      View.readAt (Elt Ideal) a3.view (Rect.unit (s := S2048x4) ![0, k] S2048x1.size inb).toLoadRect (h3.unread x2) (ix2 d 0 : S2048x1.Idx)
        = x2 (ix2 d ⟨k, hk⟩) := by
    intro k hk inb d
    rw [View.readAt_eq_ld, h3.read_unread]
    refine congrArg x2 ?_
    funext a; apply Fin.ext
    match a with
    | ⟨0, _⟩ => show 0 + 1 * d.val = d.val; omega
    | ⟨1, _⟩ => show k + 1 * 0 = k; omega
  unfold K4.kernelRun4_A
  dsimp only
  delta K4.kernelRun4_A.sl.r K4.kernelRun4_A.sl.r_1 K4.kernelRun4_A.sl.r_2 K4.kernelRun4_A.sl.v36 K4.kernelRun4_A.sl.v29 K4.kernelRun4_A.sl.v43 K4.kernelRun4_A.sl.HS0_2
  dsimp only
  rw [View.canon_unit_zero hz3, rX, rA, rB, mixpay4]
  simp only [scratch_read _ _ _ 5 (by omega) _ _ _ zeropay4, scratch_read _ _ _ 6 (by omega) _ _ _ zeropay4,
    scratch_read _ _ _ 7 (by omega) _ _ _ zeropay4, rC 0 (by omega), rC 1 (by omega), rC 2 (by omega), rC 3 (by omega), leftpay4]
  unfold Spec.mixer
  simp only [← conv_order]
  rfl

theorem idx4_0 : ∀ t : Fin cfg4.N, win4_0.index t (0 : Fin 3) = t.val ∧ win4_0.index t (1 : Fin 3) = 0 ∧ win4_0.index t (2 : Fin 3) = 0 :=
  (by decide +kernel : ∀ t : Fin grid4.N, _)
theorem idx4_1 : ∀ t : Fin cfg4.N, win4_1.index t (0 : Fin 2) = 0 ∧ win4_1.index t (1 : Fin 2) = 0 :=
  (by decide +kernel : ∀ t : Fin grid4.N, _)
theorem idx4_2 : ∀ t : Fin cfg4.N, win4_2.index t (0 : Fin 2) = 0 ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 3) = t.val ∧ win4_4.index t (1 : Fin 3) = 0 ∧ win4_4.index t (2 : Fin 3) = 0 :=
  (by decide +kernel : ∀ t : Fin grid4.N, _)
theorem N4 : cfg4.N = 4 := by decide +kernel

/-- The batch a grid point works on. -/
def bat4 (t : Fin cfg4.N) : Fin 4 := ⟨t.val, by have := t.isLt; have := N4; omega⟩

theorem emb4_0 (t : Fin cfg4.N) (u : Fin 1) (r : Fin 512) (e : Fin 1024) :
    ((cfg4.win 0).blk t).view.emb (ix3 u r e : S1x512x1024.Idx) = (ix3 (bat4 t) r e : S4x512x1024.Idx) := by
  obtain ⟨e0, e1, e2⟩ := idx4_0 t
  have hu : u.val = 0 := by omega
  funext a; apply Fin.ext
  match a with
  | ⟨0, _⟩ => show win4_0.index t (0 : Fin 3) * 1 + 1 * u.val = t.val; omega
  | ⟨1, _⟩ => show win4_0.index t (1 : Fin 3) * 512 + 1 * r.val = r.val; omega
  | ⟨2, _⟩ => show win4_0.index t (2 : Fin 3) * 1024 + 1 * e.val = e.val; omega
theorem emb4_1 (t : Fin cfg4.N) (r : Fin 1024) (e : Fin 4096) :
    ((cfg4.win 1).blk t).view.emb (ix2 r e : S1024x4096.Idx) = (ix2 r e : S1024x4096.Idx) := by
  obtain ⟨e0, e1⟩ := idx4_1 t
  funext a; apply Fin.ext
  match a with
  | ⟨0, _⟩ => show win4_1.index t (0 : Fin 2) * 1024 + 1 * r.val = r.val; omega
  | ⟨1, _⟩ => show win4_1.index t (1 : Fin 2) * 4096 + 1 * e.val = e.val; omega
theorem emb4_2 (t : Fin cfg4.N) (r : Fin 2048) (e : Fin 4) :
    ((cfg4.win 2).blk t).view.emb (ix2 r e : S2048x4.Idx) = (ix2 r e : S2048x4.Idx) := by
  obtain ⟨e0, e1⟩ := idx4_2 t
  funext a; apply Fin.ext
  match a with
  | ⟨0, _⟩ => show win4_2.index t (0 : Fin 2) * 2048 + 1 * r.val = r.val; omega
  | ⟨1, _⟩ => show win4_2.index t (1 : Fin 2) * 4 + 1 * e.val = e.val; omega
theorem emb4_3 (t : Fin cfg4.N) (r : Fin 2048) (e : Fin 1024) :
    ((cfg4.win 3).blk t).view.emb (ix2 r e : S2048x1024.Idx) = (ix2 r e : S2048x1024.Idx) := by
  obtain ⟨e0, e1⟩ := idx4_3 t
  funext a; apply Fin.ext
  match a with
  | ⟨0, _⟩ => show win4_3.index t (0 : Fin 2) * 2048 + 1 * r.val = r.val; omega
  | ⟨1, _⟩ => show win4_3.index t (1 : Fin 2) * 1024 + 1 * e.val = e.val; omega
theorem emb4_4 (t : Fin cfg4.N) (u : Fin 1) (r : Fin 512) (e : Fin 1024) :
    ((cfg4.win 4).blk t).view.emb (ix3 u r e : S1x512x1024.Idx) = (ix3 (bat4 t) r e : S4x512x1024.Idx) := by
  obtain ⟨e0, e1, e2⟩ := idx4_4 t
  have hu : u.val = 0 := by omega
  funext a; apply Fin.ext
  match a with
  | ⟨0, _⟩ => show win4_4.index t (0 : Fin 3) * 1 + 1 * u.val = t.val; omega
  | ⟨1, _⟩ => show win4_4.index t (1 : Fin 3) * 512 + 1 * r.val = r.val; omega
  | ⟨2, _⟩ => show win4_4.index t (2 : Fin 3) * 1024 + 1 * e.val = e.val; omega

set_option maxHeartbeats 2000000 in
theorem flushed4 (c : Dev nD) (t : Fin cfg4.N) :
    (K4.dat (Ix := Ix) (U := U) (Lvl := Lvl) 𝒱₀ V D c).flushed 4 t
      = ((cfg4.win 4).blk t).view.read (Elt Ideal) (mixArr (V c (Pipeline.arrRef spec4 0)) (V c (Pipeline.arrRef spec4 1))
          (V c (Pipeline.arrRef spec4 2)) (V c (Pipeline.arrRef spec4 3))) := by
  funext j
  obtain ⟨u, r, e, rfl⟩ : ∃ (u : Fin 1) (r : Fin 512) (e : Fin 1024), j = (ix3 u r e : S1x512x1024.Idx) := ⟨j 0, j 1, j 2, by
    funext a; match a with | ⟨0, _⟩ => rfl | ⟨1, _⟩ => rfl | ⟨2, _⟩ => rfl⟩
  show (K4.dat (Ix := Ix) (U := U) (Lvl := Lvl) 𝒱₀ V D c).after 4 t (ix3 u r e : S1x512x1024.Idx)
    = mixArr (V c (Pipeline.arrRef spec4 0)) (V c (Pipeline.arrRef spec4 1)) (V c (Pipeline.arrRef spec4 2)) (V c (Pipeline.arrRef spec4 3))
        (((cfg4.win 4).blk t).view.emb (ix3 u r e : S1x512x1024.Idx))
  rw [emb4_4, K4.after4_4]
  unfold K4.outsAt4
  rw [out_eq4]
  show Spec.mixer (fun s k => V c (Pipeline.arrRef spec4 0) (((cfg4.win 0).blk t).view.emb (ix3 0 s k : S1x512x1024.Idx)))
      (fun k h => V c (Pipeline.arrRef spec4 1) (((cfg4.win 1).blk t).view.emb (ix2 k h : S1024x4096.Idx)))
      (fun h k => V c (Pipeline.arrRef spec4 2) (((cfg4.win 2).blk t).view.emb (ix2 h k : S2048x4.Idx)))
      (fun h k => V c (Pipeline.arrRef spec4 3) (((cfg4.win 3).blk t).view.emb (ix2 h k : S2048x1024.Idx))) r e
    = Spec.mixer (fun s k => V c (Pipeline.arrRef spec4 0) (ix3 (bat4 t) s k : S4x512x1024.Idx)) (fun k h => V c (Pipeline.arrRef spec4 1) (ix2 k h : S1024x4096.Idx))
      (fun h k => V c (Pipeline.arrRef spec4 2) (ix2 h k : S2048x4.Idx)) (fun h k => V c (Pipeline.arrRef spec4 3) (ix2 h k : S2048x1024.Idx)) r e
  exact congrFun (congrFun (congr (congr (congr (congrArg Spec.mixer (funext fun s => funext fun k => congrArg (V c (Pipeline.arrRef spec4 0)) (emb4_0 t 0 s k)))
    (funext fun k => funext fun h => congrArg (V c (Pipeline.arrRef spec4 1)) (emb4_1 t k h)))
    (funext fun h => funext fun k => congrArg (V c (Pipeline.arrRef spec4 2)) (emb4_2 t h k)))
    (funext fun h => funext fun k => congrArg (V c (Pipeline.arrRef spec4 3)) (emb4_3 t h k))) r) e

theorem flush4 : ∀ t : Fin cfg4.N, (cfg4.win 4).flush t = true := by decide +kernel

theorem covered4 (i : S4x512x1024.Idx) :
    ∃ t : Fin cfg4.N, (cfg4.win 4).flush t = true ∧ i ∈ ((cfg4.win 4).blk t).view.set := by
  have h0 : (i 0).val < 4 := (i 0).isLt
  let t : Fin cfg4.N := ⟨(i 0).val, by rw [N4]; omega⟩
  refine ⟨t, flush4 t, ?_⟩
  have h := ((cfg4.win 4).blk t).view.emb_mem_set (ix3 (0 : Fin 1) (i 1) (i 2) : S1x512x1024.Idx)
  have hi : (ix3 (bat4 t) (i 1) (i 2) : S4x512x1024.Idx) = i := by
    funext a
    match a with
    | ⟨0, _⟩ => rfl
    | ⟨1, _⟩ => rfl
    | ⟨2, _⟩ => rfl
  have he := (emb4_4 t 0 (i 1) (i 2)).trans hi
  exact he ▸ h

/-- The result array after the region: the mixer layer on every batch. -/
theorem final4 (c : Dev nD) : (K4.dat (Ix := Ix) (U := U) (Lvl := Lvl) 𝒱₀ V D c).arrAt 4 cfg4.N
    = mixArr (V c (Pipeline.arrRef spec4 0)) (V c (Pipeline.arrRef spec4 1)) (V c (Pipeline.arrRef spec4 2)) (V c (Pipeline.arrRef spec4 3)) :=
  (K4.dat (Ix := Ix) (U := U) (Lvl := Lvl) 𝒱₀ V D c).arrAt_eq_of_cover 4 _ (fun t _ => flushed4 𝒱₀ V D c t) covered4

end Cert.KernelIdeal.Val

end
-- ==== Proof.KernelIdeal.ValMix6.lean ====
module

public import proofs.«01_k».proof.Proof.Spec
public import proofs.«01_k».proof.Proof.KernelIdeal.ValMixBase
public import proofs.«01_k».proof.Proof.Gen.Own.KernelIdeal.K6.Frame
public import proofs.«01_k».proof.Proof.Gen.KernelIdeal.Points
public import Idealize.ShloMosaic.Lib.Pipeline.Value
public import Idealize.ShloMosaic.Lib.Pointwise

/-! Mixer region 6 at the extended reals: what it leaves in its result array. -/

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL Idealize.SL.RA Idealize.SL.Sem

variable {Ix : Type} [DecidableEq Ix] {U : Type} [URA U] {Lvl : Type} [Preorder Lvl]
variable (𝒱₀ : Variants)
variable (V : (c : Dev nD) → (b : Ref sig .tc) → Buf (Elt Ideal) ((c : Thread nD τ).loc b))
variable (D : Dev nD → CellTallies nD τ sig Ix)

/-- The body's payload from its loads. -/
theorem mixpay6 (X : Vec Ideal S1x512x1024 .f32) (A : Vec Ideal S1024x4096 .f32) (c0 c1 c2 c3 : Vec Ideal S2048x1 .f32)
    (s5 s6 s7 : Vec Ideal S512x2048 .f32) (B : Vec Ideal S2048x1024 .f32) (u : Fin 1) (t : Fin 512) (e : Fin 1024) :
    k6_pay1 (k6_pay2 X) (k6_pay5 X A) (k6_pay8 X A c3 s5 c0) s6 c1 s7 c2 B (ix3 u t e)
      = X (ix3 0 t e) + Spec.mv (fun d => Spec.silu (Spec.mv (Spec.rms fun k => X (ix3 0 t k)) (Spec.lft fun k h => A (ix2 k h)) d * c3 (ix2 d 0)
          + s5 (ix2 t d) * c0 (ix2 d 0) + s6 (ix2 t d) * c1 (ix2 d 0) + s7 (ix2 t d) * c2 (ix2 d 0))
        * Spec.silu (Spec.mv (Spec.rms fun k => X (ix3 0 t k)) (Spec.rgt fun k h => A (ix2 k h)) d)) (fun d e => B (ix2 d e)) e := by
  pointwise [k6_pay1, k6_pay2, k6_pay5, k6_pay8, k6_pay4, k6_pay3]
  simp only [← Spec.gate_eq]
  rfl

/-- The stored left half. -/
theorem leftpay6 (X : Vec Ideal S1x512x1024 .f32) (A : Vec Ideal S1024x4096 .f32) (t : Fin 512) (e : Fin 2048) :
    k6_pay7 X A (ix2 t e) = Spec.mv (Spec.rms fun k => X (ix3 0 t k)) (Spec.lft fun k h => A (ix2 k h)) e := by
  pointwise [k6_pay7, k6_pay2, k6_pay4, k6_pay3]
  rfl

theorem zeropay6 (i : S8x2048.Idx) : k6_pay6 (F := Ideal) i = 0 := by
  pointwise [k6_pay6]

set_option maxHeartbeats 1000000 in
/-- What the run leaves in the output's staging buffer. -/
theorem out_eq6 (c : Dev nD) (i : grid6.Coords) (a1 : Memref sig .tc .vmem S1x512x1024 .f32) (h1 : a1.IsWhole)
    (a2 : Memref sig .tc .vmem S1024x4096 .f32) (h2 : a2.IsWhole) (a3 : Memref sig .tc .vmem S2048x4 .f32) (h3 : a3.IsWhole)
    (a4 : Memref sig .tc .vmem S2048x1024 .f32) (h4 : a4.IsWhole)
    (a5 : Memref sig .tc .vmem S1x512x1024 .f32) (h5 : a5.IsWhole) (a6 : Memref sig .tc .vmem S520x2048 .f32) (h6 : a6.IsWhole)
    (x0 : Vec Ideal S1x512x1024 .f32)
    (x1 : Vec Ideal S1024x4096 .f32) (x2 : Vec Ideal S2048x4 .f32) (x3 : Vec Ideal S2048x1024 .f32)
    (u : Fin 1) (t : Fin 512) (e : Fin 1024) :
    K6.out6_A_4 (Ix := Ix) (U := U) (Lvl := Lvl) 𝒱₀ c i a1 h1 a2 h2 a3 h3 a4 h4 a5 h5 a6 h6 x0 x1 x2 x3 (ix3 u t e)
      = Spec.mixer (fun s k => x0 (ix3 0 s k)) (fun k h => x1 (ix2 k h)) (fun d k => x2 (ix2 d k)) (fun d e => x3 (ix2 d e)) t e := by
  unfold K6.out6_A_4
  rw [View.read_writes_junk_eq_canon]
  have rX : View.readAt (Elt Ideal) a1.view (Rect.unit (s := S1x512x1024) ![0, 0, 0] S1x512x1024.size inb_S1x512x1024_S1x512x1024_0_0_0).toLoadRect (h1.unread x0) = x0 := by
    rw [View.readAt_eq_ld, h1.read_unread, View.ld_unit_zero hz3]
  have rA : View.readAt (Elt Ideal) a2.view (Rect.unit (s := S1024x4096) ![0, 0] S1024x4096.size inb_S1024x4096_S1024x4096_0_0).toLoadRect (h2.unread x1) = x1 := by
    rw [View.readAt_eq_ld, h2.read_unread, View.ld_unit_zero hz2']
  have rB : View.readAt (Elt Ideal) a4.view (Rect.unit (s := S2048x1024) ![0, 0] S2048x1024.size inb_S2048x1024_S2048x1024_0_0).toLoadRect (h4.unread x3) = x3 := by
    rw [View.readAt_eq_ld, h4.read_unread, View.ld_unit_zero hz2']
  have rC : ∀ (k : ℕ) (hk : k < 4) (inb : ∀ a, (![0, k] : Fin 2 → ℕ) a + S2048x1.size a ≤ S2048x4.size a) (d : Fin 2048),
      View.readAt (Elt Ideal) a3.view (Rect.unit (s := S2048x4) ![0, k] S2048x1.size inb).toLoadRect (h3.unread x2) (ix2 d 0 : S2048x1.Idx)
        = x2 (ix2 d ⟨k, hk⟩) := by
    intro k hk inb d
    rw [View.readAt_eq_ld, h3.read_unread]
    refine congrArg x2 ?_
    funext a; apply Fin.ext
    match a with
    | ⟨0, _⟩ => show 0 + 1 * d.val = d.val; omega
    | ⟨1, _⟩ => show k + 1 * 0 = k; omega
  unfold K6.kernelRun6_A
  dsimp only
  delta K6.kernelRun6_A.sl.r K6.kernelRun6_A.sl.r_1 K6.kernelRun6_A.sl.r_2 K6.kernelRun6_A.sl.v36 K6.kernelRun6_A.sl.v29 K6.kernelRun6_A.sl.v43 K6.kernelRun6_A.sl.HS0_2
  dsimp only
  rw [View.canon_unit_zero hz3, rX, rA, rB, mixpay6]
  simp only [scratch_read _ _ _ 5 (by omega) _ _ _ zeropay6, scratch_read _ _ _ 6 (by omega) _ _ _ zeropay6,
    scratch_read _ _ _ 7 (by omega) _ _ _ zeropay6, rC 0 (by omega), rC 1 (by omega), rC 2 (by omega), rC 3 (by omega), leftpay6]
  unfold Spec.mixer
  simp only [← conv_order]
  rfl

theorem idx6_0 : ∀ t : Fin cfg6.N, win6_0.index t (0 : Fin 3) = t.val ∧ win6_0.index t (1 : Fin 3) = 0 ∧ win6_0.index t (2 : Fin 3) = 0 :=
  (by decide +kernel : ∀ t : Fin grid6.N, _)
theorem idx6_1 : ∀ t : Fin cfg6.N, win6_1.index t (0 : Fin 2) = 0 ∧ win6_1.index t (1 : Fin 2) = 0 :=
  (by decide +kernel : ∀ t : Fin grid6.N, _)
theorem idx6_2 : ∀ t : Fin cfg6.N, win6_2.index t (0 : Fin 2) = 0 ∧ win6_2.index t (1 : Fin 2) = 0 :=
  (by decide +kernel : ∀ t : Fin grid6.N, _)
theorem idx6_3 : ∀ t : Fin cfg6.N, win6_3.index t (0 : Fin 2) = 0 ∧ win6_3.index t (1 : Fin 2) = 0 :=
  (by decide +kernel : ∀ t : Fin grid6.N, _)
theorem idx6_4 : ∀ t : Fin cfg6.N, win6_4.index t (0 : Fin 3) = t.val ∧ win6_4.index t (1 : Fin 3) = 0 ∧ win6_4.index t (2 : Fin 3) = 0 :=
  (by decide +kernel : ∀ t : Fin grid6.N, _)
theorem N6 : cfg6.N = 4 := by decide +kernel

/-- The batch a grid point works on. -/
def bat6 (t : Fin cfg6.N) : Fin 4 := ⟨t.val, by have := t.isLt; have := N6; omega⟩

theorem emb6_0 (t : Fin cfg6.N) (u : Fin 1) (r : Fin 512) (e : Fin 1024) :
    ((cfg6.win 0).blk t).view.emb (ix3 u r e : S1x512x1024.Idx) = (ix3 (bat6 t) r e : S4x512x1024.Idx) := by
  obtain ⟨e0, e1, e2⟩ := idx6_0 t
  have hu : u.val = 0 := by omega
  funext a; apply Fin.ext
  match a with
  | ⟨0, _⟩ => show win6_0.index t (0 : Fin 3) * 1 + 1 * u.val = t.val; omega
  | ⟨1, _⟩ => show win6_0.index t (1 : Fin 3) * 512 + 1 * r.val = r.val; omega
  | ⟨2, _⟩ => show win6_0.index t (2 : Fin 3) * 1024 + 1 * e.val = e.val; omega
theorem emb6_1 (t : Fin cfg6.N) (r : Fin 1024) (e : Fin 4096) :
    ((cfg6.win 1).blk t).view.emb (ix2 r e : S1024x4096.Idx) = (ix2 r e : S1024x4096.Idx) := by
  obtain ⟨e0, e1⟩ := idx6_1 t
  funext a; apply Fin.ext
  match a with
  | ⟨0, _⟩ => show win6_1.index t (0 : Fin 2) * 1024 + 1 * r.val = r.val; omega
  | ⟨1, _⟩ => show win6_1.index t (1 : Fin 2) * 4096 + 1 * e.val = e.val; omega
theorem emb6_2 (t : Fin cfg6.N) (r : Fin 2048) (e : Fin 4) :
    ((cfg6.win 2).blk t).view.emb (ix2 r e : S2048x4.Idx) = (ix2 r e : S2048x4.Idx) := by
  obtain ⟨e0, e1⟩ := idx6_2 t
  funext a; apply Fin.ext
  match a with
  | ⟨0, _⟩ => show win6_2.index t (0 : Fin 2) * 2048 + 1 * r.val = r.val; omega
  | ⟨1, _⟩ => show win6_2.index t (1 : Fin 2) * 4 + 1 * e.val = e.val; omega
theorem emb6_3 (t : Fin cfg6.N) (r : Fin 2048) (e : Fin 1024) :
    ((cfg6.win 3).blk t).view.emb (ix2 r e : S2048x1024.Idx) = (ix2 r e : S2048x1024.Idx) := by
  obtain ⟨e0, e1⟩ := idx6_3 t
  funext a; apply Fin.ext
  match a with
  | ⟨0, _⟩ => show win6_3.index t (0 : Fin 2) * 2048 + 1 * r.val = r.val; omega
  | ⟨1, _⟩ => show win6_3.index t (1 : Fin 2) * 1024 + 1 * e.val = e.val; omega
theorem emb6_4 (t : Fin cfg6.N) (u : Fin 1) (r : Fin 512) (e : Fin 1024) :
    ((cfg6.win 4).blk t).view.emb (ix3 u r e : S1x512x1024.Idx) = (ix3 (bat6 t) r e : S4x512x1024.Idx) := by
  obtain ⟨e0, e1, e2⟩ := idx6_4 t
  have hu : u.val = 0 := by omega
  funext a; apply Fin.ext
  match a with
  | ⟨0, _⟩ => show win6_4.index t (0 : Fin 3) * 1 + 1 * u.val = t.val; omega
  | ⟨1, _⟩ => show win6_4.index t (1 : Fin 3) * 512 + 1 * r.val = r.val; omega
  | ⟨2, _⟩ => show win6_4.index t (2 : Fin 3) * 1024 + 1 * e.val = e.val; omega

set_option maxHeartbeats 2000000 in
theorem flushed6 (c : Dev nD) (t : Fin cfg6.N) :
    (K6.dat (Ix := Ix) (U := U) (Lvl := Lvl) 𝒱₀ V D c).flushed 4 t
      = ((cfg6.win 4).blk t).view.read (Elt Ideal) (mixArr (V c (Pipeline.arrRef spec6 0)) (V c (Pipeline.arrRef spec6 1))
          (V c (Pipeline.arrRef spec6 2)) (V c (Pipeline.arrRef spec6 3))) := by
  funext j
  obtain ⟨u, r, e, rfl⟩ : ∃ (u : Fin 1) (r : Fin 512) (e : Fin 1024), j = (ix3 u r e : S1x512x1024.Idx) := ⟨j 0, j 1, j 2, by
    funext a; match a with | ⟨0, _⟩ => rfl | ⟨1, _⟩ => rfl | ⟨2, _⟩ => rfl⟩
  show (K6.dat (Ix := Ix) (U := U) (Lvl := Lvl) 𝒱₀ V D c).after 4 t (ix3 u r e : S1x512x1024.Idx)
    = mixArr (V c (Pipeline.arrRef spec6 0)) (V c (Pipeline.arrRef spec6 1)) (V c (Pipeline.arrRef spec6 2)) (V c (Pipeline.arrRef spec6 3))
        (((cfg6.win 4).blk t).view.emb (ix3 u r e : S1x512x1024.Idx))
  rw [emb6_4, K6.after6_4]
  unfold K6.outsAt6
  rw [out_eq6]
  show Spec.mixer (fun s k => V c (Pipeline.arrRef spec6 0) (((cfg6.win 0).blk t).view.emb (ix3 0 s k : S1x512x1024.Idx)))
      (fun k h => V c (Pipeline.arrRef spec6 1) (((cfg6.win 1).blk t).view.emb (ix2 k h : S1024x4096.Idx)))
      (fun h k => V c (Pipeline.arrRef spec6 2) (((cfg6.win 2).blk t).view.emb (ix2 h k : S2048x4.Idx)))
      (fun h k => V c (Pipeline.arrRef spec6 3) (((cfg6.win 3).blk t).view.emb (ix2 h k : S2048x1024.Idx))) r e
    = Spec.mixer (fun s k => V c (Pipeline.arrRef spec6 0) (ix3 (bat6 t) s k : S4x512x1024.Idx)) (fun k h => V c (Pipeline.arrRef spec6 1) (ix2 k h : S1024x4096.Idx))
      (fun h k => V c (Pipeline.arrRef spec6 2) (ix2 h k : S2048x4.Idx)) (fun h k => V c (Pipeline.arrRef spec6 3) (ix2 h k : S2048x1024.Idx)) r e
  exact congrFun (congrFun (congr (congr (congr (congrArg Spec.mixer (funext fun s => funext fun k => congrArg (V c (Pipeline.arrRef spec6 0)) (emb6_0 t 0 s k)))
    (funext fun k => funext fun h => congrArg (V c (Pipeline.arrRef spec6 1)) (emb6_1 t k h)))
    (funext fun h => funext fun k => congrArg (V c (Pipeline.arrRef spec6 2)) (emb6_2 t h k)))
    (funext fun h => funext fun k => congrArg (V c (Pipeline.arrRef spec6 3)) (emb6_3 t h k))) r) e

theorem flush6 : ∀ t : Fin cfg6.N, (cfg6.win 4).flush t = true := by decide +kernel

theorem covered6 (i : S4x512x1024.Idx) :
    ∃ t : Fin cfg6.N, (cfg6.win 4).flush t = true ∧ i ∈ ((cfg6.win 4).blk t).view.set := by
  have h0 : (i 0).val < 4 := (i 0).isLt
  let t : Fin cfg6.N := ⟨(i 0).val, by rw [N6]; omega⟩
  refine ⟨t, flush6 t, ?_⟩
  have h := ((cfg6.win 4).blk t).view.emb_mem_set (ix3 (0 : Fin 1) (i 1) (i 2) : S1x512x1024.Idx)
  have hi : (ix3 (bat6 t) (i 1) (i 2) : S4x512x1024.Idx) = i := by
    funext a
    match a with
    | ⟨0, _⟩ => rfl
    | ⟨1, _⟩ => rfl
    | ⟨2, _⟩ => rfl
  have he := (emb6_4 t 0 (i 1) (i 2)).trans hi
  exact he ▸ h

/-- The result array after the region: the mixer layer on every batch. -/
theorem final6 (c : Dev nD) : (K6.dat (Ix := Ix) (U := U) (Lvl := Lvl) 𝒱₀ V D c).arrAt 4 cfg6.N
    = mixArr (V c (Pipeline.arrRef spec6 0)) (V c (Pipeline.arrRef spec6 1)) (V c (Pipeline.arrRef spec6 2)) (V c (Pipeline.arrRef spec6 3)) :=
  (K6.dat (Ix := Ix) (U := U) (Lvl := Lvl) 𝒱₀ V D c).arrAt_eq_of_cover 4 _ (fun t _ => flushed6 𝒱₀ V D c t) covered6

end Cert.KernelIdeal.Val

end
-- ==== Proof.KernelIdeal.ValMix8.lean ====
module

public import proofs.«01_k».proof.Proof.Spec
public import proofs.«01_k».proof.Proof.KernelIdeal.ValMixBase
public import proofs.«01_k».proof.Proof.Gen.Own.KernelIdeal.K8.Frame
public import proofs.«01_k».proof.Proof.Gen.KernelIdeal.Points
public import Idealize.ShloMosaic.Lib.Pipeline.Value
public import Idealize.ShloMosaic.Lib.Pointwise

/-! Mixer region 8 at the extended reals: what it leaves in its result array. -/

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL Idealize.SL.RA Idealize.SL.Sem

variable {Ix : Type} [DecidableEq Ix] {U : Type} [URA U] {Lvl : Type} [Preorder Lvl]
variable (𝒱₀ : Variants)
variable (V : (c : Dev nD) → (b : Ref sig .tc) → Buf (Elt Ideal) ((c : Thread nD τ).loc b))
variable (D : Dev nD → CellTallies nD τ sig Ix)

/-- The body's payload from its loads. -/
theorem mixpay8 (X : Vec Ideal S1x512x1024 .f32) (A : Vec Ideal S1024x4096 .f32) (c0 c1 c2 c3 : Vec Ideal S2048x1 .f32)
    (s5 s6 s7 : Vec Ideal S512x2048 .f32) (B : Vec Ideal S2048x1024 .f32) (u : Fin 1) (t : Fin 512) (e : Fin 1024) :
    k8_pay1 (k8_pay2 X) (k8_pay5 X A) (k8_pay8 X A c3 s5 c0) s6 c1 s7 c2 B (ix3 u t e)
      = X (ix3 0 t e) + Spec.mv (fun d => Spec.silu (Spec.mv (Spec.rms fun k => X (ix3 0 t k)) (Spec.lft fun k h => A (ix2 k h)) d * c3 (ix2 d 0)
          + s5 (ix2 t d) * c0 (ix2 d 0) + s6 (ix2 t d) * c1 (ix2 d 0) + s7 (ix2 t d) * c2 (ix2 d 0))
        * Spec.silu (Spec.mv (Spec.rms fun k => X (ix3 0 t k)) (Spec.rgt fun k h => A (ix2 k h)) d)) (fun d e => B (ix2 d e)) e := by
  pointwise [k8_pay1, k8_pay2, k8_pay5, k8_pay8, k8_pay4, k8_pay3]
  simp only [← Spec.gate_eq]
  rfl

/-- The stored left half. -/
theorem leftpay8 (X : Vec Ideal S1x512x1024 .f32) (A : Vec Ideal S1024x4096 .f32) (t : Fin 512) (e : Fin 2048) :
    k8_pay7 X A (ix2 t e) = Spec.mv (Spec.rms fun k => X (ix3 0 t k)) (Spec.lft fun k h => A (ix2 k h)) e := by
  pointwise [k8_pay7, k8_pay2, k8_pay4, k8_pay3]
  rfl

theorem zeropay8 (i : S8x2048.Idx) : k8_pay6 (F := Ideal) i = 0 := by
  pointwise [k8_pay6]

set_option maxHeartbeats 1000000 in
/-- What the run leaves in the output's staging buffer. -/
theorem out_eq8 (c : Dev nD) (i : grid8.Coords) (a1 : Memref sig .tc .vmem S1x512x1024 .f32) (h1 : a1.IsWhole)
    (a2 : Memref sig .tc .vmem S1024x4096 .f32) (h2 : a2.IsWhole) (a3 : Memref sig .tc .vmem S2048x4 .f32) (h3 : a3.IsWhole)
    (a4 : Memref sig .tc .vmem S2048x1024 .f32) (h4 : a4.IsWhole)
    (a5 : Memref sig .tc .vmem S1x512x1024 .f32) (h5 : a5.IsWhole) (a6 : Memref sig .tc .vmem S520x2048 .f32) (h6 : a6.IsWhole)
    (x0 : Vec Ideal S1x512x1024 .f32)
    (x1 : Vec Ideal S1024x4096 .f32) (x2 : Vec Ideal S2048x4 .f32) (x3 : Vec Ideal S2048x1024 .f32)
    (u : Fin 1) (t : Fin 512) (e : Fin 1024) :
    K8.out8_A_4 (Ix := Ix) (U := U) (Lvl := Lvl) 𝒱₀ c i a1 h1 a2 h2 a3 h3 a4 h4 a5 h5 a6 h6 x0 x1 x2 x3 (ix3 u t e)
      = Spec.mixer (fun s k => x0 (ix3 0 s k)) (fun k h => x1 (ix2 k h)) (fun d k => x2 (ix2 d k)) (fun d e => x3 (ix2 d e)) t e := by
  unfold K8.out8_A_4
  rw [View.read_writes_junk_eq_canon]
  have rX : View.readAt (Elt Ideal) a1.view (Rect.unit (s := S1x512x1024) ![0, 0, 0] S1x512x1024.size inb_S1x512x1024_S1x512x1024_0_0_0).toLoadRect (h1.unread x0) = x0 := by
    rw [View.readAt_eq_ld, h1.read_unread, View.ld_unit_zero hz3]
  have rA : View.readAt (Elt Ideal) a2.view (Rect.unit (s := S1024x4096) ![0, 0] S1024x4096.size inb_S1024x4096_S1024x4096_0_0).toLoadRect (h2.unread x1) = x1 := by
    rw [View.readAt_eq_ld, h2.read_unread, View.ld_unit_zero hz2']
  have rB : View.readAt (Elt Ideal) a4.view (Rect.unit (s := S2048x1024) ![0, 0] S2048x1024.size inb_S2048x1024_S2048x1024_0_0).toLoadRect (h4.unread x3) = x3 := by
    rw [View.readAt_eq_ld, h4.read_unread, View.ld_unit_zero hz2']
  have rC : ∀ (k : ℕ) (hk : k < 4) (inb : ∀ a, (![0, k] : Fin 2 → ℕ) a + S2048x1.size a ≤ S2048x4.size a) (d : Fin 2048),
      View.readAt (Elt Ideal) a3.view (Rect.unit (s := S2048x4) ![0, k] S2048x1.size inb).toLoadRect (h3.unread x2) (ix2 d 0 : S2048x1.Idx)
        = x2 (ix2 d ⟨k, hk⟩) := by
    intro k hk inb d
    rw [View.readAt_eq_ld, h3.read_unread]
    refine congrArg x2 ?_
    funext a; apply Fin.ext
    match a with
    | ⟨0, _⟩ => show 0 + 1 * d.val = d.val; omega
    | ⟨1, _⟩ => show k + 1 * 0 = k; omega
  unfold K8.kernelRun8_A
  dsimp only
  delta K8.kernelRun8_A.sl.r K8.kernelRun8_A.sl.r_1 K8.kernelRun8_A.sl.r_2 K8.kernelRun8_A.sl.v36 K8.kernelRun8_A.sl.v29 K8.kernelRun8_A.sl.v43 K8.kernelRun8_A.sl.HS0_2
  dsimp only
  rw [View.canon_unit_zero hz3, rX, rA, rB, mixpay8]
  simp only [scratch_read _ _ _ 5 (by omega) _ _ _ zeropay8, scratch_read _ _ _ 6 (by omega) _ _ _ zeropay8,
    scratch_read _ _ _ 7 (by omega) _ _ _ zeropay8, rC 0 (by omega), rC 1 (by omega), rC 2 (by omega), rC 3 (by omega), leftpay8]
  unfold Spec.mixer
  simp only [← conv_order]
  rfl

theorem idx8_0 : ∀ t : Fin cfg8.N, win8_0.index t (0 : Fin 3) = t.val ∧ win8_0.index t (1 : Fin 3) = 0 ∧ win8_0.index t (2 : Fin 3) = 0 :=
  (by decide +kernel : ∀ t : Fin grid8.N, _)
theorem idx8_1 : ∀ t : Fin cfg8.N, win8_1.index t (0 : Fin 2) = 0 ∧ win8_1.index t (1 : Fin 2) = 0 :=
  (by decide +kernel : ∀ t : Fin grid8.N, _)
theorem idx8_2 : ∀ t : Fin cfg8.N, win8_2.index t (0 : Fin 2) = 0 ∧ win8_2.index t (1 : Fin 2) = 0 :=
  (by decide +kernel : ∀ t : Fin grid8.N, _)
theorem idx8_3 : ∀ t : Fin cfg8.N, win8_3.index t (0 : Fin 2) = 0 ∧ win8_3.index t (1 : Fin 2) = 0 :=
  (by decide +kernel : ∀ t : Fin grid8.N, _)
theorem idx8_4 : ∀ t : Fin cfg8.N, win8_4.index t (0 : Fin 3) = t.val ∧ win8_4.index t (1 : Fin 3) = 0 ∧ win8_4.index t (2 : Fin 3) = 0 :=
  (by decide +kernel : ∀ t : Fin grid8.N, _)
theorem N8 : cfg8.N = 4 := by decide +kernel

/-- The batch a grid point works on. -/
def bat8 (t : Fin cfg8.N) : Fin 4 := ⟨t.val, by have := t.isLt; have := N8; omega⟩

theorem emb8_0 (t : Fin cfg8.N) (u : Fin 1) (r : Fin 512) (e : Fin 1024) :
    ((cfg8.win 0).blk t).view.emb (ix3 u r e : S1x512x1024.Idx) = (ix3 (bat8 t) r e : S4x512x1024.Idx) := by
  obtain ⟨e0, e1, e2⟩ := idx8_0 t
  have hu : u.val = 0 := by omega
  funext a; apply Fin.ext
  match a with
  | ⟨0, _⟩ => show win8_0.index t (0 : Fin 3) * 1 + 1 * u.val = t.val; omega
  | ⟨1, _⟩ => show win8_0.index t (1 : Fin 3) * 512 + 1 * r.val = r.val; omega
  | ⟨2, _⟩ => show win8_0.index t (2 : Fin 3) * 1024 + 1 * e.val = e.val; omega
theorem emb8_1 (t : Fin cfg8.N) (r : Fin 1024) (e : Fin 4096) :
    ((cfg8.win 1).blk t).view.emb (ix2 r e : S1024x4096.Idx) = (ix2 r e : S1024x4096.Idx) := by
  obtain ⟨e0, e1⟩ := idx8_1 t
  funext a; apply Fin.ext
  match a with
  | ⟨0, _⟩ => show win8_1.index t (0 : Fin 2) * 1024 + 1 * r.val = r.val; omega
  | ⟨1, _⟩ => show win8_1.index t (1 : Fin 2) * 4096 + 1 * e.val = e.val; omega
theorem emb8_2 (t : Fin cfg8.N) (r : Fin 2048) (e : Fin 4) :
    ((cfg8.win 2).blk t).view.emb (ix2 r e : S2048x4.Idx) = (ix2 r e : S2048x4.Idx) := by
  obtain ⟨e0, e1⟩ := idx8_2 t
  funext a; apply Fin.ext
  match a with
  | ⟨0, _⟩ => show win8_2.index t (0 : Fin 2) * 2048 + 1 * r.val = r.val; omega
  | ⟨1, _⟩ => show win8_2.index t (1 : Fin 2) * 4 + 1 * e.val = e.val; omega
theorem emb8_3 (t : Fin cfg8.N) (r : Fin 2048) (e : Fin 1024) :
    ((cfg8.win 3).blk t).view.emb (ix2 r e : S2048x1024.Idx) = (ix2 r e : S2048x1024.Idx) := by
  obtain ⟨e0, e1⟩ := idx8_3 t
  funext a; apply Fin.ext
  match a with
  | ⟨0, _⟩ => show win8_3.index t (0 : Fin 2) * 2048 + 1 * r.val = r.val; omega
  | ⟨1, _⟩ => show win8_3.index t (1 : Fin 2) * 1024 + 1 * e.val = e.val; omega
theorem emb8_4 (t : Fin cfg8.N) (u : Fin 1) (r : Fin 512) (e : Fin 1024) :
    ((cfg8.win 4).blk t).view.emb (ix3 u r e : S1x512x1024.Idx) = (ix3 (bat8 t) r e : S4x512x1024.Idx) := by
  obtain ⟨e0, e1, e2⟩ := idx8_4 t
  have hu : u.val = 0 := by omega
  funext a; apply Fin.ext
  match a with
  | ⟨0, _⟩ => show win8_4.index t (0 : Fin 3) * 1 + 1 * u.val = t.val; omega
  | ⟨1, _⟩ => show win8_4.index t (1 : Fin 3) * 512 + 1 * r.val = r.val; omega
  | ⟨2, _⟩ => show win8_4.index t (2 : Fin 3) * 1024 + 1 * e.val = e.val; omega

set_option maxHeartbeats 2000000 in
theorem flushed8 (c : Dev nD) (t : Fin cfg8.N) :
    (K8.dat (Ix := Ix) (U := U) (Lvl := Lvl) 𝒱₀ V D c).flushed 4 t
      = ((cfg8.win 4).blk t).view.read (Elt Ideal) (mixArr (V c (Pipeline.arrRef spec8 0)) (V c (Pipeline.arrRef spec8 1))
          (V c (Pipeline.arrRef spec8 2)) (V c (Pipeline.arrRef spec8 3))) := by
  funext j
  obtain ⟨u, r, e, rfl⟩ : ∃ (u : Fin 1) (r : Fin 512) (e : Fin 1024), j = (ix3 u r e : S1x512x1024.Idx) := ⟨j 0, j 1, j 2, by
    funext a; match a with | ⟨0, _⟩ => rfl | ⟨1, _⟩ => rfl | ⟨2, _⟩ => rfl⟩
  show (K8.dat (Ix := Ix) (U := U) (Lvl := Lvl) 𝒱₀ V D c).after 4 t (ix3 u r e : S1x512x1024.Idx)
    = mixArr (V c (Pipeline.arrRef spec8 0)) (V c (Pipeline.arrRef spec8 1)) (V c (Pipeline.arrRef spec8 2)) (V c (Pipeline.arrRef spec8 3))
        (((cfg8.win 4).blk t).view.emb (ix3 u r e : S1x512x1024.Idx))
  rw [emb8_4, K8.after8_4]
  unfold K8.outsAt8
  rw [out_eq8]
  show Spec.mixer (fun s k => V c (Pipeline.arrRef spec8 0) (((cfg8.win 0).blk t).view.emb (ix3 0 s k : S1x512x1024.Idx)))
      (fun k h => V c (Pipeline.arrRef spec8 1) (((cfg8.win 1).blk t).view.emb (ix2 k h : S1024x4096.Idx)))
      (fun h k => V c (Pipeline.arrRef spec8 2) (((cfg8.win 2).blk t).view.emb (ix2 h k : S2048x4.Idx)))
      (fun h k => V c (Pipeline.arrRef spec8 3) (((cfg8.win 3).blk t).view.emb (ix2 h k : S2048x1024.Idx))) r e
    = Spec.mixer (fun s k => V c (Pipeline.arrRef spec8 0) (ix3 (bat8 t) s k : S4x512x1024.Idx)) (fun k h => V c (Pipeline.arrRef spec8 1) (ix2 k h : S1024x4096.Idx))
      (fun h k => V c (Pipeline.arrRef spec8 2) (ix2 h k : S2048x4.Idx)) (fun h k => V c (Pipeline.arrRef spec8 3) (ix2 h k : S2048x1024.Idx)) r e
  exact congrFun (congrFun (congr (congr (congr (congrArg Spec.mixer (funext fun s => funext fun k => congrArg (V c (Pipeline.arrRef spec8 0)) (emb8_0 t 0 s k)))
    (funext fun k => funext fun h => congrArg (V c (Pipeline.arrRef spec8 1)) (emb8_1 t k h)))
    (funext fun h => funext fun k => congrArg (V c (Pipeline.arrRef spec8 2)) (emb8_2 t h k)))
    (funext fun h => funext fun k => congrArg (V c (Pipeline.arrRef spec8 3)) (emb8_3 t h k))) r) e

theorem flush8 : ∀ t : Fin cfg8.N, (cfg8.win 4).flush t = true := by decide +kernel

theorem covered8 (i : S4x512x1024.Idx) :
    ∃ t : Fin cfg8.N, (cfg8.win 4).flush t = true ∧ i ∈ ((cfg8.win 4).blk t).view.set := by
  have h0 : (i 0).val < 4 := (i 0).isLt
  let t : Fin cfg8.N := ⟨(i 0).val, by rw [N8]; omega⟩
  refine ⟨t, flush8 t, ?_⟩
  have h := ((cfg8.win 4).blk t).view.emb_mem_set (ix3 (0 : Fin 1) (i 1) (i 2) : S1x512x1024.Idx)
  have hi : (ix3 (bat8 t) (i 1) (i 2) : S4x512x1024.Idx) = i := by
    funext a
    match a with
    | ⟨0, _⟩ => rfl
    | ⟨1, _⟩ => rfl
    | ⟨2, _⟩ => rfl
  have he := (emb8_4 t 0 (i 1) (i 2)).trans hi
  exact he ▸ h

/-- The result array after the region: the mixer layer on every batch. -/
theorem final8 (c : Dev nD) : (K8.dat (Ix := Ix) (U := U) (Lvl := Lvl) 𝒱₀ V D c).arrAt 4 cfg8.N
    = mixArr (V c (Pipeline.arrRef spec8 0)) (V c (Pipeline.arrRef spec8 1)) (V c (Pipeline.arrRef spec8 2)) (V c (Pipeline.arrRef spec8 3)) :=
  (K8.dat (Ix := Ix) (U := U) (Lvl := Lvl) 𝒱₀ V D c).arrAt_eq_of_cover 4 _ (fun t _ => flushed8 𝒱₀ V D c t) covered8

end Cert.KernelIdeal.Val

end
-- ==== Proof.KernelIdeal.ValMlp.lean ====
module

public import proofs.«01_k».proof.Proof.Spec
public import proofs.«01_k».proof.Proof.Gen.Own.KernelIdeal.K3.Frame
public import proofs.«01_k».proof.Proof.Gen.Own.KernelIdeal.K5.Frame
public import proofs.«01_k».proof.Proof.Gen.Own.KernelIdeal.K7.Frame
public import proofs.«01_k».proof.Proof.Gen.Own.KernelIdeal.K9.Frame
public import proofs.«01_k».proof.Proof.Gen.KernelIdeal.Points
public import Idealize.ShloMosaic.Lib.Pipeline.Value
public import Idealize.ShloMosaic.Lib.Pointwise

/-! The MLP regions at the extended reals: what each leaves in its result array, row by row. -/

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL Idealize.SL.RA Idealize.SL.Sem

variable {Ix : Type} [DecidableEq Ix] {U : Type} [URA U] {Lvl : Type} [Preorder Lvl]
variable (𝒱₀ : Variants)
variable (V : (c : Dev nD) → (b : Ref sig .tc) → Buf (Elt Ideal) ((c : Thread nD τ).loc b))
variable (D : Dev nD → CellTallies nD τ sig Ix)

theorem hz2 : (![0, 0] : Fin 2 → Nat) = fun _ => 0 := funext fun a => by fin_cases a <;> rfl

/-- The MLP layer on every row of an array. -/
def mlpArr (X : Vec Ideal S2048x1024 .f32) (A : Vec Ideal S1024x4096 .f32) (B : Vec Ideal S4096x1024 .f32) :
    Vec Ideal S2048x1024 .f32 := fun i =>
  Spec.mlp (fun k => X (ix2 (i 0) k)) (fun k h => A (ix2 k h)) (fun h k => B (ix2 h k)) (i 1)

/-! ## Region 3 -/

theorem pay3 (X : Vec Ideal S512x1024 .f32) (A : Vec Ideal S1024x4096 .f32)
    (B : Vec Ideal S4096x1024 .f32) (r : Fin 512) (e : Fin 1024) :
    k3_pay1 X A B (ix2 r e)
      = Spec.mlp (fun k => X (ix2 r k)) (fun k h => A (ix2 k h)) (fun h k => B (ix2 h k)) e := by
  pointwise [k3_pay1]
  unfold Spec.mlp
  simp only [← Spec.gate_eq]
  rfl

theorem out_eq3 (c : Dev nD) (i : grid3.Coords) (a1 : Memref sig .tc .vmem S512x1024 .f32) (h1 : a1.IsWhole)
    (a2 : Memref sig .tc .vmem S1024x4096 .f32) (h2 : a2.IsWhole) (a3 : Memref sig .tc .vmem S4096x1024 .f32) (h3 : a3.IsWhole)
    (a4 : Memref sig .tc .vmem S512x1024 .f32) (h4 : a4.IsWhole) (x0 : Vec Ideal S512x1024 .f32)
    (x1 : Vec Ideal S1024x4096 .f32) (x2 : Vec Ideal S4096x1024 .f32) :
    K3.out3_A_3 (Ix := Ix) (U := U) (Lvl := Lvl) 𝒱₀ c i a1 h1 a2 h2 a3 h3 a4 h4 x0 x1 x2 = k3_pay1 (F := Ideal) x0 x1 x2 := by
  unfold K3.out3_A_3
  rw [View.read_writes_junk_eq_canon]
  show View.canon ([⟨Rect.unit ![0, 0] S512x1024.size inb_S512x1024_S512x1024_0_0,
      k3_pay1 (F := Ideal)
        (View.readAt (Elt Ideal) a1.view (Rect.unit ![0, 0] S512x1024.size inb_S512x1024_S512x1024_0_0).toLoadRect (h1.unread x0))
        (View.readAt (Elt Ideal) a2.view (Rect.unit ![0, 0] S1024x4096.size inb_S1024x4096_S1024x4096_0_0).toLoadRect (h2.unread x1))
        (View.readAt (Elt Ideal) a3.view (Rect.unit ![0, 0] S4096x1024.size inb_S4096x1024_S4096x1024_0_0).toLoadRect (h3.unread x2))⟩] :
      List (View.Piece (Elt Ideal) S512x1024 .f32)) = _
  rw [View.canon_unit_zero hz2, View.readAt_eq_ld, View.readAt_eq_ld, View.readAt_eq_ld, h1.read_unread, h2.read_unread,
    h3.read_unread, View.ld_unit_zero hz2, View.ld_unit_zero hz2, View.ld_unit_zero hz2]

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = 0 ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = t.val ∧ win3_3.index t (1 : Fin 2) = 0 :=
  (by decide +kernel : ∀ t : Fin grid3.N, _)
theorem N3 : cfg3.N = 4 := by decide +kernel

/-- The row of the array that row `r` of block `t` is. -/
def row3 (t : Fin cfg3.N) (r : Fin 512) : Fin 2048 := ⟨t.val * 512 + r.val, by
  have := t.isLt; have := r.isLt; have := N3; omega⟩

theorem emb3_0 (t : Fin cfg3.N) (r : Fin 512) (e : Fin 1024) :
    ((cfg3.win 0).blk t).view.emb (ix2 r e : S512x1024.Idx) = (ix2 (row3 t r) e : S2048x1024.Idx) := by
  obtain ⟨e0, e1⟩ := idx3_0 t
  funext a; apply Fin.ext
  match a with
  | ⟨0, _⟩ => show win3_0.index t (0 : Fin 2) * 512 + 1 * r.val = t.val * 512 + r.val; omega
  | ⟨1, _⟩ => show win3_0.index t (1 : Fin 2) * 1024 + 1 * e.val = e.val; omega
theorem emb3_1 (t : Fin cfg3.N) (r : Fin 1024) (e : Fin 4096) :
    ((cfg3.win 1).blk t).view.emb (ix2 r e : S1024x4096.Idx) = (ix2 r e : S1024x4096.Idx) := by
  obtain ⟨e0, e1⟩ := idx3_1 t
  funext a; apply Fin.ext
  match a with
  | ⟨0, _⟩ => show win3_1.index t (0 : Fin 2) * 1024 + 1 * r.val = r.val; omega
  | ⟨1, _⟩ => show win3_1.index t (1 : Fin 2) * 4096 + 1 * e.val = e.val; omega
theorem emb3_2 (t : Fin cfg3.N) (r : Fin 4096) (e : Fin 1024) :
    ((cfg3.win 2).blk t).view.emb (ix2 r e : S4096x1024.Idx) = (ix2 r e : S4096x1024.Idx) := by
  obtain ⟨e0, e1⟩ := idx3_2 t
  funext a; apply Fin.ext
  match a with
  | ⟨0, _⟩ => show win3_2.index t (0 : Fin 2) * 4096 + 1 * r.val = r.val; omega
  | ⟨1, _⟩ => show win3_2.index t (1 : Fin 2) * 1024 + 1 * e.val = e.val; omega
theorem emb3_3 (t : Fin cfg3.N) (r : Fin 512) (e : Fin 1024) :
    ((cfg3.win 3).blk t).view.emb (ix2 r e : S512x1024.Idx) = (ix2 (row3 t r) e : S2048x1024.Idx) := by
  obtain ⟨e0, e1⟩ := idx3_3 t
  funext a; apply Fin.ext
  match a with
  | ⟨0, _⟩ => show win3_3.index t (0 : Fin 2) * 512 + 1 * r.val = t.val * 512 + r.val; omega
  | ⟨1, _⟩ => show win3_3.index t (1 : Fin 2) * 1024 + 1 * e.val = e.val; omega

theorem flushed3 (c : Dev nD) (t : Fin cfg3.N) :
    (K3.dat (Ix := Ix) (U := U) (Lvl := Lvl) 𝒱₀ V D c).flushed 3 t
      = ((cfg3.win 3).blk t).view.read (Elt Ideal) (mlpArr (V c (Pipeline.arrRef spec3 0)) (V c (Pipeline.arrRef spec3 1))
          (V c (Pipeline.arrRef spec3 2))) := by
  have h : (K3.dat (Ix := Ix) (U := U) (Lvl := Lvl) 𝒱₀ V D c).after 3 t
      = k3_pay1 (F := Ideal) (K3.iblk V c 0 t) (K3.iblk V c 1 t) (K3.iblk V c 2 t) := by
    rw [K3.after3_3]; unfold K3.outsAt3; rw [out_eq3]
  funext j
  obtain ⟨r, e, rfl⟩ : ∃ (r : Fin 512) (e : Fin 1024), j = (ix2 r e : S512x1024.Idx) := ⟨j 0, j 1, by
    funext a; match a with | ⟨0, _⟩ => rfl | ⟨1, _⟩ => rfl⟩
  show (K3.dat (Ix := Ix) (U := U) (Lvl := Lvl) 𝒱₀ V D c).after 3 t (ix2 r e : S512x1024.Idx)
    = mlpArr (V c (Pipeline.arrRef spec3 0)) (V c (Pipeline.arrRef spec3 1)) (V c (Pipeline.arrRef spec3 2))
        (((cfg3.win 3).blk t).view.emb (ix2 r e : S512x1024.Idx))
  rw [emb3_3, h, pay3]
  show Spec.mlp (fun k => V c (Pipeline.arrRef spec3 0) (((cfg3.win 0).blk t).view.emb (ix2 r k : S512x1024.Idx)))
      (fun k h => V c (Pipeline.arrRef spec3 1) (((cfg3.win 1).blk t).view.emb (ix2 k h : S1024x4096.Idx)))
      (fun h k => V c (Pipeline.arrRef spec3 2) (((cfg3.win 2).blk t).view.emb (ix2 h k : S4096x1024.Idx))) e
    = Spec.mlp (fun k => V c (Pipeline.arrRef spec3 0) (ix2 (row3 t r) k : S2048x1024.Idx)) (fun k h => V c (Pipeline.arrRef spec3 1) (ix2 k h : S1024x4096.Idx))
      (fun h k => V c (Pipeline.arrRef spec3 2) (ix2 h k : S4096x1024.Idx)) e
  exact congrFun (congr (congr (congrArg Spec.mlp (funext fun k => congrArg (V c (Pipeline.arrRef spec3 0)) (emb3_0 t r k)))
    (funext fun k => funext fun h => congrArg (V c (Pipeline.arrRef spec3 1)) (emb3_1 t k h)))
    (funext fun h => funext fun k => congrArg (V c (Pipeline.arrRef spec3 2)) (emb3_2 t h k))) e

theorem flush3 : ∀ t : Fin cfg3.N, (cfg3.win 3).flush t = true := by decide +kernel

theorem covered3 (i : S2048x1024.Idx) :
    ∃ t : Fin cfg3.N, (cfg3.win 3).flush t = true ∧ i ∈ ((cfg3.win 3).blk t).view.set := by
  have h0 : (i 0).val < 2048 := (i 0).isLt
  let t : Fin cfg3.N := ⟨(i 0).val / 512, by rw [N3]; omega⟩
  refine ⟨t, flush3 t, ?_⟩
  have h := ((cfg3.win 3).blk t).view.emb_mem_set (ix2 (⟨(i 0).val % 512, by omega⟩ : Fin 512) (i 1) : S512x1024.Idx)
  have hi : (ix2 (row3 t ⟨(i 0).val % 512, by omega⟩) (i 1) : S2048x1024.Idx) = i := by
    funext a
    match a with
    | ⟨0, _⟩ => apply Fin.ext; show (i 0).val / 512 * 512 + (i 0).val % 512 = (i 0).val; omega
    | ⟨1, _⟩ => rfl
  have he := (emb3_3 t ⟨(i 0).val % 512, by omega⟩ (i 1)).trans hi
  exact he ▸ h

/-- The result array after the region: the MLP layer on every row. -/
theorem final3 (c : Dev nD) : (K3.dat (Ix := Ix) (U := U) (Lvl := Lvl) 𝒱₀ V D c).arrAt 3 cfg3.N
    = mlpArr (V c (Pipeline.arrRef spec3 0)) (V c (Pipeline.arrRef spec3 1)) (V c (Pipeline.arrRef spec3 2)) :=
  (K3.dat (Ix := Ix) (U := U) (Lvl := Lvl) 𝒱₀ V D c).arrAt_eq_of_cover 3 _ (fun t _ => flushed3 𝒱₀ V D c t) covered3

/-! ## Region 5 -/

theorem pay5 (X : Vec Ideal S512x1024 .f32) (A : Vec Ideal S1024x4096 .f32)
    (B : Vec Ideal S4096x1024 .f32) (r : Fin 512) (e : Fin 1024) :
    k5_pay1 X A B (ix2 r e)
      = Spec.mlp (fun k => X (ix2 r k)) (fun k h => A (ix2 k h)) (fun h k => B (ix2 h k)) e := by
  pointwise [k5_pay1]
  unfold Spec.mlp
  simp only [← Spec.gate_eq]
  rfl

theorem out_eq5 (c : Dev nD) (i : grid5.Coords) (a1 : Memref sig .tc .vmem S512x1024 .f32) (h1 : a1.IsWhole)
    (a2 : Memref sig .tc .vmem S1024x4096 .f32) (h2 : a2.IsWhole) (a3 : Memref sig .tc .vmem S4096x1024 .f32) (h3 : a3.IsWhole)
    (a4 : Memref sig .tc .vmem S512x1024 .f32) (h4 : a4.IsWhole) (x0 : Vec Ideal S512x1024 .f32)
    (x1 : Vec Ideal S1024x4096 .f32) (x2 : Vec Ideal S4096x1024 .f32) :
    K5.out5_A_3 (Ix := Ix) (U := U) (Lvl := Lvl) 𝒱₀ c i a1 h1 a2 h2 a3 h3 a4 h4 x0 x1 x2 = k5_pay1 (F := Ideal) x0 x1 x2 := by
  unfold K5.out5_A_3
  rw [View.read_writes_junk_eq_canon]
  show View.canon ([⟨Rect.unit ![0, 0] S512x1024.size inb_S512x1024_S512x1024_0_0,
      k5_pay1 (F := Ideal)
        (View.readAt (Elt Ideal) a1.view (Rect.unit ![0, 0] S512x1024.size inb_S512x1024_S512x1024_0_0).toLoadRect (h1.unread x0))
        (View.readAt (Elt Ideal) a2.view (Rect.unit ![0, 0] S1024x4096.size inb_S1024x4096_S1024x4096_0_0).toLoadRect (h2.unread x1))
        (View.readAt (Elt Ideal) a3.view (Rect.unit ![0, 0] S4096x1024.size inb_S4096x1024_S4096x1024_0_0).toLoadRect (h3.unread x2))⟩] :
      List (View.Piece (Elt Ideal) S512x1024 .f32)) = _
  rw [View.canon_unit_zero hz2, View.readAt_eq_ld, View.readAt_eq_ld, View.readAt_eq_ld, h1.read_unread, h2.read_unread,
    h3.read_unread, View.ld_unit_zero hz2, View.ld_unit_zero hz2, View.ld_unit_zero hz2]

theorem idx5_0 : ∀ t : Fin cfg5.N, win5_0.index t (0 : Fin 2) = t.val ∧ win5_0.index t (1 : Fin 2) = 0 :=
  (by decide +kernel : ∀ t : Fin grid5.N, _)
theorem idx5_1 : ∀ t : Fin cfg5.N, win5_1.index t (0 : Fin 2) = 0 ∧ win5_1.index t (1 : Fin 2) = 0 :=
  (by decide +kernel : ∀ t : Fin grid5.N, _)
theorem idx5_2 : ∀ t : Fin cfg5.N, win5_2.index t (0 : Fin 2) = 0 ∧ win5_2.index t (1 : Fin 2) = 0 :=
  (by decide +kernel : ∀ t : Fin grid5.N, _)
theorem idx5_3 : ∀ t : Fin cfg5.N, win5_3.index t (0 : Fin 2) = t.val ∧ win5_3.index t (1 : Fin 2) = 0 :=
  (by decide +kernel : ∀ t : Fin grid5.N, _)
theorem N5 : cfg5.N = 4 := by decide +kernel

/-- The row of the array that row `r` of block `t` is. -/
def row5 (t : Fin cfg5.N) (r : Fin 512) : Fin 2048 := ⟨t.val * 512 + r.val, by
  have := t.isLt; have := r.isLt; have := N5; omega⟩

theorem emb5_0 (t : Fin cfg5.N) (r : Fin 512) (e : Fin 1024) :
    ((cfg5.win 0).blk t).view.emb (ix2 r e : S512x1024.Idx) = (ix2 (row5 t r) e : S2048x1024.Idx) := by
  obtain ⟨e0, e1⟩ := idx5_0 t
  funext a; apply Fin.ext
  match a with
  | ⟨0, _⟩ => show win5_0.index t (0 : Fin 2) * 512 + 1 * r.val = t.val * 512 + r.val; omega
  | ⟨1, _⟩ => show win5_0.index t (1 : Fin 2) * 1024 + 1 * e.val = e.val; omega
theorem emb5_1 (t : Fin cfg5.N) (r : Fin 1024) (e : Fin 4096) :
    ((cfg5.win 1).blk t).view.emb (ix2 r e : S1024x4096.Idx) = (ix2 r e : S1024x4096.Idx) := by
  obtain ⟨e0, e1⟩ := idx5_1 t
  funext a; apply Fin.ext
  match a with
  | ⟨0, _⟩ => show win5_1.index t (0 : Fin 2) * 1024 + 1 * r.val = r.val; omega
  | ⟨1, _⟩ => show win5_1.index t (1 : Fin 2) * 4096 + 1 * e.val = e.val; omega
theorem emb5_2 (t : Fin cfg5.N) (r : Fin 4096) (e : Fin 1024) :
    ((cfg5.win 2).blk t).view.emb (ix2 r e : S4096x1024.Idx) = (ix2 r e : S4096x1024.Idx) := by
  obtain ⟨e0, e1⟩ := idx5_2 t
  funext a; apply Fin.ext
  match a with
  | ⟨0, _⟩ => show win5_2.index t (0 : Fin 2) * 4096 + 1 * r.val = r.val; omega
  | ⟨1, _⟩ => show win5_2.index t (1 : Fin 2) * 1024 + 1 * e.val = e.val; omega
theorem emb5_3 (t : Fin cfg5.N) (r : Fin 512) (e : Fin 1024) :
    ((cfg5.win 3).blk t).view.emb (ix2 r e : S512x1024.Idx) = (ix2 (row5 t r) e : S2048x1024.Idx) := by
  obtain ⟨e0, e1⟩ := idx5_3 t
  funext a; apply Fin.ext
  match a with
  | ⟨0, _⟩ => show win5_3.index t (0 : Fin 2) * 512 + 1 * r.val = t.val * 512 + r.val; omega
  | ⟨1, _⟩ => show win5_3.index t (1 : Fin 2) * 1024 + 1 * e.val = e.val; omega

theorem flushed5 (c : Dev nD) (t : Fin cfg5.N) :
    (K5.dat (Ix := Ix) (U := U) (Lvl := Lvl) 𝒱₀ V D c).flushed 3 t
      = ((cfg5.win 3).blk t).view.read (Elt Ideal) (mlpArr (V c (Pipeline.arrRef spec5 0)) (V c (Pipeline.arrRef spec5 1))
          (V c (Pipeline.arrRef spec5 2))) := by
  have h : (K5.dat (Ix := Ix) (U := U) (Lvl := Lvl) 𝒱₀ V D c).after 3 t
      = k5_pay1 (F := Ideal) (K5.iblk V c 0 t) (K5.iblk V c 1 t) (K5.iblk V c 2 t) := by
    rw [K5.after5_3]; unfold K5.outsAt5; rw [out_eq5]
  funext j
  obtain ⟨r, e, rfl⟩ : ∃ (r : Fin 512) (e : Fin 1024), j = (ix2 r e : S512x1024.Idx) := ⟨j 0, j 1, by
    funext a; match a with | ⟨0, _⟩ => rfl | ⟨1, _⟩ => rfl⟩
  show (K5.dat (Ix := Ix) (U := U) (Lvl := Lvl) 𝒱₀ V D c).after 3 t (ix2 r e : S512x1024.Idx)
    = mlpArr (V c (Pipeline.arrRef spec5 0)) (V c (Pipeline.arrRef spec5 1)) (V c (Pipeline.arrRef spec5 2))
        (((cfg5.win 3).blk t).view.emb (ix2 r e : S512x1024.Idx))
  rw [emb5_3, h, pay5]
  show Spec.mlp (fun k => V c (Pipeline.arrRef spec5 0) (((cfg5.win 0).blk t).view.emb (ix2 r k : S512x1024.Idx)))
      (fun k h => V c (Pipeline.arrRef spec5 1) (((cfg5.win 1).blk t).view.emb (ix2 k h : S1024x4096.Idx)))
      (fun h k => V c (Pipeline.arrRef spec5 2) (((cfg5.win 2).blk t).view.emb (ix2 h k : S4096x1024.Idx))) e
    = Spec.mlp (fun k => V c (Pipeline.arrRef spec5 0) (ix2 (row5 t r) k : S2048x1024.Idx)) (fun k h => V c (Pipeline.arrRef spec5 1) (ix2 k h : S1024x4096.Idx))
      (fun h k => V c (Pipeline.arrRef spec5 2) (ix2 h k : S4096x1024.Idx)) e
  exact congrFun (congr (congr (congrArg Spec.mlp (funext fun k => congrArg (V c (Pipeline.arrRef spec5 0)) (emb5_0 t r k)))
    (funext fun k => funext fun h => congrArg (V c (Pipeline.arrRef spec5 1)) (emb5_1 t k h)))
    (funext fun h => funext fun k => congrArg (V c (Pipeline.arrRef spec5 2)) (emb5_2 t h k))) e

theorem flush5 : ∀ t : Fin cfg5.N, (cfg5.win 3).flush t = true := by decide +kernel

theorem covered5 (i : S2048x1024.Idx) :
    ∃ t : Fin cfg5.N, (cfg5.win 3).flush t = true ∧ i ∈ ((cfg5.win 3).blk t).view.set := by
  have h0 : (i 0).val < 2048 := (i 0).isLt
  let t : Fin cfg5.N := ⟨(i 0).val / 512, by rw [N5]; omega⟩
  refine ⟨t, flush5 t, ?_⟩
  have h := ((cfg5.win 3).blk t).view.emb_mem_set (ix2 (⟨(i 0).val % 512, by omega⟩ : Fin 512) (i 1) : S512x1024.Idx)
  have hi : (ix2 (row5 t ⟨(i 0).val % 512, by omega⟩) (i 1) : S2048x1024.Idx) = i := by
    funext a
    match a with
    | ⟨0, _⟩ => apply Fin.ext; show (i 0).val / 512 * 512 + (i 0).val % 512 = (i 0).val; omega
    | ⟨1, _⟩ => rfl
  have he := (emb5_3 t ⟨(i 0).val % 512, by omega⟩ (i 1)).trans hi
  exact he ▸ h

/-- The result array after the region: the MLP layer on every row. -/
theorem final5 (c : Dev nD) : (K5.dat (Ix := Ix) (U := U) (Lvl := Lvl) 𝒱₀ V D c).arrAt 3 cfg5.N
    = mlpArr (V c (Pipeline.arrRef spec5 0)) (V c (Pipeline.arrRef spec5 1)) (V c (Pipeline.arrRef spec5 2)) :=
  (K5.dat (Ix := Ix) (U := U) (Lvl := Lvl) 𝒱₀ V D c).arrAt_eq_of_cover 3 _ (fun t _ => flushed5 𝒱₀ V D c t) covered5

/-! ## Region 7 -/

theorem pay7 (X : Vec Ideal S512x1024 .f32) (A : Vec Ideal S1024x4096 .f32)
    (B : Vec Ideal S4096x1024 .f32) (r : Fin 512) (e : Fin 1024) :
    k7_pay1 X A B (ix2 r e)
      = Spec.mlp (fun k => X (ix2 r k)) (fun k h => A (ix2 k h)) (fun h k => B (ix2 h k)) e := by
  pointwise [k7_pay1]
  unfold Spec.mlp
  simp only [← Spec.gate_eq]
  rfl

theorem out_eq7 (c : Dev nD) (i : grid7.Coords) (a1 : Memref sig .tc .vmem S512x1024 .f32) (h1 : a1.IsWhole)
    (a2 : Memref sig .tc .vmem S1024x4096 .f32) (h2 : a2.IsWhole) (a3 : Memref sig .tc .vmem S4096x1024 .f32) (h3 : a3.IsWhole)
    (a4 : Memref sig .tc .vmem S512x1024 .f32) (h4 : a4.IsWhole) (x0 : Vec Ideal S512x1024 .f32)
    (x1 : Vec Ideal S1024x4096 .f32) (x2 : Vec Ideal S4096x1024 .f32) :
    K7.out7_A_3 (Ix := Ix) (U := U) (Lvl := Lvl) 𝒱₀ c i a1 h1 a2 h2 a3 h3 a4 h4 x0 x1 x2 = k7_pay1 (F := Ideal) x0 x1 x2 := by
  unfold K7.out7_A_3
  rw [View.read_writes_junk_eq_canon]
  show View.canon ([⟨Rect.unit ![0, 0] S512x1024.size inb_S512x1024_S512x1024_0_0,
      k7_pay1 (F := Ideal)
        (View.readAt (Elt Ideal) a1.view (Rect.unit ![0, 0] S512x1024.size inb_S512x1024_S512x1024_0_0).toLoadRect (h1.unread x0))
        (View.readAt (Elt Ideal) a2.view (Rect.unit ![0, 0] S1024x4096.size inb_S1024x4096_S1024x4096_0_0).toLoadRect (h2.unread x1))
        (View.readAt (Elt Ideal) a3.view (Rect.unit ![0, 0] S4096x1024.size inb_S4096x1024_S4096x1024_0_0).toLoadRect (h3.unread x2))⟩] :
      List (View.Piece (Elt Ideal) S512x1024 .f32)) = _
  rw [View.canon_unit_zero hz2, View.readAt_eq_ld, View.readAt_eq_ld, View.readAt_eq_ld, h1.read_unread, h2.read_unread,
    h3.read_unread, View.ld_unit_zero hz2, View.ld_unit_zero hz2, View.ld_unit_zero hz2]

theorem idx7_0 : ∀ t : Fin cfg7.N, win7_0.index t (0 : Fin 2) = t.val ∧ win7_0.index t (1 : Fin 2) = 0 :=
  (by decide +kernel : ∀ t : Fin grid7.N, _)
theorem idx7_1 : ∀ t : Fin cfg7.N, win7_1.index t (0 : Fin 2) = 0 ∧ win7_1.index t (1 : Fin 2) = 0 :=
  (by decide +kernel : ∀ t : Fin grid7.N, _)
theorem idx7_2 : ∀ t : Fin cfg7.N, win7_2.index t (0 : Fin 2) = 0 ∧ win7_2.index t (1 : Fin 2) = 0 :=
  (by decide +kernel : ∀ t : Fin grid7.N, _)
theorem idx7_3 : ∀ t : Fin cfg7.N, win7_3.index t (0 : Fin 2) = t.val ∧ win7_3.index t (1 : Fin 2) = 0 :=
  (by decide +kernel : ∀ t : Fin grid7.N, _)
theorem N7 : cfg7.N = 4 := by decide +kernel

/-- The row of the array that row `r` of block `t` is. -/
def row7 (t : Fin cfg7.N) (r : Fin 512) : Fin 2048 := ⟨t.val * 512 + r.val, by
  have := t.isLt; have := r.isLt; have := N7; omega⟩

theorem emb7_0 (t : Fin cfg7.N) (r : Fin 512) (e : Fin 1024) :
    ((cfg7.win 0).blk t).view.emb (ix2 r e : S512x1024.Idx) = (ix2 (row7 t r) e : S2048x1024.Idx) := by
  obtain ⟨e0, e1⟩ := idx7_0 t
  funext a; apply Fin.ext
  match a with
  | ⟨0, _⟩ => show win7_0.index t (0 : Fin 2) * 512 + 1 * r.val = t.val * 512 + r.val; omega
  | ⟨1, _⟩ => show win7_0.index t (1 : Fin 2) * 1024 + 1 * e.val = e.val; omega
theorem emb7_1 (t : Fin cfg7.N) (r : Fin 1024) (e : Fin 4096) :
    ((cfg7.win 1).blk t).view.emb (ix2 r e : S1024x4096.Idx) = (ix2 r e : S1024x4096.Idx) := by
  obtain ⟨e0, e1⟩ := idx7_1 t
  funext a; apply Fin.ext
  match a with
  | ⟨0, _⟩ => show win7_1.index t (0 : Fin 2) * 1024 + 1 * r.val = r.val; omega
  | ⟨1, _⟩ => show win7_1.index t (1 : Fin 2) * 4096 + 1 * e.val = e.val; omega
theorem emb7_2 (t : Fin cfg7.N) (r : Fin 4096) (e : Fin 1024) :
    ((cfg7.win 2).blk t).view.emb (ix2 r e : S4096x1024.Idx) = (ix2 r e : S4096x1024.Idx) := by
  obtain ⟨e0, e1⟩ := idx7_2 t
  funext a; apply Fin.ext
  match a with
  | ⟨0, _⟩ => show win7_2.index t (0 : Fin 2) * 4096 + 1 * r.val = r.val; omega
  | ⟨1, _⟩ => show win7_2.index t (1 : Fin 2) * 1024 + 1 * e.val = e.val; omega
theorem emb7_3 (t : Fin cfg7.N) (r : Fin 512) (e : Fin 1024) :
    ((cfg7.win 3).blk t).view.emb (ix2 r e : S512x1024.Idx) = (ix2 (row7 t r) e : S2048x1024.Idx) := by
  obtain ⟨e0, e1⟩ := idx7_3 t
  funext a; apply Fin.ext
  match a with
  | ⟨0, _⟩ => show win7_3.index t (0 : Fin 2) * 512 + 1 * r.val = t.val * 512 + r.val; omega
  | ⟨1, _⟩ => show win7_3.index t (1 : Fin 2) * 1024 + 1 * e.val = e.val; omega

theorem flushed7 (c : Dev nD) (t : Fin cfg7.N) :
    (K7.dat (Ix := Ix) (U := U) (Lvl := Lvl) 𝒱₀ V D c).flushed 3 t
      = ((cfg7.win 3).blk t).view.read (Elt Ideal) (mlpArr (V c (Pipeline.arrRef spec7 0)) (V c (Pipeline.arrRef spec7 1))
          (V c (Pipeline.arrRef spec7 2))) := by
  have h : (K7.dat (Ix := Ix) (U := U) (Lvl := Lvl) 𝒱₀ V D c).after 3 t
      = k7_pay1 (F := Ideal) (K7.iblk V c 0 t) (K7.iblk V c 1 t) (K7.iblk V c 2 t) := by
    rw [K7.after7_3]; unfold K7.outsAt7; rw [out_eq7]
  funext j
  obtain ⟨r, e, rfl⟩ : ∃ (r : Fin 512) (e : Fin 1024), j = (ix2 r e : S512x1024.Idx) := ⟨j 0, j 1, by
    funext a; match a with | ⟨0, _⟩ => rfl | ⟨1, _⟩ => rfl⟩
  show (K7.dat (Ix := Ix) (U := U) (Lvl := Lvl) 𝒱₀ V D c).after 3 t (ix2 r e : S512x1024.Idx)
    = mlpArr (V c (Pipeline.arrRef spec7 0)) (V c (Pipeline.arrRef spec7 1)) (V c (Pipeline.arrRef spec7 2))
        (((cfg7.win 3).blk t).view.emb (ix2 r e : S512x1024.Idx))
  rw [emb7_3, h, pay7]
  show Spec.mlp (fun k => V c (Pipeline.arrRef spec7 0) (((cfg7.win 0).blk t).view.emb (ix2 r k : S512x1024.Idx)))
      (fun k h => V c (Pipeline.arrRef spec7 1) (((cfg7.win 1).blk t).view.emb (ix2 k h : S1024x4096.Idx)))
      (fun h k => V c (Pipeline.arrRef spec7 2) (((cfg7.win 2).blk t).view.emb (ix2 h k : S4096x1024.Idx))) e
    = Spec.mlp (fun k => V c (Pipeline.arrRef spec7 0) (ix2 (row7 t r) k : S2048x1024.Idx)) (fun k h => V c (Pipeline.arrRef spec7 1) (ix2 k h : S1024x4096.Idx))
      (fun h k => V c (Pipeline.arrRef spec7 2) (ix2 h k : S4096x1024.Idx)) e
  exact congrFun (congr (congr (congrArg Spec.mlp (funext fun k => congrArg (V c (Pipeline.arrRef spec7 0)) (emb7_0 t r k)))
    (funext fun k => funext fun h => congrArg (V c (Pipeline.arrRef spec7 1)) (emb7_1 t k h)))
    (funext fun h => funext fun k => congrArg (V c (Pipeline.arrRef spec7 2)) (emb7_2 t h k))) e

theorem flush7 : ∀ t : Fin cfg7.N, (cfg7.win 3).flush t = true := by decide +kernel

theorem covered7 (i : S2048x1024.Idx) :
    ∃ t : Fin cfg7.N, (cfg7.win 3).flush t = true ∧ i ∈ ((cfg7.win 3).blk t).view.set := by
  have h0 : (i 0).val < 2048 := (i 0).isLt
  let t : Fin cfg7.N := ⟨(i 0).val / 512, by rw [N7]; omega⟩
  refine ⟨t, flush7 t, ?_⟩
  have h := ((cfg7.win 3).blk t).view.emb_mem_set (ix2 (⟨(i 0).val % 512, by omega⟩ : Fin 512) (i 1) : S512x1024.Idx)
  have hi : (ix2 (row7 t ⟨(i 0).val % 512, by omega⟩) (i 1) : S2048x1024.Idx) = i := by
    funext a
    match a with
    | ⟨0, _⟩ => apply Fin.ext; show (i 0).val / 512 * 512 + (i 0).val % 512 = (i 0).val; omega
    | ⟨1, _⟩ => rfl
  have he := (emb7_3 t ⟨(i 0).val % 512, by omega⟩ (i 1)).trans hi
  exact he ▸ h

/-- The result array after the region: the MLP layer on every row. -/
theorem final7 (c : Dev nD) : (K7.dat (Ix := Ix) (U := U) (Lvl := Lvl) 𝒱₀ V D c).arrAt 3 cfg7.N
    = mlpArr (V c (Pipeline.arrRef spec7 0)) (V c (Pipeline.arrRef spec7 1)) (V c (Pipeline.arrRef spec7 2)) :=
  (K7.dat (Ix := Ix) (U := U) (Lvl := Lvl) 𝒱₀ V D c).arrAt_eq_of_cover 3 _ (fun t _ => flushed7 𝒱₀ V D c t) covered7

/-! ## Region 9 -/

theorem pay9 (X : Vec Ideal S512x1024 .f32) (A : Vec Ideal S1024x4096 .f32)
    (B : Vec Ideal S4096x1024 .f32) (r : Fin 512) (e : Fin 1024) :
    k9_pay1 X A B (ix2 r e)
      = Spec.mlp (fun k => X (ix2 r k)) (fun k h => A (ix2 k h)) (fun h k => B (ix2 h k)) e := by
  pointwise [k9_pay1]
  unfold Spec.mlp
  simp only [← Spec.gate_eq]
  rfl

theorem out_eq9 (c : Dev nD) (i : grid9.Coords) (a1 : Memref sig .tc .vmem S512x1024 .f32) (h1 : a1.IsWhole)
    (a2 : Memref sig .tc .vmem S1024x4096 .f32) (h2 : a2.IsWhole) (a3 : Memref sig .tc .vmem S4096x1024 .f32) (h3 : a3.IsWhole)
    (a4 : Memref sig .tc .vmem S512x1024 .f32) (h4 : a4.IsWhole) (x0 : Vec Ideal S512x1024 .f32)
    (x1 : Vec Ideal S1024x4096 .f32) (x2 : Vec Ideal S4096x1024 .f32) :
    K9.out9_A_3 (Ix := Ix) (U := U) (Lvl := Lvl) 𝒱₀ c i a1 h1 a2 h2 a3 h3 a4 h4 x0 x1 x2 = k9_pay1 (F := Ideal) x0 x1 x2 := by
  unfold K9.out9_A_3
  rw [View.read_writes_junk_eq_canon]
  show View.canon ([⟨Rect.unit ![0, 0] S512x1024.size inb_S512x1024_S512x1024_0_0,
      k9_pay1 (F := Ideal)
        (View.readAt (Elt Ideal) a1.view (Rect.unit ![0, 0] S512x1024.size inb_S512x1024_S512x1024_0_0).toLoadRect (h1.unread x0))
        (View.readAt (Elt Ideal) a2.view (Rect.unit ![0, 0] S1024x4096.size inb_S1024x4096_S1024x4096_0_0).toLoadRect (h2.unread x1))
        (View.readAt (Elt Ideal) a3.view (Rect.unit ![0, 0] S4096x1024.size inb_S4096x1024_S4096x1024_0_0).toLoadRect (h3.unread x2))⟩] :
      List (View.Piece (Elt Ideal) S512x1024 .f32)) = _
  rw [View.canon_unit_zero hz2, View.readAt_eq_ld, View.readAt_eq_ld, View.readAt_eq_ld, h1.read_unread, h2.read_unread,
    h3.read_unread, View.ld_unit_zero hz2, View.ld_unit_zero hz2, View.ld_unit_zero hz2]

theorem idx9_0 : ∀ t : Fin cfg9.N, win9_0.index t (0 : Fin 2) = t.val ∧ win9_0.index t (1 : Fin 2) = 0 :=
  (by decide +kernel : ∀ t : Fin grid9.N, _)
theorem idx9_1 : ∀ t : Fin cfg9.N, win9_1.index t (0 : Fin 2) = 0 ∧ win9_1.index t (1 : Fin 2) = 0 :=
  (by decide +kernel : ∀ t : Fin grid9.N, _)
theorem idx9_2 : ∀ t : Fin cfg9.N, win9_2.index t (0 : Fin 2) = 0 ∧ win9_2.index t (1 : Fin 2) = 0 :=
  (by decide +kernel : ∀ t : Fin grid9.N, _)
theorem idx9_3 : ∀ t : Fin cfg9.N, win9_3.index t (0 : Fin 2) = t.val ∧ win9_3.index t (1 : Fin 2) = 0 :=
  (by decide +kernel : ∀ t : Fin grid9.N, _)
theorem N9 : cfg9.N = 4 := by decide +kernel

/-- The row of the array that row `r` of block `t` is. -/
def row9 (t : Fin cfg9.N) (r : Fin 512) : Fin 2048 := ⟨t.val * 512 + r.val, by
  have := t.isLt; have := r.isLt; have := N9; omega⟩

theorem emb9_0 (t : Fin cfg9.N) (r : Fin 512) (e : Fin 1024) :
    ((cfg9.win 0).blk t).view.emb (ix2 r e : S512x1024.Idx) = (ix2 (row9 t r) e : S2048x1024.Idx) := by
  obtain ⟨e0, e1⟩ := idx9_0 t
  funext a; apply Fin.ext
  match a with
  | ⟨0, _⟩ => show win9_0.index t (0 : Fin 2) * 512 + 1 * r.val = t.val * 512 + r.val; omega
  | ⟨1, _⟩ => show win9_0.index t (1 : Fin 2) * 1024 + 1 * e.val = e.val; omega
theorem emb9_1 (t : Fin cfg9.N) (r : Fin 1024) (e : Fin 4096) :
    ((cfg9.win 1).blk t).view.emb (ix2 r e : S1024x4096.Idx) = (ix2 r e : S1024x4096.Idx) := by
  obtain ⟨e0, e1⟩ := idx9_1 t
  funext a; apply Fin.ext
  match a with
  | ⟨0, _⟩ => show win9_1.index t (0 : Fin 2) * 1024 + 1 * r.val = r.val; omega
  | ⟨1, _⟩ => show win9_1.index t (1 : Fin 2) * 4096 + 1 * e.val = e.val; omega
theorem emb9_2 (t : Fin cfg9.N) (r : Fin 4096) (e : Fin 1024) :
    ((cfg9.win 2).blk t).view.emb (ix2 r e : S4096x1024.Idx) = (ix2 r e : S4096x1024.Idx) := by
  obtain ⟨e0, e1⟩ := idx9_2 t
  funext a; apply Fin.ext
  match a with
  | ⟨0, _⟩ => show win9_2.index t (0 : Fin 2) * 4096 + 1 * r.val = r.val; omega
  | ⟨1, _⟩ => show win9_2.index t (1 : Fin 2) * 1024 + 1 * e.val = e.val; omega
theorem emb9_3 (t : Fin cfg9.N) (r : Fin 512) (e : Fin 1024) :
    ((cfg9.win 3).blk t).view.emb (ix2 r e : S512x1024.Idx) = (ix2 (row9 t r) e : S2048x1024.Idx) := by
  obtain ⟨e0, e1⟩ := idx9_3 t
  funext a; apply Fin.ext
  match a with
  | ⟨0, _⟩ => show win9_3.index t (0 : Fin 2) * 512 + 1 * r.val = t.val * 512 + r.val; omega
  | ⟨1, _⟩ => show win9_3.index t (1 : Fin 2) * 1024 + 1 * e.val = e.val; omega

theorem flushed9 (c : Dev nD) (t : Fin cfg9.N) :
    (K9.dat (Ix := Ix) (U := U) (Lvl := Lvl) 𝒱₀ V D c).flushed 3 t
      = ((cfg9.win 3).blk t).view.read (Elt Ideal) (mlpArr (V c (Pipeline.arrRef spec9 0)) (V c (Pipeline.arrRef spec9 1))
          (V c (Pipeline.arrRef spec9 2))) := by
  have h : (K9.dat (Ix := Ix) (U := U) (Lvl := Lvl) 𝒱₀ V D c).after 3 t
      = k9_pay1 (F := Ideal) (K9.iblk V c 0 t) (K9.iblk V c 1 t) (K9.iblk V c 2 t) := by
    rw [K9.after9_3]; unfold K9.outsAt9; rw [out_eq9]
  funext j
  obtain ⟨r, e, rfl⟩ : ∃ (r : Fin 512) (e : Fin 1024), j = (ix2 r e : S512x1024.Idx) := ⟨j 0, j 1, by
    funext a; match a with | ⟨0, _⟩ => rfl | ⟨1, _⟩ => rfl⟩
  show (K9.dat (Ix := Ix) (U := U) (Lvl := Lvl) 𝒱₀ V D c).after 3 t (ix2 r e : S512x1024.Idx)
    = mlpArr (V c (Pipeline.arrRef spec9 0)) (V c (Pipeline.arrRef spec9 1)) (V c (Pipeline.arrRef spec9 2))
        (((cfg9.win 3).blk t).view.emb (ix2 r e : S512x1024.Idx))
  rw [emb9_3, h, pay9]
  show Spec.mlp (fun k => V c (Pipeline.arrRef spec9 0) (((cfg9.win 0).blk t).view.emb (ix2 r k : S512x1024.Idx)))
      (fun k h => V c (Pipeline.arrRef spec9 1) (((cfg9.win 1).blk t).view.emb (ix2 k h : S1024x4096.Idx)))
      (fun h k => V c (Pipeline.arrRef spec9 2) (((cfg9.win 2).blk t).view.emb (ix2 h k : S4096x1024.Idx))) e
    = Spec.mlp (fun k => V c (Pipeline.arrRef spec9 0) (ix2 (row9 t r) k : S2048x1024.Idx)) (fun k h => V c (Pipeline.arrRef spec9 1) (ix2 k h : S1024x4096.Idx))
      (fun h k => V c (Pipeline.arrRef spec9 2) (ix2 h k : S4096x1024.Idx)) e
  exact congrFun (congr (congr (congrArg Spec.mlp (funext fun k => congrArg (V c (Pipeline.arrRef spec9 0)) (emb9_0 t r k)))
    (funext fun k => funext fun h => congrArg (V c (Pipeline.arrRef spec9 1)) (emb9_1 t k h)))
    (funext fun h => funext fun k => congrArg (V c (Pipeline.arrRef spec9 2)) (emb9_2 t h k))) e

theorem flush9 : ∀ t : Fin cfg9.N, (cfg9.win 3).flush t = true := by decide +kernel

theorem covered9 (i : S2048x1024.Idx) :
    ∃ t : Fin cfg9.N, (cfg9.win 3).flush t = true ∧ i ∈ ((cfg9.win 3).blk t).view.set := by
  have h0 : (i 0).val < 2048 := (i 0).isLt
  let t : Fin cfg9.N := ⟨(i 0).val / 512, by rw [N9]; omega⟩
  refine ⟨t, flush9 t, ?_⟩
  have h := ((cfg9.win 3).blk t).view.emb_mem_set (ix2 (⟨(i 0).val % 512, by omega⟩ : Fin 512) (i 1) : S512x1024.Idx)
  have hi : (ix2 (row9 t ⟨(i 0).val % 512, by omega⟩) (i 1) : S2048x1024.Idx) = i := by
    funext a
    match a with
    | ⟨0, _⟩ => apply Fin.ext; show (i 0).val / 512 * 512 + (i 0).val % 512 = (i 0).val; omega
    | ⟨1, _⟩ => rfl
  have he := (emb9_3 t ⟨(i 0).val % 512, by omega⟩ (i 1)).trans hi
  exact he ▸ h

/-- The result array after the region: the MLP layer on every row. -/
theorem final9 (c : Dev nD) : (K9.dat (Ix := Ix) (U := U) (Lvl := Lvl) 𝒱₀ V D c).arrAt 3 cfg9.N
    = mlpArr (V c (Pipeline.arrRef spec9 0)) (V c (Pipeline.arrRef spec9 1)) (V c (Pipeline.arrRef spec9 2)) :=
  (K9.dat (Ix := Ix) (U := U) (Lvl := Lvl) 𝒱₀ V D c).arrAt_eq_of_cover 3 _ (fun t _ => flushed9 𝒱₀ V D c t) covered9

end Cert.KernelIdeal.Val

end
-- ==== Proof.KernelIdeal.ValHead.lean ====
module

public import proofs.«01_k».proof.Proof.Spec
public import proofs.«01_k».proof.Proof.Gen.Own.KernelIdeal.K10.Frame
public import proofs.«01_k».proof.Proof.Gen.KernelIdeal.Points
public import Idealize.ShloMosaic.Lib.Pipeline.Value
public import Idealize.ShloMosaic.Lib.Pointwise

/-! The region of the two heads at the extended reals: what it leaves in its two result arrays. -/

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL Idealize.SL.RA Idealize.SL.Sem

variable {Ix : Type} [DecidableEq Ix] {U : Type} [URA U] {Lvl : Type} [Preorder Lvl]
variable (𝒱₀ : Variants)
variable (V : (c : Dev nD) → (b : Ref sig .tc) → Buf (Elt Ideal) ((c : Thread nD τ).loc b))
variable (D : Dev nD → CellTallies nD τ sig Ix)

theorem hz10 : (![0, 0] : Fin 2 → Nat) = fun _ => 0 := funext fun a => by fin_cases a <;> rfl

/-- A head on every row of an array. -/
def headArr (X : Vec Ideal S2048x1024 .f32) (A : Vec Ideal S1024x1024 .f32) (B : Vec Ideal S1x1024 .f32) :
    Vec Ideal S2048x1024 .f32 := fun i =>
  Spec.head (fun k => X (ix2 (i 0) k)) (fun k h => A (ix2 k h)) (fun h => B (ix2 0 h)) (i 1)

theorem pay10_2 (X : Vec Ideal S512x1024 .f32) (A : Vec Ideal S1024x1024 .f32) (B : Vec Ideal S1x1024 .f32) (r : Fin 512) (e : Fin 1024) :
    k10_pay2 X A B (ix2 r e) = Spec.head (fun k => X (ix2 r k)) (fun k h => A (ix2 k h)) (fun h => B (ix2 0 h)) e := by
  pointwise [k10_pay2, k10_pay1]
  unfold Spec.head Spec.mv
  rfl

theorem pay10_3 (X : Vec Ideal S512x1024 .f32) (A : Vec Ideal S1024x1024 .f32) (B : Vec Ideal S1x1024 .f32) (r : Fin 512) (e : Fin 1024) :
    k10_pay3 X A B (ix2 r e) = Spec.head (fun k => X (ix2 r k)) (fun k h => A (ix2 k h)) (fun h => B (ix2 0 h)) e := by
  pointwise [k10_pay3, k10_pay1]
  unfold Spec.head Spec.mv
  rfl

theorem out_eq10_5 (c : Dev nD) (i : grid10.Coords) (a1 : Memref sig .tc .vmem S512x1024 .f32) (h1 : a1.IsWhole)
    (a2 : Memref sig .tc .vmem S1024x1024 .f32) (h2 : a2.IsWhole) (a3 : Memref sig .tc .vmem S1x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .f32) (h7 : a7.IsWhole)
    (x0 : Vec Ideal S512x1024 .f32) (x1 : Vec Ideal S1024x1024 .f32) (x2 : Vec Ideal S1x1024 .f32)
    (x3 : Vec Ideal S1024x1024 .f32) (x4 : Vec Ideal S1x1024 .f32) :
    K10.out10_A_5 (Ix := Ix) (U := U) (Lvl := Lvl) 𝒱₀ c i a1 h1 a2 h2 a3 h3 a4 h4 a5 h5 a6 h6 a7 h7 x0 x1 x2 x3 x4 = k10_pay2 (F := Ideal) x0 x1 x2 := by
  unfold K10.out10_A_5
  rw [View.read_writes_junk_eq_canon]
  show View.canon ([⟨Rect.unit ![0, 0] S512x1024.size inb_S512x1024_S512x1024_0_0,
      k10_pay2 (F := Ideal)
        (View.readAt (Elt Ideal) a1.view (Rect.unit ![0, 0] S512x1024.size inb_S512x1024_S512x1024_0_0).toLoadRect (h1.unread x0))
        (View.readAt (Elt Ideal) a2.view (Rect.unit ![0, 0] S1024x1024.size inb_S1024x1024_S1024x1024_0_0).toLoadRect (h2.unread x1))
        (View.readAt (Elt Ideal) a3.view (Rect.unit ![0, 0] S1x1024.size inb_S1x1024_S1x1024_0_0).toLoadRect (h3.unread x2))⟩] :
      List (View.Piece (Elt Ideal) S512x1024 .f32)) = _
  rw [View.canon_unit_zero hz10, View.readAt_eq_ld, View.readAt_eq_ld, View.readAt_eq_ld, h1.read_unread, h2.read_unread,
    h3.read_unread, View.ld_unit_zero hz10, View.ld_unit_zero hz10, View.ld_unit_zero hz10]

theorem out_eq10_6 (c : Dev nD) (i : grid10.Coords) (a1 : Memref sig .tc .vmem S512x1024 .f32) (h1 : a1.IsWhole)
    (a2 : Memref sig .tc .vmem S1024x1024 .f32) (h2 : a2.IsWhole) (a3 : Memref sig .tc .vmem S1x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .f32) (h7 : a7.IsWhole)
    (x0 : Vec Ideal S512x1024 .f32) (x1 : Vec Ideal S1024x1024 .f32) (x2 : Vec Ideal S1x1024 .f32)
    (x3 : Vec Ideal S1024x1024 .f32) (x4 : Vec Ideal S1x1024 .f32) :
    K10.out10_A_6 (Ix := Ix) (U := U) (Lvl := Lvl) 𝒱₀ c i a1 h1 a2 h2 a3 h3 a4 h4 a5 h5 a6 h6 a7 h7 x0 x1 x2 x3 x4 = k10_pay3 (F := Ideal) x0 x3 x4 := by
  unfold K10.out10_A_6
  rw [View.read_writes_junk_eq_canon]
  show View.canon ([⟨Rect.unit ![0, 0] S512x1024.size inb_S512x1024_S512x1024_0_0,
      k10_pay3 (F := Ideal)
        (View.readAt (Elt Ideal) a1.view (Rect.unit ![0, 0] S512x1024.size inb_S512x1024_S512x1024_0_0).toLoadRect (h1.unread x0))
        (View.readAt (Elt Ideal) a4.view (Rect.unit ![0, 0] S1024x1024.size inb_S1024x1024_S1024x1024_0_0).toLoadRect (h4.unread x3))
        (View.readAt (Elt Ideal) a5.view (Rect.unit ![0, 0] S1x1024.size inb_S1x1024_S1x1024_0_0).toLoadRect (h5.unread x4))⟩] :
      List (View.Piece (Elt Ideal) S512x1024 .f32)) = _
  rw [View.canon_unit_zero hz10, View.readAt_eq_ld, View.readAt_eq_ld, View.readAt_eq_ld, h1.read_unread, h4.read_unread,
    h5.read_unread, View.ld_unit_zero hz10, View.ld_unit_zero hz10, View.ld_unit_zero hz10]

theorem idx10_0 : ∀ t : Fin cfg10.N, win10_0.index t (0 : Fin 2) = t.val ∧ win10_0.index t (1 : Fin 2) = 0 :=
  (by decide +kernel : ∀ t : Fin grid10.N, _)
theorem idx10_1 : ∀ t : Fin cfg10.N, win10_1.index t (0 : Fin 2) = 0 ∧ win10_1.index t (1 : Fin 2) = 0 :=
  (by decide +kernel : ∀ t : Fin grid10.N, _)
theorem idx10_2 : ∀ t : Fin cfg10.N, win10_2.index t (0 : Fin 2) = 0 ∧ win10_2.index t (1 : Fin 2) = 0 :=
  (by decide +kernel : ∀ t : Fin grid10.N, _)
theorem idx10_3 : ∀ t : Fin cfg10.N, win10_3.index t (0 : Fin 2) = 0 ∧ win10_3.index t (1 : Fin 2) = 0 :=
  (by decide +kernel : ∀ t : Fin grid10.N, _)
theorem idx10_4 : ∀ t : Fin cfg10.N, win10_4.index t (0 : Fin 2) = 0 ∧ win10_4.index t (1 : Fin 2) = 0 :=
  (by decide +kernel : ∀ t : Fin grid10.N, _)
theorem idx10_5 : ∀ t : Fin cfg10.N, win10_5.index t (0 : Fin 2) = t.val ∧ win10_5.index t (1 : Fin 2) = 0 :=
  (by decide +kernel : ∀ t : Fin grid10.N, _)
theorem idx10_6 : ∀ t : Fin cfg10.N, win10_6.index t (0 : Fin 2) = t.val ∧ win10_6.index t (1 : Fin 2) = 0 :=
  (by decide +kernel : ∀ t : Fin grid10.N, _)
theorem N10 : cfg10.N = 4 := by decide +kernel

/-- The row of the array that row `r` of block `t` is. -/
def row10 (t : Fin cfg10.N) (r : Fin 512) : Fin 2048 := ⟨t.val * 512 + r.val, by
  have := t.isLt; have := r.isLt; have := N10; omega⟩

theorem emb10_0 (t : Fin cfg10.N) (r : Fin 512) (e : Fin 1024) :
    ((cfg10.win 0).blk t).view.emb (ix2 r e : S512x1024.Idx) = (ix2 (row10 t r) e : S2048x1024.Idx) := by
  obtain ⟨e0, e1⟩ := idx10_0 t
  funext a; apply Fin.ext
  match a with
  | ⟨0, _⟩ => show win10_0.index t (0 : Fin 2) * 512 + 1 * r.val = t.val * 512 + r.val; omega
  | ⟨1, _⟩ => show win10_0.index t (1 : Fin 2) * 1024 + 1 * e.val = e.val; omega
theorem emb10_1 (t : Fin cfg10.N) (r : Fin 1024) (e : Fin 1024) :
    ((cfg10.win 1).blk t).view.emb (ix2 r e : S1024x1024.Idx) = (ix2 r e : S1024x1024.Idx) := by
  obtain ⟨e0, e1⟩ := idx10_1 t
  funext a; apply Fin.ext
  match a with
  | ⟨0, _⟩ => show win10_1.index t (0 : Fin 2) * 1024 + 1 * r.val = r.val; omega
  | ⟨1, _⟩ => show win10_1.index t (1 : Fin 2) * 1024 + 1 * e.val = e.val; omega
theorem emb10_2 (t : Fin cfg10.N) (r : Fin 1) (e : Fin 1024) :
    ((cfg10.win 2).blk t).view.emb (ix2 r e : S1x1024.Idx) = (ix2 r e : S1x1024.Idx) := by
  obtain ⟨e0, e1⟩ := idx10_2 t
  funext a; apply Fin.ext
  match a with
  | ⟨0, _⟩ => show win10_2.index t (0 : Fin 2) * 1 + 1 * r.val = r.val; omega
  | ⟨1, _⟩ => show win10_2.index t (1 : Fin 2) * 1024 + 1 * e.val = e.val; omega
theorem emb10_3 (t : Fin cfg10.N) (r : Fin 1024) (e : Fin 1024) :
    ((cfg10.win 3).blk t).view.emb (ix2 r e : S1024x1024.Idx) = (ix2 r e : S1024x1024.Idx) := by
  obtain ⟨e0, e1⟩ := idx10_3 t
  funext a; apply Fin.ext
  match a with
  | ⟨0, _⟩ => show win10_3.index t (0 : Fin 2) * 1024 + 1 * r.val = r.val; omega
  | ⟨1, _⟩ => show win10_3.index t (1 : Fin 2) * 1024 + 1 * e.val = e.val; omega
theorem emb10_4 (t : Fin cfg10.N) (r : Fin 1) (e : Fin 1024) :
    ((cfg10.win 4).blk t).view.emb (ix2 r e : S1x1024.Idx) = (ix2 r e : S1x1024.Idx) := by
  obtain ⟨e0, e1⟩ := idx10_4 t
  funext a; apply Fin.ext
  match a with
  | ⟨0, _⟩ => show win10_4.index t (0 : Fin 2) * 1 + 1 * r.val = r.val; omega
  | ⟨1, _⟩ => show win10_4.index t (1 : Fin 2) * 1024 + 1 * e.val = e.val; omega
theorem emb10_5 (t : Fin cfg10.N) (r : Fin 512) (e : Fin 1024) :
    ((cfg10.win 5).blk t).view.emb (ix2 r e : S512x1024.Idx) = (ix2 (row10 t r) e : S2048x1024.Idx) := by
  obtain ⟨e0, e1⟩ := idx10_5 t
  funext a; apply Fin.ext
  match a with
  | ⟨0, _⟩ => show win10_5.index t (0 : Fin 2) * 512 + 1 * r.val = t.val * 512 + r.val; omega
  | ⟨1, _⟩ => show win10_5.index t (1 : Fin 2) * 1024 + 1 * e.val = e.val; omega
theorem emb10_6 (t : Fin cfg10.N) (r : Fin 512) (e : Fin 1024) :
    ((cfg10.win 6).blk t).view.emb (ix2 r e : S512x1024.Idx) = (ix2 (row10 t r) e : S2048x1024.Idx) := by
  obtain ⟨e0, e1⟩ := idx10_6 t
  funext a; apply Fin.ext
  match a with
  | ⟨0, _⟩ => show win10_6.index t (0 : Fin 2) * 512 + 1 * r.val = t.val * 512 + r.val; omega
  | ⟨1, _⟩ => show win10_6.index t (1 : Fin 2) * 1024 + 1 * e.val = e.val; omega

theorem flushed10_5 (c : Dev nD) (t : Fin cfg10.N) :
    (K10.dat (Ix := Ix) (U := U) (Lvl := Lvl) 𝒱₀ V D c).flushed 5 t
      = ((cfg10.win 5).blk t).view.read (Elt Ideal) (headArr (V c (Pipeline.arrRef spec10 0)) (V c (Pipeline.arrRef spec10 1))
          (V c (Pipeline.arrRef spec10 2))) := by
  have h : (K10.dat (Ix := Ix) (U := U) (Lvl := Lvl) 𝒱₀ V D c).after 5 t
      = k10_pay2 (F := Ideal) (K10.iblk V c 0 t) (K10.iblk V c 1 t) (K10.iblk V c 2 t) := by
    rw [K10.after10_5]; unfold K10.outsAt10; dsimp only; rw [out_eq10_5]
  funext j
  obtain ⟨r, e, rfl⟩ : ∃ (r : Fin 512) (e : Fin 1024), j = (ix2 r e : S512x1024.Idx) := ⟨j 0, j 1, by
    funext a; match a with | ⟨0, _⟩ => rfl | ⟨1, _⟩ => rfl⟩
  show (K10.dat (Ix := Ix) (U := U) (Lvl := Lvl) 𝒱₀ V D c).after 5 t (ix2 r e : S512x1024.Idx)
    = headArr (V c (Pipeline.arrRef spec10 0)) (V c (Pipeline.arrRef spec10 1)) (V c (Pipeline.arrRef spec10 2))
        (((cfg10.win 5).blk t).view.emb (ix2 r e : S512x1024.Idx))
  rw [emb10_5, h, pay10_2]
  show Spec.head (fun k => V c (Pipeline.arrRef spec10 0) (((cfg10.win 0).blk t).view.emb (ix2 r k : S512x1024.Idx)))
      (fun k h => V c (Pipeline.arrRef spec10 1) (((cfg10.win 1).blk t).view.emb (ix2 k h : S1024x1024.Idx)))
      (fun h => V c (Pipeline.arrRef spec10 2) (((cfg10.win 2).blk t).view.emb (ix2 0 h : S1x1024.Idx))) e
    = Spec.head (fun k => V c (Pipeline.arrRef spec10 0) (ix2 (row10 t r) k : S2048x1024.Idx)) (fun k h => V c (Pipeline.arrRef spec10 1) (ix2 k h : S1024x1024.Idx))
      (fun h => V c (Pipeline.arrRef spec10 2) (ix2 0 h : S1x1024.Idx)) e
  exact congrFun (congr (congr (congrArg Spec.head (funext fun k => congrArg (V c (Pipeline.arrRef spec10 0)) (emb10_0 t r k)))
    (funext fun k => funext fun h => congrArg (V c (Pipeline.arrRef spec10 1)) (emb10_1 t k h)))
    (funext fun h => congrArg (V c (Pipeline.arrRef spec10 2)) (emb10_2 t 0 h))) e

theorem flush10_5 : ∀ t : Fin cfg10.N, (cfg10.win 5).flush t = true := by decide +kernel

theorem covered10_5 (i : S2048x1024.Idx) :
    ∃ t : Fin cfg10.N, (cfg10.win 5).flush t = true ∧ i ∈ ((cfg10.win 5).blk t).view.set := by
  have h0 : (i 0).val < 2048 := (i 0).isLt
  let t : Fin cfg10.N := ⟨(i 0).val / 512, by rw [N10]; omega⟩
  refine ⟨t, flush10_5 t, ?_⟩
  have h := ((cfg10.win 5).blk t).view.emb_mem_set (ix2 (⟨(i 0).val % 512, by omega⟩ : Fin 512) (i 1) : S512x1024.Idx)
  have hi : (ix2 (row10 t ⟨(i 0).val % 512, by omega⟩) (i 1) : S2048x1024.Idx) = i := by
    funext a
    match a with
    | ⟨0, _⟩ => apply Fin.ext; show (i 0).val / 512 * 512 + (i 0).val % 512 = (i 0).val; omega
    | ⟨1, _⟩ => rfl
  have he := (emb10_5 t ⟨(i 0).val % 512, by omega⟩ (i 1)).trans hi
  exact he ▸ h

/-- The result array after the region. -/
theorem final10_5 (c : Dev nD) : (K10.dat (Ix := Ix) (U := U) (Lvl := Lvl) 𝒱₀ V D c).arrAt 5 cfg10.N
    = headArr (V c (Pipeline.arrRef spec10 0)) (V c (Pipeline.arrRef spec10 1)) (V c (Pipeline.arrRef spec10 2)) :=
  (K10.dat (Ix := Ix) (U := U) (Lvl := Lvl) 𝒱₀ V D c).arrAt_eq_of_cover 5 _ (fun t _ => flushed10_5 𝒱₀ V D c t) covered10_5

theorem flushed10_6 (c : Dev nD) (t : Fin cfg10.N) :
    (K10.dat (Ix := Ix) (U := U) (Lvl := Lvl) 𝒱₀ V D c).flushed 6 t
      = ((cfg10.win 6).blk t).view.read (Elt Ideal) (headArr (V c (Pipeline.arrRef spec10 0)) (V c (Pipeline.arrRef spec10 3))
          (V c (Pipeline.arrRef spec10 4))) := by
  have h : (K10.dat (Ix := Ix) (U := U) (Lvl := Lvl) 𝒱₀ V D c).after 6 t
      = k10_pay3 (F := Ideal) (K10.iblk V c 0 t) (K10.iblk V c 3 t) (K10.iblk V c 4 t) := by
    rw [K10.after10_6]; unfold K10.outsAt10; dsimp only; rw [out_eq10_6]
  funext j
  obtain ⟨r, e, rfl⟩ : ∃ (r : Fin 512) (e : Fin 1024), j = (ix2 r e : S512x1024.Idx) := ⟨j 0, j 1, by
    funext a; match a with | ⟨0, _⟩ => rfl | ⟨1, _⟩ => rfl⟩
  show (K10.dat (Ix := Ix) (U := U) (Lvl := Lvl) 𝒱₀ V D c).after 6 t (ix2 r e : S512x1024.Idx)
    = headArr (V c (Pipeline.arrRef spec10 0)) (V c (Pipeline.arrRef spec10 3)) (V c (Pipeline.arrRef spec10 4))
        (((cfg10.win 6).blk t).view.emb (ix2 r e : S512x1024.Idx))
  rw [emb10_6, h, pay10_3]
  show Spec.head (fun k => V c (Pipeline.arrRef spec10 0) (((cfg10.win 0).blk t).view.emb (ix2 r k : S512x1024.Idx)))
      (fun k h => V c (Pipeline.arrRef spec10 3) (((cfg10.win 3).blk t).view.emb (ix2 k h : S1024x1024.Idx)))
      (fun h => V c (Pipeline.arrRef spec10 4) (((cfg10.win 4).blk t).view.emb (ix2 0 h : S1x1024.Idx))) e
    = Spec.head (fun k => V c (Pipeline.arrRef spec10 0) (ix2 (row10 t r) k : S2048x1024.Idx)) (fun k h => V c (Pipeline.arrRef spec10 3) (ix2 k h : S1024x1024.Idx))
      (fun h => V c (Pipeline.arrRef spec10 4) (ix2 0 h : S1x1024.Idx)) e
  exact congrFun (congr (congr (congrArg Spec.head (funext fun k => congrArg (V c (Pipeline.arrRef spec10 0)) (emb10_0 t r k)))
    (funext fun k => funext fun h => congrArg (V c (Pipeline.arrRef spec10 3)) (emb10_3 t k h)))
    (funext fun h => congrArg (V c (Pipeline.arrRef spec10 4)) (emb10_4 t 0 h))) e

theorem flush10_6 : ∀ t : Fin cfg10.N, (cfg10.win 6).flush t = true := by decide +kernel

theorem covered10_6 (i : S2048x1024.Idx) :
    ∃ t : Fin cfg10.N, (cfg10.win 6).flush t = true ∧ i ∈ ((cfg10.win 6).blk t).view.set := by
  have h0 : (i 0).val < 2048 := (i 0).isLt
  let t : Fin cfg10.N := ⟨(i 0).val / 512, by rw [N10]; omega⟩
  refine ⟨t, flush10_6 t, ?_⟩
  have h := ((cfg10.win 6).blk t).view.emb_mem_set (ix2 (⟨(i 0).val % 512, by omega⟩ : Fin 512) (i 1) : S512x1024.Idx)
  have hi : (ix2 (row10 t ⟨(i 0).val % 512, by omega⟩) (i 1) : S2048x1024.Idx) = i := by
    funext a
    match a with
    | ⟨0, _⟩ => apply Fin.ext; show (i 0).val / 512 * 512 + (i 0).val % 512 = (i 0).val; omega
    | ⟨1, _⟩ => rfl
  have he := (emb10_6 t ⟨(i 0).val % 512, by omega⟩ (i 1)).trans hi
  exact he ▸ h

/-- The result array after the region. -/
theorem final10_6 (c : Dev nD) : (K10.dat (Ix := Ix) (U := U) (Lvl := Lvl) 𝒱₀ V D c).arrAt 6 cfg10.N
    = headArr (V c (Pipeline.arrRef spec10 0)) (V c (Pipeline.arrRef spec10 3)) (V c (Pipeline.arrRef spec10 4)) :=
  (K10.dat (Ix := Ix) (U := U) (Lvl := Lvl) 𝒱₀ V D c).arrAt_eq_of_cover 6 _ (fun t _ => flushed10_6 𝒱₀ V D c t) covered10_6

end Cert.KernelIdeal.Val

end
-- ==== Proof.Reference.Layers.lean ====
module

public import proofs.«01_k».proof.Proof.Spec
public import proofs.«01_k».proof.Proof.Gen.ReferenceIdeal.Run
public import Idealize.ShloMosaic.Lib.Pointwise

/-! The reference's layers at the extended reals, index by index: each mixer and each MLP is the plain one. -/

@[expose] public section

noncomputable section

open Idealize.ShloMosaic Idealize.ShloMosaic.TcCoe Idealize.ShloMosaic.StableHlo

namespace Cert.ReferenceIdeal.RefValue

open Cert.ReferenceIdeal Cert.ReferenceIdeal.Gen Cert.ReferenceIdeal.Value

variable (V0 : Valuation τ sig (Elt Ideal))

/-- The integer zero is the extended real zero. -/
theorem sitofp_zero : (FloatOps.sitofp FTy.f32 (0#32 : BitVec 32) : Ideal .f32) = (0 : EReal) := by
  show (((0#32 : BitVec 32).toInt : ℝ) : EReal) = 0
  simp

/-- The value of `f` at a padded row number: zero in the first three rows. -/
def padded {n : ℕ} (f : Fin 512 → Fin n → EReal) (p : Fin 515) (e : Fin n) : EReal :=
  if hp : 3 ≤ p.val then f ⟨p.val - 3, by have := p.isLt; omega⟩ e else 0

theorem padded_back {n : ℕ} (f : Fin 512 → Fin n → EReal) (d : ℕ) (hd : d ≤ 3) (t : Fin 512) (p : Fin 515)
    (hp : p.val = t.val + (3 - d)) (e : Fin n) : padded f p e = Spec.back f d t e := by
  unfold padded Spec.back
  by_cases h : d ≤ t.val
  · rw [dif_pos (by omega), if_pos h]
    congr 1; apply Fin.ext; show p.val - 3 = t.val - d; omega
  · rw [dif_neg (by omega), if_neg h]

theorem back_zero {n : ℕ} (f : Fin 512 → Fin n → EReal) (t : Fin 512) (e : Fin n) : Spec.back f 0 t e = f t e := by
  simp [Spec.back]

/-- The weights of layer `l`. -/
def Win (l : Fin 4) (k : Fin 1024) (e : Fin 4096) : EReal := V0 (Proc.devRef .tc main_arg4) (ix3 l k e)
@[inherit_doc Win] def Cw (l : Fin 4) (d : Fin 2048) (k : Fin 4) : EReal := V0 (Proc.devRef .tc main_arg5) (ix3 l d k)
@[inherit_doc Win] def Wout (l : Fin 4) (d : Fin 2048) (e : Fin 1024) : EReal := V0 (Proc.devRef .tc main_arg6) (ix3 l d e)
@[inherit_doc Win] def W1 (l : Fin 4) (k : Fin 1024) (h : Fin 4096) : EReal := V0 (Proc.devRef .tc main_arg7) (ix3 l k h)
@[inherit_doc Win] def W2 (l : Fin 4) (h : Fin 4096) (e : Fin 1024) : EReal := V0 (Proc.devRef .tc main_arg8) (ix3 l h e)

/-! ## Layer 0 -/

/-- The projection. -/
theorem v40_apply (b : Fin 4) (t : Fin 512) (h : Fin 4096) :
    res_main_v40 V0 (ix3 b t h) = Spec.mv (Spec.rms fun k => res_main_v27 V0 (ix3 b t k)) (Win V0 0) h := by
  pointwise [res_main_v40]
  rfl

/-- Its padded left half. -/
theorem v43_apply (b : Fin 4) (p : Fin 515) (e : Fin 2048) :
    res_main_v43 V0 (ix3 b p e) = padded (fun t => Spec.mv (Spec.rms fun k => res_main_v27 V0 (ix3 b t k)) (Spec.lft (Win V0 0))) p e := by
  pointwise [res_main_v43]
  unfold padded
  by_cases h : 3 ≤ p.val
  · rw [dif_pos ⟨h, by have := p.isLt; omega⟩, dif_pos h, v40_apply]; rfl
  · rw [dif_neg (fun hh => h hh.1), dif_neg h, sitofp_zero]

/-- The convolution. -/
theorem v80_apply (b : Fin 4) (t : Fin 512) (e : Fin 2048) :
    res_main_v80 V0 (ix3 b t e) = Spec.conv (fun t => Spec.mv (Spec.rms fun k => res_main_v27 V0 (ix3 b t k)) (Spec.lft (Win V0 0)))
      (Cw V0 0) t e := by
  pointwise [res_main_v80]
  simp only [v43_apply]
  rw [padded_back _ 3 (by omega) t ⟨t.val, by have := t.isLt; omega⟩ (by simp), padded_back _ 2 (by omega) t ⟨1 + t.val, by have := t.isLt; omega⟩ (by simp; omega),
    padded_back _ 1 (by omega) t ⟨2 + t.val, by have := t.isLt; omega⟩ (by simp; omega), padded_back _ 0 (by omega) t ⟨3 + t.val, by have := t.isLt; omega⟩ (by simp; omega), back_zero]
  rfl

/-- The mixer. -/
theorem v87_apply (b : Fin 4) (t : Fin 512) (e : Fin 1024) :
    res_main_v87 V0 (ix3 b t e) = Spec.mixer (fun s k => res_main_v27 V0 (ix3 b s k)) (Win V0 0) (Cw V0 0) (Wout V0 0) t e := by
  pointwise [res_main_v87, res_main_v42]
  simp only [v80_apply, v40_apply]
  rfl

/-- The hidden row of the MLP. -/
theorem v100_apply (b : Fin 4) (t : Fin 512) (h : Fin 4096) :
    res_main_v100 V0 (ix3 b t h) = Spec.mv (Spec.rms fun k => res_main_v87 V0 (ix3 b t k)) (W1 V0 0) h := by
  pointwise [res_main_v100]
  rfl

/-- The MLP. -/
theorem v105_apply (b : Fin 4) (t : Fin 512) (e : Fin 1024) :
    res_main_v105 V0 (ix3 b t e) = Spec.mlp (fun k => res_main_v87 V0 (ix3 b t k)) (W1 V0 0) (W2 V0 0) e := by
  pointwise [res_main_v105]
  simp only [v100_apply]
  rfl

/-! ## Layer 1 -/

/-- The projection. -/
theorem v118_apply (b : Fin 4) (t : Fin 512) (h : Fin 4096) :
    res_main_v118 V0 (ix3 b t h) = Spec.mv (Spec.rms fun k => res_main_v105 V0 (ix3 b t k)) (Win V0 1) h := by
  pointwise [res_main_v118]
  rfl

/-- Its padded left half. -/
theorem v121_apply (b : Fin 4) (p : Fin 515) (e : Fin 2048) :
    res_main_v121 V0 (ix3 b p e) = padded (fun t => Spec.mv (Spec.rms fun k => res_main_v105 V0 (ix3 b t k)) (Spec.lft (Win V0 1))) p e := by
  pointwise [res_main_v121]
  unfold padded
  by_cases h : 3 ≤ p.val
  · rw [dif_pos ⟨h, by have := p.isLt; omega⟩, dif_pos h, v118_apply]; rfl
  · rw [dif_neg (fun hh => h hh.1), dif_neg h, sitofp_zero]

/-- The convolution. -/
theorem v158_apply (b : Fin 4) (t : Fin 512) (e : Fin 2048) :
    res_main_v158 V0 (ix3 b t e) = Spec.conv (fun t => Spec.mv (Spec.rms fun k => res_main_v105 V0 (ix3 b t k)) (Spec.lft (Win V0 1)))
      (Cw V0 1) t e := by
  pointwise [res_main_v158]
  simp only [v121_apply]
  rw [padded_back _ 3 (by omega) t ⟨t.val, by have := t.isLt; omega⟩ (by simp), padded_back _ 2 (by omega) t ⟨1 + t.val, by have := t.isLt; omega⟩ (by simp; omega),
    padded_back _ 1 (by omega) t ⟨2 + t.val, by have := t.isLt; omega⟩ (by simp; omega), padded_back _ 0 (by omega) t ⟨3 + t.val, by have := t.isLt; omega⟩ (by simp; omega), back_zero]
  rfl

/-- The mixer. -/
theorem v165_apply (b : Fin 4) (t : Fin 512) (e : Fin 1024) :
    res_main_v165 V0 (ix3 b t e) = Spec.mixer (fun s k => res_main_v105 V0 (ix3 b s k)) (Win V0 1) (Cw V0 1) (Wout V0 1) t e := by
  pointwise [res_main_v165, res_main_v120]
  simp only [v158_apply, v118_apply]
  rfl

/-- The hidden row of the MLP. -/
theorem v178_apply (b : Fin 4) (t : Fin 512) (h : Fin 4096) :
    res_main_v178 V0 (ix3 b t h) = Spec.mv (Spec.rms fun k => res_main_v165 V0 (ix3 b t k)) (W1 V0 1) h := by
  pointwise [res_main_v178]
  rfl

/-- The MLP. -/
theorem v183_apply (b : Fin 4) (t : Fin 512) (e : Fin 1024) :
    res_main_v183 V0 (ix3 b t e) = Spec.mlp (fun k => res_main_v165 V0 (ix3 b t k)) (W1 V0 1) (W2 V0 1) e := by
  pointwise [res_main_v183]
  simp only [v178_apply]
  rfl

/-! ## Layer 2 -/

/-- The projection. -/
theorem v196_apply (b : Fin 4) (t : Fin 512) (h : Fin 4096) :
    res_main_v196 V0 (ix3 b t h) = Spec.mv (Spec.rms fun k => res_main_v183 V0 (ix3 b t k)) (Win V0 2) h := by
  pointwise [res_main_v196]
  rfl

/-- Its padded left half. -/
theorem v199_apply (b : Fin 4) (p : Fin 515) (e : Fin 2048) :
    res_main_v199 V0 (ix3 b p e) = padded (fun t => Spec.mv (Spec.rms fun k => res_main_v183 V0 (ix3 b t k)) (Spec.lft (Win V0 2))) p e := by
  pointwise [res_main_v199]
  unfold padded
  by_cases h : 3 ≤ p.val
  · rw [dif_pos ⟨h, by have := p.isLt; omega⟩, dif_pos h, v196_apply]; rfl
  · rw [dif_neg (fun hh => h hh.1), dif_neg h, sitofp_zero]

/-- The convolution. -/
theorem v236_apply (b : Fin 4) (t : Fin 512) (e : Fin 2048) :
    res_main_v236 V0 (ix3 b t e) = Spec.conv (fun t => Spec.mv (Spec.rms fun k => res_main_v183 V0 (ix3 b t k)) (Spec.lft (Win V0 2)))
      (Cw V0 2) t e := by
  pointwise [res_main_v236]
  simp only [v199_apply]
  rw [padded_back _ 3 (by omega) t ⟨t.val, by have := t.isLt; omega⟩ (by simp), padded_back _ 2 (by omega) t ⟨1 + t.val, by have := t.isLt; omega⟩ (by simp; omega),
    padded_back _ 1 (by omega) t ⟨2 + t.val, by have := t.isLt; omega⟩ (by simp; omega), padded_back _ 0 (by omega) t ⟨3 + t.val, by have := t.isLt; omega⟩ (by simp; omega), back_zero]
  rfl

/-- The mixer. -/
theorem v243_apply (b : Fin 4) (t : Fin 512) (e : Fin 1024) :
    res_main_v243 V0 (ix3 b t e) = Spec.mixer (fun s k => res_main_v183 V0 (ix3 b s k)) (Win V0 2) (Cw V0 2) (Wout V0 2) t e := by
  pointwise [res_main_v243, res_main_v198]
  simp only [v236_apply, v196_apply]
  rfl

/-- The hidden row of the MLP. -/
theorem v256_apply (b : Fin 4) (t : Fin 512) (h : Fin 4096) :
    res_main_v256 V0 (ix3 b t h) = Spec.mv (Spec.rms fun k => res_main_v243 V0 (ix3 b t k)) (W1 V0 2) h := by
  pointwise [res_main_v256]
  rfl

/-- The MLP. -/
theorem v261_apply (b : Fin 4) (t : Fin 512) (e : Fin 1024) :
    res_main_v261 V0 (ix3 b t e) = Spec.mlp (fun k => res_main_v243 V0 (ix3 b t k)) (W1 V0 2) (W2 V0 2) e := by
  pointwise [res_main_v261]
  simp only [v256_apply]
  rfl

/-! ## Layer 3 -/

/-- The projection. -/
theorem v274_apply (b : Fin 4) (t : Fin 512) (h : Fin 4096) :
    res_main_v274 V0 (ix3 b t h) = Spec.mv (Spec.rms fun k => res_main_v261 V0 (ix3 b t k)) (Win V0 3) h := by
  pointwise [res_main_v274]
  rfl

/-- Its padded left half. -/
theorem v277_apply (b : Fin 4) (p : Fin 515) (e : Fin 2048) :
    res_main_v277 V0 (ix3 b p e) = padded (fun t => Spec.mv (Spec.rms fun k => res_main_v261 V0 (ix3 b t k)) (Spec.lft (Win V0 3))) p e := by
  pointwise [res_main_v277]
  unfold padded
  by_cases h : 3 ≤ p.val
  · rw [dif_pos ⟨h, by have := p.isLt; omega⟩, dif_pos h, v274_apply]; rfl
  · rw [dif_neg (fun hh => h hh.1), dif_neg h, sitofp_zero]

/-- The convolution. -/
theorem v314_apply (b : Fin 4) (t : Fin 512) (e : Fin 2048) :
    res_main_v314 V0 (ix3 b t e) = Spec.conv (fun t => Spec.mv (Spec.rms fun k => res_main_v261 V0 (ix3 b t k)) (Spec.lft (Win V0 3)))
      (Cw V0 3) t e := by
  pointwise [res_main_v314]
  simp only [v277_apply]
  rw [padded_back _ 3 (by omega) t ⟨t.val, by have := t.isLt; omega⟩ (by simp), padded_back _ 2 (by omega) t ⟨1 + t.val, by have := t.isLt; omega⟩ (by simp; omega),
    padded_back _ 1 (by omega) t ⟨2 + t.val, by have := t.isLt; omega⟩ (by simp; omega), padded_back _ 0 (by omega) t ⟨3 + t.val, by have := t.isLt; omega⟩ (by simp; omega), back_zero]
  rfl

/-- The mixer. -/
theorem v321_apply (b : Fin 4) (t : Fin 512) (e : Fin 1024) :
    res_main_v321 V0 (ix3 b t e) = Spec.mixer (fun s k => res_main_v261 V0 (ix3 b s k)) (Win V0 3) (Cw V0 3) (Wout V0 3) t e := by
  pointwise [res_main_v321, res_main_v276]
  simp only [v314_apply, v274_apply]
  rfl

/-- The hidden row of the MLP. -/
theorem v334_apply (b : Fin 4) (t : Fin 512) (h : Fin 4096) :
    res_main_v334 V0 (ix3 b t h) = Spec.mv (Spec.rms fun k => res_main_v321 V0 (ix3 b t k)) (W1 V0 3) h := by
  pointwise [res_main_v334]
  rfl

/-- The MLP. -/
theorem v339_apply (b : Fin 4) (t : Fin 512) (e : Fin 1024) :
    res_main_v339 V0 (ix3 b t e) = Spec.mlp (fun k => res_main_v321 V0 (ix3 b t k)) (W1 V0 3) (W2 V0 3) e := by
  pointwise [res_main_v339]
  simp only [v334_apply]
  rfl

end Cert.ReferenceIdeal.RefValue

end
-- ==== Proof.Reference.Gathered.lean ====
module

public import proofs.«01_k».proof.Proof.Spec
public import proofs.«01_k».proof.Proof.Gen.ReferenceIdeal.Run
public import Idealize.ShloMosaic.Lib.Pointwise
public import Idealize.ShloMosaic.Lib.SortFacts
public import proofs.«01_k».proof.Proof.Start
public import Idealize.ShloMosaic.Lib.SortNet.Extract

/-! What the reference's layers start from, at the extended reals: the gathered rows of the logits' product with the embedding
table and of the embeddings of the tokens. -/

@[expose] public section

noncomputable section

open Idealize.ShloMosaic Idealize.ShloMosaic.TcCoe Idealize.ShloMosaic.StableHlo

namespace Cert.ReferenceIdeal.RefValue

open Cert.ReferenceIdeal Cert.ReferenceIdeal.Gen Cert.ReferenceIdeal.Value

variable (V0 : Valuation τ sig (Elt Ideal))

/-- The first word of a row sorted by the signed order is a word of the row, and no word of the row is below it. -/
theorem sort_first (x : IVec S4x512 32) (b : Fin 4) :
    (∃ k : Fin 512, Host.sort S4x512 1 comparator_i32_d1 x (ix2 b 0) = x (ix2 b k))
      ∧ ∀ k : Fin 512, (Host.sort S4x512 1 comparator_i32_d1 x (ix2 b 0)).toInt ≤ (x (ix2 b k)).toInt := by
  have hal : ∀ k : Fin 512, (ix2 b (0 : Fin 512) : S4x512.Idx).along (1 : Fin 2) k = ix2 b k := fun k => by
    funext a; match a with | ⟨0, _⟩ => rfl | ⟨1, _⟩ => rfl
  let R : Fin 512 → Fin 512 → Bool := fun k k' => comparator_i32_d1 (x (ix2 b k)) (x (ix2 b k')) == 1#1
  have hs : Host.sort S4x512 1 comparator_i32_d1 x (ix2 b 0) = x (ix2 b (sortedFrom R 0)) := by
    unfold Host.sort
    rw [dif_pos (show 1 < S4x512.rank by decide)]
    have hf : (fun k k' : Fin 512 => comparator_i32_d1 (x ((ix2 b (0 : Fin 512) : S4x512.Idx).along (1 : Fin 2) k)) (x ((ix2 b (0 : Fin 512) : S4x512.Idx).along (1 : Fin 2) k')) == 1#1) = R :=
      funext fun k => funext fun k' => by rw [hal, hal]
    show x ((ix2 b (0 : Fin 512) : S4x512.Idx).along (1 : Fin 2) (sortedFrom (fun k k' : Fin 512 => comparator_i32_d1 (x ((ix2 b (0 : Fin 512) : S4x512.Idx).along (1 : Fin 2) k)) (x ((ix2 b (0 : Fin 512) : S4x512.Idx).along (1 : Fin 2) k')) == 1#1) (0 : Fin 512))) = _
    rw [hf]
    exact congrArg x (hal _)
  have hR : ∀ k k', R k k' = decide ((x (ix2 b k)).toInt < (x (ix2 b k')).toInt) := fun k k' => by
    show (IntOp.cmpi .slt (x (ix2 b k)) (x (ix2 b k')) == 1#1) = _
    unfold IntOp.cmpi
    by_cases h : (x (ix2 b k)).toInt < (x (ix2 b k')).toInt
    · simp [BitVec.slt, h]
    · simp [BitVec.slt, h]
  refine ⟨⟨_, hs⟩, fun k => ?_⟩
  rw [hs]
  obtain ⟨j, rfl⟩ := sortedFrom_surjective R k
  by_cases hj : j = 0
  · rw [hj]
  · have h := sortedFrom_noInversion R R (fun a c h => by rw [hR] at h ⊢; simp at h ⊢; omega) (fun a c h => h)
      (fun a c d h h' => by rw [hR] at h h' ⊢; simp at h h' ⊢; omega) 0 j (Fin.pos_of_ne_zero hj)
    rw [hR] at h
    exact not_lt.mp (of_decide_eq_false h)

/-- Rows of the table taken by the words of an index array. -/
theorem gather_rows (x : FVec Ideal S8192x1024 .f32) (idx : IVec S4x512x1 32) (b : Fin 4) (t : Fin 512) (e : Fin 1024) :
    Host.gather gather_S8192x1024_S4x512x1_S4x512x1024_2_0_n_n_0_2_11024 x idx (ix3 b t e)
      = x (ix2 ⟨min (idx (ix3 b t 0)).toInt.toNat 8191, by omega⟩ e) := by
  unfold Host.gather
  refine congrArg x (funext fun a => Fin.ext ?_)
  show gather_S8192x1024_S4x512x1_S4x512x1024_2_0_n_n_0_2_11024.start (ix3 b t e) idx a
    + gather_S8192x1024_S4x512x1_S4x512x1024_2_0_n_n_0_2_11024.batchCoord (ix3 b t e) a
    + gather_S8192x1024_S4x512x1_S4x512x1024_2_0_n_n_0_2_11024.offCoord (ix3 b t e) a = _
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (by decide)]
    unfold GatherDims.start
    rw [dif_pos (show (0 : Fin 2) ∈ gather_S8192x1024_S4x512x1_S4x512x1024_2_0_n_n_0_2_11024.startIndexMap by decide)]
    have hsi : gather_S8192x1024_S4x512x1_S4x512x1024_2_0_n_n_0_2_11024.siIdx (ix3 b t e) ⟨List.idxOf (0 : Fin 2) [0], by decide⟩ = ix3 b t 0 := by
      funext k; refine Fin.ext ?_
      match k with
      | ⟨0, _⟩ => rfl
      | ⟨1, _⟩ => rfl
      | ⟨2, _⟩ => rfl
    exact congrArg (fun i => min (idx i).toInt.toNat 8191 + 0 + 0) hsi
  · unfold GatherDims.start
    rw [dif_neg (show ¬ (1 : Fin 2) ∈ gather_S8192x1024_S4x512x1_S4x512x1024_2_0_n_n_0_2_11024.startIndexMap by decide)]
    unfold GatherDims.offCoord
    rw [dif_pos (by decide)]
    show 0 + 0 + e.val = e.val
    omega

/-- Rows of each batch taken by the words of an index array. -/
theorem gather_batch (x : FVec Ideal S4x512x1024 .f32) (idx : IVec S4x512x1 32) (b : Fin 4) (t : Fin 512) (e : Fin 1024) :
    Host.gather gather_S4x512x1024_S4x512x1_S4x512x1024_2_1_0_0_1_2_111024 x idx (ix3 b t e)
      = x (ix3 b ⟨min (idx (ix3 b t 0)).toInt.toNat 511, by omega⟩ e) := by
  unfold Host.gather
  refine congrArg x (funext fun a => Fin.ext ?_)
  show gather_S4x512x1024_S4x512x1_S4x512x1024_2_1_0_0_1_2_111024.start (ix3 b t e) idx a
    + gather_S4x512x1024_S4x512x1_S4x512x1024_2_1_0_0_1_2_111024.batchCoord (ix3 b t e) a
    + gather_S4x512x1024_S4x512x1_S4x512x1024_2_1_0_0_1_2_111024.offCoord (ix3 b t e) a = _
  have h01 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (show (0 : Fin 3) ∈ gather_S4x512x1024_S4x512x1_S4x512x1024_2_1_0_0_1_2_111024.operandBatchingDims by decide), GatherDims.offCoord_eq_zero _ _ _ (by decide)]
    unfold GatherDims.batchCoord
    rw [dif_pos (show (0 : Fin 3) ∈ gather_S4x512x1024_S4x512x1_S4x512x1024_2_1_0_0_1_2_111024.operandBatchingDims by decide)]
    show 0 + b.val + 0 = b.val
    omega
  · rw [GatherDims.batchCoord_eq_zero _ _ _ (show ¬ (1 : Fin 3) ∈ gather_S4x512x1024_S4x512x1_S4x512x1024_2_1_0_0_1_2_111024.operandBatchingDims by decide), GatherDims.offCoord_eq_zero _ _ _ (by decide)]
    unfold GatherDims.start
    rw [dif_pos (show (1 : Fin 3) ∈ gather_S4x512x1024_S4x512x1_S4x512x1024_2_1_0_0_1_2_111024.startIndexMap by decide)]
    have hsi : gather_S4x512x1024_S4x512x1_S4x512x1024_2_1_0_0_1_2_111024.siIdx (ix3 b t e) ⟨List.idxOf (1 : Fin 3) [1], by decide⟩ = ix3 b t 0 := by
      funext k; refine Fin.ext ?_
      match k with
      | ⟨0, _⟩ => rfl
      | ⟨1, _⟩ => rfl
      | ⟨2, _⟩ => rfl
    exact congrArg (fun i => min (idx i).toInt.toNat 511 + 0 + 0) hsi
  · rw [GatherDims.batchCoord_eq_zero _ _ _ (show ¬ (2 : Fin 3) ∈ gather_S4x512x1024_S4x512x1_S4x512x1024_2_1_0_0_1_2_111024.operandBatchingDims by decide)]
    unfold GatherDims.start
    rw [dif_neg (show ¬ (2 : Fin 3) ∈ gather_S4x512x1024_S4x512x1_S4x512x1024_2_1_0_0_1_2_111024.startIndexMap by decide)]
    unfold GatherDims.offCoord
    rw [dif_pos (by decide)]
    show 0 + 0 + e.val = e.val
    omega

/-- The conjunction of flags that are all set is set. -/
theorem fold_set {ι : Type} (s : Finset ι) (g : ι → BitVec 1) (h : ∀ i, g i = 1#1) : s.fold IntOp.andi 1#1 g = 1#1 := by
  classical
  induction s using Finset.induction_on with
  | empty => rfl
  | insert a s ha ih => rw [Finset.fold_insert ha, ih, h a]; rfl

/-- The embedding table. -/
def Emb (v : Fin 8192) (e : Fin 1024) : EReal := V0 (Proc.devRef .tc main_arg3) (ix2 v e)

/-- The segment flags and the tokens of a sequence. -/
def seg (b : Fin 4) (t : Fin 512) : BitVec 32 := V0 (Proc.devRef .tc main_arg2) (ix3 b t 0)
@[inherit_doc seg] def tok (b : Fin 4) (t : Fin 512) : BitVec 32 := V0 (Proc.devRef .tc main_arg1) (ix3 b t 0)

theorem clip_small : ∀ n : Fin 1024, IntOp.minsi 511#32 (IntOp.maxsi 0#32 (BitVec.ofNat 32 n.val)) = BitVec.ofNat 32 (min n.val 511) := by
  decide +kernel
theorem wrap_small : ∀ n : Fin 512, Scalar.select (IntOp.cmpi CmpIPredicate.slt (BitVec.ofNat 32 n.val) 0#32)
    (IntOp.addi (BitVec.ofNat 32 n.val) 512#32) (BitVec.ofNat 32 n.val) = BitVec.ofNat 32 n.val := by
  decide +kernel
theorem inside_small : ∀ n : Fin 512, IntOp.andi (IntOp.cmpi CmpIPredicate.sge (BitVec.ofNat 32 n.val) 0#32)
    (IntOp.cmpi CmpIPredicate.sle (BitVec.ofNat 32 n.val) 511#32) = 1#1 := by
  decide +kernel

theorem sel_ne (s : BitVec 32) (k : ℕ) :
    Scalar.select (IntOp.cmpi CmpIPredicate.ne s 0#32) (BitVec.ofNat 32 k) 512#32 = BitVec.ofNat 32 (if s = 0#32 then 512 else k) := by
  show (if IntOp.cmpi CmpIPredicate.ne s 0#32 = 1#1 then _ else _) = _
  unfold IntOp.cmpi
  by_cases h : s = 0#32
  · simp [h]
  · have hb : (s != 0#32) = true := by simpa using h
    simp [hb, h]

/-- The row numbers the gathers take. -/
theorem v22_apply (b : Fin 4) (t : Fin 512) :
    res_main_v22 V0 (ix2 b t) = BitVec.ofNat 32 (Spec.shifted (seg V0 b) t).val := by
  pointwise [res_main_v22]
  have hx : ∀ k : Fin 512, (select (id (cmpi CmpIPredicate.ne (shapeCast S4x512 (V0 (Proc.tc.devRef main_arg2)) shapeCasts_S4x512x1_S4x512)
        (broadcastInDim S4x512 ![] bcast_S_S4x512 (constantI S_ 32 0#32))))
      (broadcastInDim S4x512 ![0, 1] bcast_S1x512_S4x512_0_1 (broadcastInDim S1x512 ![1] bcast_S512_S1x512_1 (iotaInDim S512 32 0)))
      (broadcastInDim S4x512 ![] bcast_S_S4x512 (id (constantI S_ 32 512#32)))) (ix2 b k) = BitVec.ofNat 32 (Spec.mark (seg V0 b) k) := fun k => by
    simp only [id_eq]
    pointwise []
    exact sel_ne _ _
  obtain ⟨⟨k, hk⟩, hm⟩ := sort_first _ b
  rw [Spec.start_of (seg V0 b) _ ⟨k, hk.trans (hx k)⟩ (fun j => (hm j).trans (le_of_eq (congrArg BitVec.toInt (hx j))))]
  have h := clip_small ⟨Spec.start (seg V0 b) + t.val, by have := Spec.start_le (seg V0 b); have := t.isLt; omega⟩
  have ha : IntOp.addi (BitVec.ofNat 32 (Spec.start (seg V0 b))) (BitVec.ofNat 32 t.val) = BitVec.ofNat 32 (Spec.start (seg V0 b) + t.val) :=
    (BitVec.ofNat_add _ _).symm
  rw [ha]
  exact h

theorem call4_apply (i : S4x512x1.Idx) :
    res_main_call4_v4 V0 i = BitVec.ofNat 32 (Spec.shifted (seg V0 (i 0)) (i 1)).val := by
  obtain ⟨b, t, u, rfl⟩ : ∃ (b : Fin 4) (t : Fin 512) (u : Fin 1), i = ix3 b t u := ⟨i 0, i 1, i 2, by
    funext a; match a with | ⟨0, _⟩ => rfl | ⟨1, _⟩ => rfl | ⟨2, _⟩ => rfl⟩
  pointwise [res_main_call4_v4, res_main_v23]
  rw [v22_apply]; exact wrap_small _

theorem call5_apply (i : S4x512x1.Idx) :
    res_main_call5_v4 V0 i = BitVec.ofNat 32 (Spec.shifted (seg V0 (i 0)) (i 1)).val := by
  obtain ⟨b, t, u, rfl⟩ : ∃ (b : Fin 4) (t : Fin 512) (u : Fin 1), i = ix3 b t u := ⟨i 0, i 1, i 2, by
    funext a; match a with | ⟨0, _⟩ => rfl | ⟨1, _⟩ => rfl | ⟨2, _⟩ => rfl⟩
  pointwise [res_main_call5_v4, res_main_v25]
  rw [v22_apply]; exact wrap_small _

theorem wrap_word (w : BitVec 32) (h : w.toNat < 8192) : Scalar.select (IntOp.cmpi CmpIPredicate.slt w 0#32) (IntOp.addi w 8192#32) w = w := by
  have h0 : w.toInt = w.toNat := by rw [BitVec.toInt_eq_toNat_cond, if_pos (by omega)]
  have q : w.slt 0#32 = false := by
    unfold BitVec.slt; exact decide_eq_false (by rw [h0]; simp)
  show (if IntOp.cmpi CmpIPredicate.slt w 0#32 = 1#1 then _ else _) = _
  unfold IntOp.cmpi
  simp [q]

theorem inside_word (w : BitVec 32) (h : w.toNat < 8192) : IntOp.andi (IntOp.cmpi CmpIPredicate.sge w 0#32) (IntOp.cmpi CmpIPredicate.sle w 8191#32) = 1#1 := by
  have h0 : w.toInt = w.toNat := by rw [BitVec.toInt_eq_toNat_cond, if_pos (by omega)]
  have h1 : (8191#32 : BitVec 32).toInt = 8191 := by decide
  have p : (0#32 : BitVec 32).sle w = true := by
    unfold BitVec.sle; exact decide_eq_true (by rw [h0]; simp)
  have q : w.sle 8191#32 = true := by
    unfold BitVec.sle; exact decide_eq_true (by rw [h0, h1]; omega)
  unfold IntOp.cmpi
  simp [p, q, IntOp.andi]

theorem call0_apply (hid : ∀ b t, (tok V0 b t).toNat < 8192) (i : S4x512x1.Idx) :
    res_main_call0_v5 V0 i = tok V0 (i 0) (i 1) := by
  obtain ⟨b, t, u, rfl⟩ : ∃ (b : Fin 4) (t : Fin 512) (u : Fin 1), i = ix3 b t u := ⟨i 0, i 1, i 2, by
    funext a; match a with | ⟨0, _⟩ => rfl | ⟨1, _⟩ => rfl | ⟨2, _⟩ => rfl⟩
  pointwise [res_main_call0_v5, res_main_v0]
  exact wrap_word _ (hid b t)

/-- The logits. -/
def Dec (b : Fin 4) (t : Fin 512) (v : Fin 8192) : EReal := V0 (Proc.devRef .tc main_arg0) (ix3 b t v)

theorem mask4 (i : S4x512x1.Idx) : IntOp.andi (IntOp.cmpi CmpIPredicate.sge (res_main_call4_v4 V0 i) 0#32) (IntOp.cmpi CmpIPredicate.sle (res_main_call4_v4 V0 i) 511#32) = 1#1 := by
  rw [call4_apply]; exact inside_small _
theorem mask5 (i : S4x512x1.Idx) : IntOp.andi (IntOp.cmpi CmpIPredicate.sge (res_main_call5_v4 V0 i) 0#32) (IntOp.cmpi CmpIPredicate.sle (res_main_call5_v4 V0 i) 511#32) = 1#1 := by
  rw [call5_apply]; exact inside_small _
theorem mask0 (hid : ∀ b t, (tok V0 b t).toNat < 8192) (i : S4x512x1.Idx) : IntOp.andi (IntOp.cmpi CmpIPredicate.sge (res_main_call0_v5 V0 i) 0#32) (IntOp.cmpi CmpIPredicate.sle (res_main_call0_v5 V0 i) 8191#32) = 1#1 := by
  rw [call0_apply V0 hid]; exact inside_word _ (hid _ _)

/-- A sum of two choices whose flags are set. -/
theorem chosen (m n : BitVec 1) (hm : m = 1#1) (hn : n = 1#1) (A A' B B' R : EReal) (h : A + B = R) :
    Scalar.select m A A' + Scalar.select n B B' = R := by
  subst hm; subst hn; exact h

/-- The embeddings of the tokens, before the rows are taken. -/
def taken : FVec Ideal S4x512x1024 .f32 :=
  select (broadcastInDim S4x512x1024 ![0, 1] bcast_S4x512_S4x512x1024_0_1 (Host.reduce IntOp.andi (andi (cmpi .sge (res_main_call0_v5 V0) (broadcastInDim S4x512x1 ![] bcast_S_S4x512x1 (constantI S_ 32 0#32))) (cmpi .sle (res_main_call0_v5 V0) (broadcastInDim S4x512x1 ![0, 1, 2] bcast_S1x1x1_S4x512x1_0_1_2 (broadcastInDim S1x1x1 ![2] bcast_S1_S1x1x1_2 (constantI S1 32 8191#32))))) (constantI S_ 1 1#1) reducesTo_S4x512x1_S4x512_d2 h_S_)) (Host.gather gather_S8192x1024_S4x512x1_S4x512x1024_2_0_n_n_0_2_11024 (V0 (Proc.devRef .tc main_arg3)) (res_main_call0_v5 V0)) (broadcastInDim S4x512x1024 ![] bcast_S_S4x512x1024 (constant S_ .f32 0x7FC00000#32))

theorem chosen1 (m : BitVec 1) (hm : m = 1#1) (A A' R : EReal) (h : A = R) :
    Scalar.select m A A' = R := by
  subst hm; exact h

theorem taken_apply (hid : ∀ b t, (tok V0 b t).toNat < 8192) (b : Fin 4) (t : Fin 512) (e : Fin 1024) :
    taken V0 (ix3 b t e) = Emb V0 ⟨(tok V0 b t).toNat, hid b t⟩ e := by
  pointwise [taken]
  refine chosen1 _ (fold_set _ _ (mask0 V0 hid)) _ _ _ ?_
  rw [gather_rows]
  unfold Emb
  have h := hid b t
  refine congrArg (V0 (Proc.devRef .tc main_arg3)) (congrArg (fun k => (ix2 k e : S8192x1024.Idx)) (Fin.ext ?_))
  show min (res_main_call0_v5 V0 (ix3 b t 0)).toInt.toNat 8191 = (tok V0 b t).toNat
  have h0 : res_main_call0_v5 V0 (ix3 b t 0) = tok V0 b t := call0_apply V0 hid _
  rw [h0]
  rw [BitVec.toInt_eq_toNat_cond, if_pos (by omega)]
  omega

/-- The product of the logits with the table, before the rows are taken. -/
def proj : FVec Ideal S4x512x1024 .f32 :=
  Host.dotGeneral (φ₁ := .f32) (φ₂ := .f32) dot_S4x512x8192_S8192x1024_S4x512x1024_2_0_01_1_n_n none (V0 (Proc.devRef .tc main_arg0)) (V0 (Proc.devRef .tc main_arg3))

theorem proj_apply (b : Fin 4) (t : Fin 512) (e : Fin 1024) :
    proj V0 (ix3 b t e) = ∑ v, Dec V0 b t v * Emb V0 v e := by
  pointwise [proj]
  rfl

/-- A small index word, clamped, is itself. -/
theorem clamp_small (s : Fin 512) (h : min (BitVec.ofNat 32 s.val).toInt.toNat 511 < 512) : (⟨min (BitVec.ofNat 32 s.val).toInt.toNat 511, h⟩ : Fin 512) = s := by
  have := s.isLt
  apply Fin.ext
  show min (BitVec.ofNat 32 s.val).toInt.toNat 511 = s.val
  rw [Spec.toInt_small _ (by omega)]; omega

/-- Rows taken within a batch at a small index word. -/
theorem gather_at (x : FVec Ideal S4x512x1024 .f32) (idx : IVec S4x512x1 32) (b : Fin 4) (t : Fin 512) (e : Fin 1024) (s : Fin 512)
    (h : idx (ix3 b t 0) = BitVec.ofNat 32 s.val) :
    Host.gather gather_S4x512x1024_S4x512x1_S4x512x1024_2_1_0_0_1_2_111024 x idx (ix3 b t e) = x (ix3 b s e) := by
  have hs := s.isLt
  rw [gather_batch]
  refine congrArg x (congrArg (fun k => (ix3 b k e : S4x512x1024.Idx)) (Fin.ext ?_))
  show min (idx (ix3 b t 0)).toInt.toNat 511 = s.val
  rw [h, Spec.toInt_small _ (by omega)]; omega

/-- The two rows taken, and the choices that keep them. -/
theorem v27_eq : res_main_v27 V0 = addf (select (broadcastInDim S4x512x1024 ![0, 1] bcast_S4x512_S4x512x1024_0_1 (Host.reduce IntOp.andi (andi (cmpi .sge (res_main_call4_v4 V0) (broadcastInDim S4x512x1 ![] bcast_S_S4x512x1 (constantI S_ 32 0#32))) (cmpi .sle (res_main_call4_v4 V0) (broadcastInDim S4x512x1 ![0, 1, 2] bcast_S1x1x1_S4x512x1_0_1_2 (broadcastInDim S1x1x1 ![2] bcast_S1_S1x1x1_2 (constantI S1 32 511#32))))) (constantI S_ 1 1#1) reducesTo_S4x512x1_S4x512_d2 h_S_)) (Host.gather gather_S4x512x1024_S4x512x1_S4x512x1024_2_1_0_0_1_2_111024 (proj V0) (res_main_call4_v4 V0)) (broadcastInDim S4x512x1024 ![] bcast_S_S4x512x1024 (constant S_ .f32 0x7FC00000#32)))
      (select (broadcastInDim S4x512x1024 ![0, 1] bcast_S4x512_S4x512x1024_0_1 (Host.reduce IntOp.andi (andi (cmpi .sge (res_main_call5_v4 V0) (broadcastInDim S4x512x1 ![] bcast_S_S4x512x1 (constantI S_ 32 0#32))) (cmpi .sle (res_main_call5_v4 V0) (broadcastInDim S4x512x1 ![0, 1, 2] bcast_S1x1x1_S4x512x1_0_1_2 (broadcastInDim S1x1x1 ![2] bcast_S1_S1x1x1_2 (constantI S1 32 511#32))))) (constantI S_ 1 1#1) reducesTo_S4x512x1_S4x512_d2 h_S_)) (Host.gather gather_S4x512x1024_S4x512x1_S4x512x1024_2_1_0_0_1_2_111024 (taken V0) (res_main_call5_v4 V0)) (broadcastInDim S4x512x1024 ![] bcast_S_S4x512x1024 (constant S_ .f32 0x7FC00000#32))) := rfl

theorem v27_sum (p q : FVec Ideal S4x512x1024 .f32) (b : Fin 4) (t : Fin 512) (e : Fin 1024) :
    addf (select (broadcastInDim S4x512x1024 ![0, 1] bcast_S4x512_S4x512x1024_0_1 (Host.reduce IntOp.andi (andi (cmpi .sge (res_main_call4_v4 V0) (broadcastInDim S4x512x1 ![] bcast_S_S4x512x1 (constantI S_ 32 0#32))) (cmpi .sle (res_main_call4_v4 V0) (broadcastInDim S4x512x1 ![0, 1, 2] bcast_S1x1x1_S4x512x1_0_1_2 (broadcastInDim S1x1x1 ![2] bcast_S1_S1x1x1_2 (constantI S1 32 511#32))))) (constantI S_ 1 1#1) reducesTo_S4x512x1_S4x512_d2 h_S_)) p (broadcastInDim S4x512x1024 ![] bcast_S_S4x512x1024 (constant S_ .f32 0x7FC00000#32))) (select (broadcastInDim S4x512x1024 ![0, 1] bcast_S4x512_S4x512x1024_0_1 (Host.reduce IntOp.andi (andi (cmpi .sge (res_main_call5_v4 V0) (broadcastInDim S4x512x1 ![] bcast_S_S4x512x1 (constantI S_ 32 0#32))) (cmpi .sle (res_main_call5_v4 V0) (broadcastInDim S4x512x1 ![0, 1, 2] bcast_S1x1x1_S4x512x1_0_1_2 (broadcastInDim S1x1x1 ![2] bcast_S1_S1x1x1_2 (constantI S1 32 511#32))))) (constantI S_ 1 1#1) reducesTo_S4x512x1_S4x512_d2 h_S_)) q (broadcastInDim S4x512x1024 ![] bcast_S_S4x512x1024 (constant S_ .f32 0x7FC00000#32))) (ix3 b t e) = p (ix3 b t e) + q (ix3 b t e) := by
  pointwise []
  exact chosen _ _ (fold_set _ _ (mask4 V0)) (fold_set _ _ (mask5 V0)) _ _ _ _ _ rfl

/-- The rows the layers start from: the logits with one added at the token, times the embedding table, at the shifted row. -/
theorem v27_apply (hid : ∀ b t, (tok V0 b t).toNat < 8192) (hE : ∀ v e, Emb V0 v e ≠ ⊥ ∧ Emb V0 v e ≠ ⊤)
    (b : Fin 4) (t : Fin 512) (e : Fin 1024) :
    res_main_v27 V0 (ix3 b t e)
      = Spec.embed (Dec V0 b (Spec.shifted (seg V0 b) t)) (tok V0 b (Spec.shifted (seg V0 b) t)) (Emb V0) e := by
  rw [Spec.embed_eq _ _ (hid b _) _ hE, ← proj_apply, ← taken_apply V0 hid, v27_eq, v27_sum]
  exact congrArg₂ (fun a b : EReal => a + b) (gather_at _ _ b t e _ (call4_apply V0 _)) (gather_at _ _ b t e _ (call5_apply V0 _))

end Cert.ReferenceIdeal.RefValue

end
-- ==== Proof.KernelIdeal.ValChain.lean ====
module

public import proofs.«01_k».proof.Proof.KernelIdeal.ValHost
public import proofs.«01_k».proof.Proof.KernelIdeal.Launch
public import proofs.«01_k».proof.Proof.KernelIdeal.ValEmb
public import proofs.«01_k».proof.Proof.KernelIdeal.ValFirst
public import proofs.«01_k».proof.Proof.KernelIdeal.ValMix2
public import proofs.«01_k».proof.Proof.KernelIdeal.ValMix4
public import proofs.«01_k».proof.Proof.KernelIdeal.ValMix6
public import proofs.«01_k».proof.Proof.KernelIdeal.ValMix8
public import proofs.«01_k».proof.Proof.KernelIdeal.ValMlp
public import proofs.«01_k».proof.Proof.KernelIdeal.ValHead
public import proofs.«01_k».proof.Proof.Reference.Layers
public import proofs.«01_k».proof.Proof.Reference.Gathered

/-! The launch, region by region, beside the reference: what each region leaves is the reference's value at that place. -/

@[expose] public section

set_option maxRecDepth 16384

noncomputable section

namespace Cert.KernelIdeal.Val

open Cert.KernelIdeal Cert.KernelIdeal.Gen Cert.KernelIdeal.Own Cert.KernelIdeal.Chain Cert.KernelIdeal.Launch
open Idealize.ShloMosaic Idealize.ShloMosaic.TcCoe Idealize.SL Idealize.SL.RA Idealize.SL.Sem
open Cert.ReferenceIdeal.RefValue (Win Cw Wout Emb seg tok Dec)
open Cert.ReferenceIdeal.Value (res_main_v27 res_main_v87 res_main_v105 res_main_v165 res_main_v183 res_main_v243 res_main_v261 res_main_v321 res_main_v339)

variable (m : (ℓ : Loc nD τ sig) → Buf (Elt Ideal) ℓ) (c : Dev nD)

/-- The arguments. -/
abbrev args : List (Ref sig .tc) := [main_arg0, main_arg1, main_arg2, main_arg3, main_arg4, main_arg5, main_arg6, main_arg7, main_arg8, main_arg9, main_arg10, main_arg11, main_arg12]

/-- No step writes an argument. -/ theorem arg1 (r : Ref sig .tc) (hr : r ∈ args) : W1 m c (Proc.devRef .tc r) = m ((c : Thread nD τ).loc r) :=
  (StableHlo.after_of_writes_sub hostOps0 _ hostOps0_writes (r := r) ((by decide : ∀ r ∈ args, r ∉ hostOps0_W) r hr)).trans rfl

@[inherit_doc arg1] theorem arg2 (r : Ref sig .tc) (hr : r ∈ args) : W2 m c (Proc.devRef .tc r) = m ((c : Thread nD τ).loc r) :=
  (Function.update_of_ne (StableHlo.devRef_ne_of_ne ((by decide : ∀ r ∈ args, r ≠ main_v3) r hr)) _ _).trans (arg1 m c r hr)

@[inherit_doc arg1] theorem arg3 (r : Ref sig .tc) (hr : r ∈ args) : W3 m c (Proc.devRef .tc r) = m ((c : Thread nD τ).loc r) :=
  (W3_of m c r ((by decide : ∀ r ∈ args, r ≠ main_v4) r hr)).trans (arg2 m c r hr)

@[inherit_doc arg1] theorem arg4 (r : Ref sig .tc) (hr : r ∈ args) : W4 m c (Proc.devRef .tc r) = m ((c : Thread nD τ).loc r) :=
  (StableHlo.after_of_writes_sub hostOps2 _ hostOps2_writes (r := r) ((by decide : ∀ r ∈ args, r ∉ hostOps2_W) r hr)).trans (arg3 m c r hr)

@[inherit_doc arg1] theorem arg5 (r : Ref sig .tc) (hr : r ∈ args) : W5 m c (Proc.devRef .tc r) = m ((c : Thread nD τ).loc r) :=
  (W5_of m c r ((by decide : ∀ r ∈ args, r ≠ main_v12) r hr)).trans (arg4 m c r hr)

@[inherit_doc arg1] theorem arg6 (r : Ref sig .tc) (hr : r ∈ args) : W6 m c (Proc.devRef .tc r) = m ((c : Thread nD τ).loc r) :=
  (StableHlo.after_of_writes_sub hostOps3 _ hostOps3_writes (r := r) ((by decide : ∀ r ∈ args, r ∉ hostOps3_W) r hr)).trans (arg5 m c r hr)

@[inherit_doc arg1] theorem arg7 (r : Ref sig .tc) (hr : r ∈ args) : W7 m c (Proc.devRef .tc r) = m ((c : Thread nD τ).loc r) :=
  (W7_of m c r ((by decide : ∀ r ∈ args, r ≠ main_v18) r hr)).trans (arg6 m c r hr)

@[inherit_doc arg1] theorem arg8 (r : Ref sig .tc) (hr : r ∈ args) : W8 m c (Proc.devRef .tc r) = m ((c : Thread nD τ).loc r) :=
  (StableHlo.after_of_writes_sub hostOps4 _ hostOps4_writes (r := r) ((by decide : ∀ r ∈ args, r ∉ hostOps4_W) r hr)).trans (arg7 m c r hr)

@[inherit_doc arg1] theorem arg9 (r : Ref sig .tc) (hr : r ∈ args) : W9 m c (Proc.devRef .tc r) = m ((c : Thread nD τ).loc r) :=
  (W9_of m c r ((by decide : ∀ r ∈ args, r ≠ main_v26) r hr)).trans (arg8 m c r hr)

@[inherit_doc arg1] theorem arg10 (r : Ref sig .tc) (hr : r ∈ args) : W10 m c (Proc.devRef .tc r) = m ((c : Thread nD τ).loc r) :=
  (StableHlo.after_of_writes_sub hostOps5 _ hostOps5_writes (r := r) ((by decide : ∀ r ∈ args, r ∉ hostOps5_W) r hr)).trans (arg9 m c r hr)

@[inherit_doc arg1] theorem arg11 (r : Ref sig .tc) (hr : r ∈ args) : W11 m c (Proc.devRef .tc r) = m ((c : Thread nD τ).loc r) :=
  (W11_of m c r ((by decide : ∀ r ∈ args, r ≠ main_v32) r hr)).trans (arg10 m c r hr)

@[inherit_doc arg1] theorem arg12 (r : Ref sig .tc) (hr : r ∈ args) : W12 m c (Proc.devRef .tc r) = m ((c : Thread nD τ).loc r) :=
  (StableHlo.after_of_writes_sub hostOps6 _ hostOps6_writes (r := r) ((by decide : ∀ r ∈ args, r ∉ hostOps6_W) r hr)).trans (arg11 m c r hr)

@[inherit_doc arg1] theorem arg13 (r : Ref sig .tc) (hr : r ∈ args) : W13 m c (Proc.devRef .tc r) = m ((c : Thread nD τ).loc r) :=
  (W13_of m c r ((by decide : ∀ r ∈ args, r ≠ main_v40) r hr)).trans (arg12 m c r hr)

@[inherit_doc arg1] theorem arg14 (r : Ref sig .tc) (hr : r ∈ args) : W14 m c (Proc.devRef .tc r) = m ((c : Thread nD τ).loc r) :=
  (StableHlo.after_of_writes_sub hostOps7 _ hostOps7_writes (r := r) ((by decide : ∀ r ∈ args, r ∉ hostOps7_W) r hr)).trans (arg13 m c r hr)

@[inherit_doc arg1] theorem arg15 (r : Ref sig .tc) (hr : r ∈ args) : W15 m c (Proc.devRef .tc r) = m ((c : Thread nD τ).loc r) :=
  (W15_of m c r ((by decide : ∀ r ∈ args, r ≠ main_v46) r hr)).trans (arg14 m c r hr)

@[inherit_doc arg1] theorem arg16 (r : Ref sig .tc) (hr : r ∈ args) : W16 m c (Proc.devRef .tc r) = m ((c : Thread nD τ).loc r) :=
  (StableHlo.after_of_writes_sub hostOps8 _ hostOps8_writes (r := r) ((by decide : ∀ r ∈ args, r ∉ hostOps8_W) r hr)).trans (arg15 m c r hr)

@[inherit_doc arg1] theorem arg17 (r : Ref sig .tc) (hr : r ∈ args) : W17 m c (Proc.devRef .tc r) = m ((c : Thread nD τ).loc r) :=
  (W17_of m c r ((by decide : ∀ r ∈ args, r ≠ main_v54) r hr)).trans (arg16 m c r hr)

@[inherit_doc arg1] theorem arg18 (r : Ref sig .tc) (hr : r ∈ args) : W18 m c (Proc.devRef .tc r) = m ((c : Thread nD τ).loc r) :=
  (StableHlo.after_of_writes_sub hostOps9 _ hostOps9_writes (r := r) ((by decide : ∀ r ∈ args, r ∉ hostOps9_W) r hr)).trans (arg17 m c r hr)

@[inherit_doc arg1] theorem arg19 (r : Ref sig .tc) (hr : r ∈ args) : W19 m c (Proc.devRef .tc r) = m ((c : Thread nD τ).loc r) :=
  (W19_of m c r ((by decide : ∀ r ∈ args, r ≠ main_v60) r hr)).trans (arg18 m c r hr)

@[inherit_doc arg1] theorem arg20 (r : Ref sig .tc) (hr : r ∈ args) : W20 m c (Proc.devRef .tc r) = m ((c : Thread nD τ).loc r) :=
  (StableHlo.after_of_writes_sub hostOps10 _ hostOps10_writes (r := r) ((by decide : ∀ r ∈ args, r ∉ hostOps10_W) r hr)).trans (arg19 m c r hr)

variable (U : Valuation Cert.ReferenceIdeal.τ Cert.ReferenceIdeal.sig (Elt Ideal))

/-- The arguments of the kernel are the reference's. -/
structure Agree : Prop where
  dec : ∀ b t v, (m ((c : Thread nD τ).loc main_arg0) : Vec Ideal S4x512x8192 .f32) (ix3 b t v) = Dec U b t v
  tok : ∀ b t, (m ((c : Thread nD τ).loc main_arg1) : Vec Ideal S4x512x1 .i32) (ix3 b t 0) = tok U b t
  seg : ∀ b t, (m ((c : Thread nD τ).loc main_arg2) : Vec Ideal S4x512x1 .i32) (ix3 b t 0) = seg U b t
  emb : ∀ v e, (m ((c : Thread nD τ).loc main_arg3) : Vec Ideal S8192x1024 .f32) (ix2 v e) = Emb U v e
  win : ∀ l k h, (m ((c : Thread nD τ).loc main_arg4) : Vec Ideal S4x1024x4096 .f32) (ix3 l k h) = Win U l k h
  cw : ∀ l k h, (m ((c : Thread nD τ).loc main_arg5) : Vec Ideal S4x2048x4 .f32) (ix3 l k h) = Cw U l k h
  wout : ∀ l k h, (m ((c : Thread nD τ).loc main_arg6) : Vec Ideal S4x2048x1024 .f32) (ix3 l k h) = Wout U l k h
  w1 : ∀ l k h, (m ((c : Thread nD τ).loc main_arg7) : Vec Ideal S4x1024x4096 .f32) (ix3 l k h) = Cert.ReferenceIdeal.RefValue.W1 U l k h
  w2 : ∀ l k h, (m ((c : Thread nD τ).loc main_arg8) : Vec Ideal S4x4096x1024 .f32) (ix3 l k h) = Cert.ReferenceIdeal.RefValue.W2 U l k h

/-- The start row of each batch. -/
def starts (b : Fin 4) : Fin 512 := ⟨Spec.start (seg U b), Nat.lt_succ_of_le (Spec.start_le _)⟩

variable {m c U} (A : Agree m c U)
include A

/-- The rows the first region leaves. -/
theorem emb_row (b : Fin 4) (t : Fin 512) (e : Fin 1024) :
    out0 m c (ix2 (row b t) e) = Spec.embed (Dec U b t) (tok U b t) (Emb U) e := by
  have h0 : (fun v => at1 m c main_v2 (ix2 (row b t) v)) = Dec U b t := funext fun v =>
    (read0_dec (V0 m c) b t v).trans (A.dec b t v)
  have h1 : at1 m c main_v0 (ix2 (row b t) 0) = tok U b t := (read0_id (V0 m c) b t).trans (A.tok b t)
  have h2 : (fun v e => at1 m c main_arg3 (ix2 v e)) = Emb U := funext fun v => funext fun e =>
    (congrFun (arg1 m c main_arg3 (by decide)) (ix2 v e)).trans (A.emb v e)
  unfold out0
  rw [final0]
  show Spec.embed (fun v => at1 m c main_v2 (ix2 (row b t) v)) (at1 m c main_v0 (ix2 (row b t) 0)) (fun v e => at1 m c main_arg3 (ix2 v e)) e = _
  rw [h0, h1, h2]

/-- The start words. -/
theorem start_word (b : Fin 4) : at4 m c main_v4 (ix2 b 0) = BitVec.ofNat 32 (Spec.start (seg U b)) := by
  have h : at4 m c main_v4 = out1 m c :=
    (StableHlo.after_of_writes_sub hostOps2 _ hostOps2_writes (r := main_v4) (by decide)).trans (W3_at0 m c)
  have hs : (fun t => at2 m c main_v1 (ix2 b t)) = seg U b := funext fun t =>
    (congrFun (Function.update_of_ne (StableHlo.devRef_ne_of_ne (by decide)) _ _) (ix2 b t)).trans
      ((read0_seg (V0 m c) b t).trans (A.seg b t))
  rw [h]
  unfold out1
  rw [First.final]
  refine (first_apply _ b 0).trans ?_
  show BitVec.ofNat 32 (Spec.start fun t => at2 m c main_v1 (ix2 b t)) = _
  rw [hs]

/-- The first mixer's rows. -/
theorem at4_x (b : Fin 4) (t : Fin 512) (e : Fin 1024) :
    at4 m c main_v5 (ix3 b t e) = Spec.embed (Dec U b t) (tok U b t) (Emb U) e := by
  refine (read2_x (W3 m c) b t e).trans ?_
  refine (congrFun ((W3_of m c main_v3 (by decide)).trans (W2_at0 m c)) (ix2 (row b t) e)).trans ?_
  exact emb_row A b t e

/-- The weights as region 2 finds them. -/
theorem at4_a : (fun p q => at4 m c main_v7 (ix2 p q)) = Win U 0 := funext fun p => funext fun q =>
  (read2_a (W3 m c) p q).trans ((congrFun (arg3 m c main_arg4 (by decide)) (ix3 0 p q)).trans (A.win 0 p q))

/-- The weights as region 2 finds them. -/
theorem at4_c : (fun p q => at4 m c main_v9 (ix2 p q)) = Cw U 0 := funext fun p => funext fun q =>
  (read2_c (W3 m c) p q).trans ((congrFun (arg3 m c main_arg5 (by decide)) (ix3 0 p q)).trans (A.cw 0 p q))

/-- The weights as region 2 finds them. -/
theorem at4_b : (fun p q => at4 m c main_v11 (ix2 p q)) = Wout U 0 := funext fun p => funext fun q =>
  (read2_b (W3 m c) p q).trans ((congrFun (arg3 m c main_arg6 (by decide)) (ix3 0 p q)).trans (A.wout 0 p q))

/-- The weights as region 3 finds them. -/
theorem at6_a : (fun p q => at6 m c main_v15 (ix2 p q)) = Cert.ReferenceIdeal.RefValue.W1 U 0 := funext fun p => funext fun q =>
  (read3_a (W5 m c) p q).trans ((congrFun (arg5 m c main_arg7 (by decide)) (ix3 0 p q)).trans (A.w1 0 p q))

/-- The weights as region 3 finds them. -/
theorem at6_b : (fun p q => at6 m c main_v17 (ix2 p q)) = Cert.ReferenceIdeal.RefValue.W2 U 0 := funext fun p => funext fun q =>
  (read3_b (W5 m c) p q).trans ((congrFun (arg5 m c main_arg8 (by decide)) (ix3 0 p q)).trans (A.w2 0 p q))

/-- The weights as region 4 finds them. -/
theorem at8_a : (fun p q => at8 m c main_v21 (ix2 p q)) = Win U 1 := funext fun p => funext fun q =>
  (read4_a (W7 m c) p q).trans ((congrFun (arg7 m c main_arg4 (by decide)) (ix3 1 p q)).trans (A.win 1 p q))

/-- The weights as region 4 finds them. -/
theorem at8_c : (fun p q => at8 m c main_v23 (ix2 p q)) = Cw U 1 := funext fun p => funext fun q =>
  (read4_c (W7 m c) p q).trans ((congrFun (arg7 m c main_arg5 (by decide)) (ix3 1 p q)).trans (A.cw 1 p q))

/-- The weights as region 4 finds them. -/
theorem at8_b : (fun p q => at8 m c main_v25 (ix2 p q)) = Wout U 1 := funext fun p => funext fun q =>
  (read4_b (W7 m c) p q).trans ((congrFun (arg7 m c main_arg6 (by decide)) (ix3 1 p q)).trans (A.wout 1 p q))

/-- The weights as region 5 finds them. -/
theorem at10_a : (fun p q => at10 m c main_v29 (ix2 p q)) = Cert.ReferenceIdeal.RefValue.W1 U 1 := funext fun p => funext fun q =>
  (read5_a (W9 m c) p q).trans ((congrFun (arg9 m c main_arg7 (by decide)) (ix3 1 p q)).trans (A.w1 1 p q))

/-- The weights as region 5 finds them. -/
theorem at10_b : (fun p q => at10 m c main_v31 (ix2 p q)) = Cert.ReferenceIdeal.RefValue.W2 U 1 := funext fun p => funext fun q =>
  (read5_b (W9 m c) p q).trans ((congrFun (arg9 m c main_arg8 (by decide)) (ix3 1 p q)).trans (A.w2 1 p q))

/-- The weights as region 6 finds them. -/
theorem at12_a : (fun p q => at12 m c main_v35 (ix2 p q)) = Win U 2 := funext fun p => funext fun q =>
  (read6_a (W11 m c) p q).trans ((congrFun (arg11 m c main_arg4 (by decide)) (ix3 2 p q)).trans (A.win 2 p q))

/-- The weights as region 6 finds them. -/
theorem at12_c : (fun p q => at12 m c main_v37 (ix2 p q)) = Cw U 2 := funext fun p => funext fun q =>
  (read6_c (W11 m c) p q).trans ((congrFun (arg11 m c main_arg5 (by decide)) (ix3 2 p q)).trans (A.cw 2 p q))

/-- The weights as region 6 finds them. -/
theorem at12_b : (fun p q => at12 m c main_v39 (ix2 p q)) = Wout U 2 := funext fun p => funext fun q =>
  (read6_b (W11 m c) p q).trans ((congrFun (arg11 m c main_arg6 (by decide)) (ix3 2 p q)).trans (A.wout 2 p q))

/-- The weights as region 7 finds them. -/
theorem at14_a : (fun p q => at14 m c main_v43 (ix2 p q)) = Cert.ReferenceIdeal.RefValue.W1 U 2 := funext fun p => funext fun q =>
  (read7_a (W13 m c) p q).trans ((congrFun (arg13 m c main_arg7 (by decide)) (ix3 2 p q)).trans (A.w1 2 p q))

/-- The weights as region 7 finds them. -/
theorem at14_b : (fun p q => at14 m c main_v45 (ix2 p q)) = Cert.ReferenceIdeal.RefValue.W2 U 2 := funext fun p => funext fun q =>
  (read7_b (W13 m c) p q).trans ((congrFun (arg13 m c main_arg8 (by decide)) (ix3 2 p q)).trans (A.w2 2 p q))

/-- The weights as region 8 finds them. -/
theorem at16_a : (fun p q => at16 m c main_v49 (ix2 p q)) = Win U 3 := funext fun p => funext fun q =>
  (read8_a (W15 m c) p q).trans ((congrFun (arg15 m c main_arg4 (by decide)) (ix3 3 p q)).trans (A.win 3 p q))

/-- The weights as region 8 finds them. -/
theorem at16_c : (fun p q => at16 m c main_v51 (ix2 p q)) = Cw U 3 := funext fun p => funext fun q =>
  (read8_c (W15 m c) p q).trans ((congrFun (arg15 m c main_arg5 (by decide)) (ix3 3 p q)).trans (A.cw 3 p q))

/-- The weights as region 8 finds them. -/
theorem at16_b : (fun p q => at16 m c main_v53 (ix2 p q)) = Wout U 3 := funext fun p => funext fun q =>
  (read8_b (W15 m c) p q).trans ((congrFun (arg15 m c main_arg6 (by decide)) (ix3 3 p q)).trans (A.wout 3 p q))

/-- The weights as region 9 finds them. -/
theorem at18_a : (fun p q => at18 m c main_v57 (ix2 p q)) = Cert.ReferenceIdeal.RefValue.W1 U 3 := funext fun p => funext fun q =>
  (read9_a (W17 m c) p q).trans ((congrFun (arg17 m c main_arg7 (by decide)) (ix3 3 p q)).trans (A.w1 3 p q))

/-- The weights as region 9 finds them. -/
theorem at18_b : (fun p q => at18 m c main_v59 (ix2 p q)) = Cert.ReferenceIdeal.RefValue.W2 U 3 := funext fun p => funext fun q =>
  (read9_b (W17 m c) p q).trans ((congrFun (arg17 m c main_arg8 (by decide)) (ix3 3 p q)).trans (A.w2 3 p q))

variable (hid : ∀ b t, (tok U b t).toNat < 8192) (hE : ∀ v e, Emb U v e ≠ ⊥ ∧ Emb U v e ≠ ⊤)
include hid hE

/-- The first mixer. -/
theorem out2_eq (b : Fin 4) (t : Fin 512) (e : Fin 1024) : out2 m c (ix3 b t e) = res_main_v87 U (ix3 b t e) := by
  have hn : ∀ (c' : Dev nD) (b : Fin 4), at4 m c' (Pipeline.arrRef spec2 0) (ix2 b 0 : S4x1.Idx)
      = BitVec.ofNat 32 (starts U b).val := fun c' b => by
    have hc : c' = c := Subsingleton.elim _ _
    rw [hc]
    exact start_word A b
  have hx : (fun s k => at4 m c main_v5 (ix3 b (later (starts U b) s) k)) = fun s k => res_main_v27 U (ix3 b s k) :=
    funext fun s => funext fun k => (at4_x A b (later (starts U b) s) k).trans
      (Cert.ReferenceIdeal.RefValue.v27_apply U hid hE b s k).symm
  unfold out2
  rw [final2 (at4 m) (first_le m) (fun _ => starts U) hn c]
  show Spec.mixer (fun s k => at4 m c main_v5 (ix3 b (later (starts U b) s) k)) (fun p q => at4 m c main_v7 (ix2 p q))
    (fun p q => at4 m c main_v9 (ix2 p q)) (fun p q => at4 m c main_v11 (ix2 p q)) t e = _
  rw [hx, at4_a A, at4_c A, at4_b A]
  exact (Cert.ReferenceIdeal.RefValue.v87_apply U b t e).symm

/-- The rows region 3 finds. -/
theorem at6_x (b : Fin 4) (t : Fin 512) : (fun e => at6 m c main_v13 (ix2 (row b t) e)) = fun e => res_main_v87 U (ix3 b t e) := funext fun e =>
  (read3_x (W5 m c) b t e).trans ((congrFun (W5_at0 m c) (ix3 b t e)).trans (out2_eq A hid hE b t e))

/-- Region 3, an MLP. -/
theorem out3_eq (b : Fin 4) (t : Fin 512) (e : Fin 1024) : out3 m c (ix2 (row b t) e) = res_main_v105 U (ix3 b t e) := by
  unfold out3
  rw [final3]
  show Spec.mlp (fun k => at6 m c main_v13 (ix2 (row b t) k)) (fun p q => at6 m c main_v15 (ix2 p q))
    (fun p q => at6 m c main_v17 (ix2 p q)) e = _
  rw [at6_x A hid hE b t, at6_a A, at6_b A]
  exact (Cert.ReferenceIdeal.RefValue.v105_apply U b t e).symm

/-- The rows region 4 finds. -/
theorem at8_x (b : Fin 4) : (fun t e => at8 m c main_v19 (ix3 b t e)) = fun t e => res_main_v105 U (ix3 b t e) := funext fun t => funext fun e =>
  (read4_x (W7 m c) b t e).trans ((congrFun (W7_at0 m c) (ix2 (row b t) e)).trans (out3_eq A hid hE b t e))

/-- Region 4, a mixer. -/
theorem out4_eq (b : Fin 4) (t : Fin 512) (e : Fin 1024) : out4 m c (ix3 b t e) = res_main_v165 U (ix3 b t e) := by
  unfold out4
  rw [final4]
  show Spec.mixer (fun s k => at8 m c main_v19 (ix3 b s k)) (fun p q => at8 m c main_v21 (ix2 p q))
    (fun p q => at8 m c main_v23 (ix2 p q)) (fun p q => at8 m c main_v25 (ix2 p q)) t e = _
  rw [at8_x A hid hE b, at8_a A, at8_c A, at8_b A]
  exact (Cert.ReferenceIdeal.RefValue.v165_apply U b t e).symm

/-- The rows region 5 finds. -/
theorem at10_x (b : Fin 4) (t : Fin 512) : (fun e => at10 m c main_v27 (ix2 (row b t) e)) = fun e => res_main_v165 U (ix3 b t e) := funext fun e =>
  (read5_x (W9 m c) b t e).trans ((congrFun (W9_at0 m c) (ix3 b t e)).trans (out4_eq A hid hE b t e))

/-- Region 5, an MLP. -/
theorem out5_eq (b : Fin 4) (t : Fin 512) (e : Fin 1024) : out5 m c (ix2 (row b t) e) = res_main_v183 U (ix3 b t e) := by
  unfold out5
  rw [final5]
  show Spec.mlp (fun k => at10 m c main_v27 (ix2 (row b t) k)) (fun p q => at10 m c main_v29 (ix2 p q))
    (fun p q => at10 m c main_v31 (ix2 p q)) e = _
  rw [at10_x A hid hE b t, at10_a A, at10_b A]
  exact (Cert.ReferenceIdeal.RefValue.v183_apply U b t e).symm

/-- The rows region 6 finds. -/
theorem at12_x (b : Fin 4) : (fun t e => at12 m c main_v33 (ix3 b t e)) = fun t e => res_main_v183 U (ix3 b t e) := funext fun t => funext fun e =>
  (read6_x (W11 m c) b t e).trans ((congrFun (W11_at0 m c) (ix2 (row b t) e)).trans (out5_eq A hid hE b t e))

/-- Region 6, a mixer. -/
theorem out6_eq (b : Fin 4) (t : Fin 512) (e : Fin 1024) : out6 m c (ix3 b t e) = res_main_v243 U (ix3 b t e) := by
  unfold out6
  rw [final6]
  show Spec.mixer (fun s k => at12 m c main_v33 (ix3 b s k)) (fun p q => at12 m c main_v35 (ix2 p q))
    (fun p q => at12 m c main_v37 (ix2 p q)) (fun p q => at12 m c main_v39 (ix2 p q)) t e = _
  rw [at12_x A hid hE b, at12_a A, at12_c A, at12_b A]
  exact (Cert.ReferenceIdeal.RefValue.v243_apply U b t e).symm

/-- The rows region 7 finds. -/
theorem at14_x (b : Fin 4) (t : Fin 512) : (fun e => at14 m c main_v41 (ix2 (row b t) e)) = fun e => res_main_v243 U (ix3 b t e) := funext fun e =>
  (read7_x (W13 m c) b t e).trans ((congrFun (W13_at0 m c) (ix3 b t e)).trans (out6_eq A hid hE b t e))

/-- Region 7, an MLP. -/
theorem out7_eq (b : Fin 4) (t : Fin 512) (e : Fin 1024) : out7 m c (ix2 (row b t) e) = res_main_v261 U (ix3 b t e) := by
  unfold out7
  rw [final7]
  show Spec.mlp (fun k => at14 m c main_v41 (ix2 (row b t) k)) (fun p q => at14 m c main_v43 (ix2 p q))
    (fun p q => at14 m c main_v45 (ix2 p q)) e = _
  rw [at14_x A hid hE b t, at14_a A, at14_b A]
  exact (Cert.ReferenceIdeal.RefValue.v261_apply U b t e).symm

/-- The rows region 8 finds. -/
theorem at16_x (b : Fin 4) : (fun t e => at16 m c main_v47 (ix3 b t e)) = fun t e => res_main_v261 U (ix3 b t e) := funext fun t => funext fun e =>
  (read8_x (W15 m c) b t e).trans ((congrFun (W15_at0 m c) (ix2 (row b t) e)).trans (out7_eq A hid hE b t e))

/-- Region 8, a mixer. -/
theorem out8_eq (b : Fin 4) (t : Fin 512) (e : Fin 1024) : out8 m c (ix3 b t e) = res_main_v321 U (ix3 b t e) := by
  unfold out8
  rw [final8]
  show Spec.mixer (fun s k => at16 m c main_v47 (ix3 b s k)) (fun p q => at16 m c main_v49 (ix2 p q))
    (fun p q => at16 m c main_v51 (ix2 p q)) (fun p q => at16 m c main_v53 (ix2 p q)) t e = _
  rw [at16_x A hid hE b, at16_a A, at16_c A, at16_b A]
  exact (Cert.ReferenceIdeal.RefValue.v321_apply U b t e).symm

/-- The rows region 9 finds. -/
theorem at18_x (b : Fin 4) (t : Fin 512) : (fun e => at18 m c main_v55 (ix2 (row b t) e)) = fun e => res_main_v321 U (ix3 b t e) := funext fun e =>
  (read9_x (W17 m c) b t e).trans ((congrFun (W17_at0 m c) (ix3 b t e)).trans (out8_eq A hid hE b t e))

/-- Region 9, an MLP. -/
theorem out9_eq (b : Fin 4) (t : Fin 512) (e : Fin 1024) : out9 m c (ix2 (row b t) e) = res_main_v339 U (ix3 b t e) := by
  unfold out9
  rw [final9]
  show Spec.mlp (fun k => at18 m c main_v55 (ix2 (row b t) k)) (fun p q => at18 m c main_v57 (ix2 p q))
    (fun p q => at18 m c main_v59 (ix2 p q)) e = _
  rw [at18_x A hid hE b t, at18_a A, at18_b A]
  exact (Cert.ReferenceIdeal.RefValue.v339_apply U b t e).symm

end Cert.KernelIdeal.Val
-- ==== Proof.Reference.Results.lean ====
module

public import proofs.«01_k».proof.Proof.Reference.Layers

/-! The reference's two results, index by index: a head on the last layer's row. -/

@[expose] public section

noncomputable section

open Idealize.ShloMosaic Idealize.ShloMosaic.TcCoe Idealize.ShloMosaic.StableHlo

namespace Cert.ReferenceIdeal.RefValue

open Cert.ReferenceIdeal Cert.ReferenceIdeal.Gen Cert.ReferenceIdeal.Value

variable (U : Valuation τ sig (Elt Ideal))

/-- The reference's means. -/
def mu : FVec Ideal S4x512x1024 .f32 :=
    addf (Host.dotGeneral (φ₁ := .f32) (φ₂ := .f32) dot_S4x512x1024_S1024x1024_S4x512x1024_2_0_01_1_n_n none (res_main_v339 U) (U (Proc.devRef .tc main_arg9)))
      (broadcastInDim S4x512x1024 ![0, 1, 2] bcast_S1x1x1024_S4x512x1024_0_1_2 (broadcastInDim S1x1x1024 ![2] bcast_S1024_S1x1x1024_2 (U (Proc.devRef .tc main_arg10))))

/-- The reference's logarithms of variances. -/
def logvar : FVec Ideal S4x512x1024 .f32 :=
    addf (Host.dotGeneral (φ₁ := .f32) (φ₂ := .f32) dot_S4x512x1024_S1024x1024_S4x512x1024_2_0_01_1_n_n none (res_main_v339 U) (U (Proc.devRef .tc main_arg11)))
      (broadcastInDim S4x512x1024 ![0, 1, 2] bcast_S1x1x1024_S4x512x1024_0_1_2 (broadcastInDim S1x1x1024 ![2] bcast_S1024_S1x1x1024_2 (U (Proc.devRef .tc main_arg12))))

theorem mu_apply (b : Fin 4) (t : Fin 512) (e : Fin 1024) : mu U (ix3 b t e)
    = Spec.head (fun k => res_main_v339 U (ix3 b t k)) (fun k h => U (Proc.devRef .tc main_arg9) (ix2 k h)) (fun h => U (Proc.devRef .tc main_arg10) (ix1 h)) e := by
  pointwise [mu]
  rfl

theorem logvar_apply (b : Fin 4) (t : Fin 512) (e : Fin 1024) : logvar U (ix3 b t e)
    = Spec.head (fun k => res_main_v339 U (ix3 b t k)) (fun k h => U (Proc.devRef .tc main_arg11) (ix2 k h)) (fun h => U (Proc.devRef .tc main_arg12) (ix1 h)) e := by
  pointwise [logvar]
  rfl

end Cert.ReferenceIdeal.RefValue
-- ==== Proof.KernelIdeal.ValResults.lean ====
module

public import proofs.«01_k».proof.Proof.KernelIdeal.ValChain
public import proofs.«01_k».proof.Proof.Reference.Results

/-! The kernel's two results beside the reference's. -/

@[expose] public section

set_option maxRecDepth 16384

noncomputable section

namespace Cert.KernelIdeal.Val

open Cert.KernelIdeal Cert.KernelIdeal.Gen Cert.KernelIdeal.Own Cert.KernelIdeal.Chain Cert.KernelIdeal.Launch
open Idealize.ShloMosaic Idealize.ShloMosaic.TcCoe Idealize.SL Idealize.SL.RA Idealize.SL.Sem
open Cert.ReferenceIdeal.RefValue (Emb tok mu logvar)
open Cert.ReferenceIdeal.Value (res_main_v339)

variable {m : (ℓ : Loc nD τ sig) → Buf (Elt Ideal) ℓ} {c : Dev nD}
variable {U : Valuation Cert.ReferenceIdeal.τ Cert.ReferenceIdeal.sig (Elt Ideal)}
variable (A : Agree m c U) (hid : ∀ b t, (tok U b t).toNat < 8192) (hE : ∀ v e, Emb U v e ≠ ⊥ ∧ Emb U v e ≠ ⊤)

/-- Every index into the results is a batch, a row and a column. -/
theorem idx3 (i : S4x512x1024.Idx) : i = ix3 (i 0) (i 1) (i 2) := funext fun a => Fin.ext <| match a with
  | ⟨0, _⟩ => rfl
  | ⟨1, _⟩ => rfl
  | ⟨2, _⟩ => rfl

include A hid hE in
/-- The rows the heads find. -/
theorem at20_x (b : Fin 4) (t : Fin 512) : (fun e => at20 m c main_v62 (ix2 (row b t) e)) = fun e => res_main_v339 U (ix3 b t e) :=
  funext fun e => (read10_x (W19 m c) (row b t) e).trans
    ((congrFun (W19_at0 m c) (ix2 (row b t) e)).trans (out9_eq A hid hE b t e))

include A hid hE in
/-- A result of the kernel. -/
theorem mu_eq
    (hw : ∀ k h, (m ((c : Thread nD τ).loc main_arg9) : Vec Ideal S1024x1024 .f32) (ix2 k h) = U (Proc.devRef .tc Cert.ReferenceIdeal.main_arg9) (ix2 k h))
    (hb : ∀ h, (m ((c : Thread nD τ).loc main_arg10) : Vec Ideal S1024 .f32) (ix1 h) = U (Proc.devRef .tc Cert.ReferenceIdeal.main_arg10) (ix1 h)) :
    W22 m c (Proc.devRef .tc main_v66) = mu U := by
  funext i
  rw [idx3 i]
  generalize i 0 = b
  generalize i 1 = t
  generalize i 2 = e
  have h1 : (fun k h => at20 m c main_arg9 (ix2 k h)) = fun k h => U (Proc.devRef .tc Cert.ReferenceIdeal.main_arg9) (ix2 k h) :=
    funext fun k => funext fun h => (congrFun (arg20 m c main_arg9 (by decide)) (ix2 k h)).trans (hw k h)
  have h2 : (fun h => at20 m c main_v63 (ix2 0 h)) = fun h => U (Proc.devRef .tc Cert.ReferenceIdeal.main_arg10) (ix1 h) :=
    funext fun h => (read10_p (W19 m c) h).trans ((congrFun (arg19 m c main_arg10 (by decide)) (ix1 h)).trans (hb h))
  refine (read11_p (W21 m c) b t e).trans ?_
  refine (congrFun (W21_at0 m c) (ix2 (row b t) e)).trans ?_
  unfold out10_0
  rw [final10_5]
  show Spec.head (fun k => at20 m c main_v62 (ix2 (row b t) k)) (fun k h => at20 m c main_arg9 (ix2 k h))
    (fun h => at20 m c main_v63 (ix2 0 h)) e = _
  rw [at20_x A hid hE b t, h1, h2]
  exact (Cert.ReferenceIdeal.RefValue.mu_apply U b t e).symm

include A hid hE in
/-- A result of the kernel. -/
theorem logvar_eq
    (hw : ∀ k h, (m ((c : Thread nD τ).loc main_arg11) : Vec Ideal S1024x1024 .f32) (ix2 k h) = U (Proc.devRef .tc Cert.ReferenceIdeal.main_arg11) (ix2 k h))
    (hb : ∀ h, (m ((c : Thread nD τ).loc main_arg12) : Vec Ideal S1024 .f32) (ix1 h) = U (Proc.devRef .tc Cert.ReferenceIdeal.main_arg12) (ix1 h)) :
    W22 m c (Proc.devRef .tc main_v67) = logvar U := by
  funext i
  rw [idx3 i]
  generalize i 0 = b
  generalize i 1 = t
  generalize i 2 = e
  have h1 : (fun k h => at20 m c main_arg11 (ix2 k h)) = fun k h => U (Proc.devRef .tc Cert.ReferenceIdeal.main_arg11) (ix2 k h) :=
    funext fun k => funext fun h => (congrFun (arg20 m c main_arg11 (by decide)) (ix2 k h)).trans (hw k h)
  have h2 : (fun h => at20 m c main_v64 (ix2 0 h)) = fun h => U (Proc.devRef .tc Cert.ReferenceIdeal.main_arg12) (ix1 h) :=
    funext fun h => (read10_q (W19 m c) h).trans ((congrFun (arg19 m c main_arg12 (by decide)) (ix1 h)).trans (hb h))
  refine (read11_q (W21 m c) b t e).trans ?_
  refine (congrFun (W21_at1 m c) (ix2 (row b t) e)).trans ?_
  unfold out10_1
  rw [final10_6]
  show Spec.head (fun k => at20 m c main_v62 (ix2 (row b t) k)) (fun k h => at20 m c main_arg11 (ix2 k h))
    (fun h => at20 m c main_v64 (ix2 0 h)) e = _
  rw [at20_x A hid hE b t, h1, h2]
  exact (Cert.ReferenceIdeal.RefValue.logvar_apply U b t e).symm

end Cert.KernelIdeal.Val
-- ==== Proof.Algebraic.lean ====
module

public import proofs.«01_k».proof.Defs
public import proofs.«01_k».proof.Proof.Frames
public import proofs.«01_k».proof.Proof.KernelIdeal.ValResults

/-! The value claim: over the extended reals the kernel and the reference end at equal results. -/

@[expose] public section

set_option maxRecDepth 16384

noncomputable section

open Idealize.ShloMosaic Idealize.ShloMosaic.TcCoe Idealize.SL.Sem

namespace Cert.Proof

/-- The shapes the precondition spreads a scalar over. -/
theorem pre_facts : Cert.Pre_ids_name_finite_rows.Facts := ⟨by decide, by decide⟩

theorem neg_inf : Ideal.ofBits .f32 0xFF800000#32 = (⊥ : EReal) := by simp [Ideal.ofBits, Ideal.ieee]
theorem pos_inf : Ideal.ofBits .f32 0x7F800000#32 = (⊤ : EReal) := by simp [Ideal.ofBits, Ideal.ieee]

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

section
open Cert.KernelIdeal

variable (m : (ℓ : Loc nD τ sig) → Buf (Elt Ideal) ℓ)
variable (h : Cert.Pre_KernelIdeal_ids_name_finite_rows (hPre_ids_name_finite_rows := pre_facts) m) (c : Dev nD)
include h

/-- Every token id is a row number of the table. -/
theorem id_lt (i : S4x512x1.Idx) : ((m ((c : Thread nD τ).loc main_arg1) : Vec Ideal S4x512x1 .i32) i).toNat < 8192 := by
  have e := congrFun (h c).1 i
  simp only [Pre_ids_name_finite_rows.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- Every entry of the table is finite. -/
theorem emb_finite (i : S8192x1024.Idx) : (m ((c : Thread nD τ).loc main_arg3) : Vec Ideal S8192x1024 .f32) i ≠ (⊥ : EReal)
    ∧ (m ((c : Thread nD τ).loc main_arg3) : Vec Ideal S8192x1024 .f32) i ≠ (⊤ : EReal) := by
  have e := congrFun (h c).2 i
  have e' : ∀ x : EReal, IntOp.andi (Ideal.cmp .ogt x (Ideal.ofBits .f32 0xFF800000#32)) (Ideal.cmp .olt x (Ideal.ofBits .f32 0x7F800000#32)) = 1#1
      → x ≠ ⊥ ∧ x ≠ ⊤ := fun x e => by
    rw [neg_inf, pos_inf] at e
    simp only [Ideal.cmp, andi_ofBool, ofBool_eq_one, Bool.and_eq_true, decide_eq_true_eq] at e
    exact ⟨e.1.ne', e.2.ne⟩
  exact e' _ e

end

theorem frame_ideal_pre : Cert.quiescent_KernelIdeal_pre_ids_name_finite_rows (hPre_ids_name_finite_rows := pre_facts) :=
  fun m g _ => Cert.KernelIdeal.Launch.ends m g

theorem frame_reference_pre : Cert.quiescent_ReferenceIdeal_pre_ids_name_finite_rows (hPre_ids_name_finite_rows := pre_facts) :=
  fun m g _ => frame_reference m g trivial

open Cert.KernelIdeal Cert.KernelIdeal.Val Cert.KernelIdeal.Chain Cert.KernelIdeal.Launch in
/-- Under the precondition the two programs' results are equal. -/
theorem algebraic : Cert.algebraic_KernelIdeal_ReferenceIdeal_pre_ids_name_finite_rows (hPre_ids_name_finite_rows := pre_facts) := by
  intro m g m' g' hpre hagree
  refine ⟨fun c => W22 m c (Proc.devRef .tc main_v66), fun c => W22 m c (Proc.devRef .tc main_v67), ?_, ?_⟩
  · refine (θ_run (defs (F := Ideal)) _ _).mono (fun r h => ?_) (Cert.KernelIdeal.Launch.run (F := Ideal) m g)
    obtain ⟨hm, hs⟩ := h
    exact fun c => ⟨hm c _ (mem_uc main_v66 rfl), hm c _ (mem_uc main_v67 rfl), (hm c _ (mem_uc main_arg0 rfl)).trans (W22_main_arg0 m c), (hm c _ (mem_uc main_arg1 rfl)).trans (W22_main_arg1 m c), (hm c _ (mem_uc main_arg2 rfl)).trans (W22_main_arg2 m c), (hm c _ (mem_uc main_arg3 rfl)).trans (W22_main_arg3 m c), (hm c _ (mem_uc main_arg4 rfl)).trans (W22_main_arg4 m c), (hm c _ (mem_uc main_arg5 rfl)).trans (W22_main_arg5 m c), (hm c _ (mem_uc main_arg6 rfl)).trans (W22_main_arg6 m c), (hm c _ (mem_uc main_arg7 rfl)).trans (W22_main_arg7 m c), (hm c _ (mem_uc main_arg8 rfl)).trans (W22_main_arg8 m c), (hm c _ (mem_uc main_arg9 rfl)).trans (W22_main_arg9 m c), (hm c _ (mem_uc main_arg10 rfl)).trans (W22_main_arg10 m c), (hm c _ (mem_uc main_arg11 rfl)).trans (W22_main_arg11 m c), (hm c _ (mem_uc main_arg12 rfl)).trans (W22_main_arg12 m c)⟩
  · refine (θ_run Cert.ReferenceIdeal.defs _ _).mono (fun r h c => ?_) (Cert.ReferenceIdeal.Value.run (F := Ideal) m' g')
    have A : Agree m c (StableHlo.launchContents m' c) := by
      obtain ⟨h0, h1, h2, h3, h4, h5, h6, h7, h8, -⟩ := hagree c
      exact ⟨fun b t v => (congrFun h0 _).symm, fun b t => (congrFun h1 _).symm, fun b t => (congrFun h2 _).symm, fun v e => (congrFun h3 _).symm,
        fun l p q => (congrFun h4 _).symm, fun l p q => (congrFun h5 _).symm, fun l p q => (congrFun h6 _).symm,
        fun l p q => (congrFun h7 _).symm, fun l p q => (congrFun h8 _).symm⟩
    have hid : ∀ b t, (Cert.ReferenceIdeal.RefValue.tok (StableHlo.launchContents m' c) b t).toNat < 8192 := fun b t => by
      rw [← A.tok b t]; exact id_lt m hpre c _
    have hE : ∀ v e, Cert.ReferenceIdeal.RefValue.Emb (StableHlo.launchContents m' c) v e ≠ ⊥
        ∧ Cert.ReferenceIdeal.RefValue.Emb (StableHlo.launchContents m' c) v e ≠ ⊤ := fun v e => by
      rw [← A.emb v e]; exact emb_finite m hpre c _
    obtain ⟨-, -, -, -, -, -, -, -, -, h9, h10, h11, h12⟩ := hagree c
    obtain ⟨hr0, hr1, hrest⟩ := h c
    refine ⟨hr0.trans ?_, hr1.trans ?_, hrest⟩
    · exact (mu_eq A hid hE (fun p q => (congrFun h9 _).symm) (fun p => (congrFun h10 _).symm)).symm
    · exact (logvar_eq A hid hE (fun p q => (congrFun h11 _).symm) (fun p => (congrFun h12 _).symm)).symm

end Cert.Proof
-- ==== Proof.lean ====
/- The proof of the certificate's claim: the frames, that no operation was rewritten, and that over the extended reals the
   kernel and the reference end at equal results. -/
module

public import proofs.«01_k».proof.Defs
public import proofs.«01_k».proof.Proof.Frames
public import proofs.«01_k».proof.Proof.Algebraic

@[expose] public section

theorem Cert.Proof.claim : Cert.Claim :=
  ⟨Cert.Kernel.Gen.facts, Cert.KernelIdeal.Gen.facts, Cert.ReferenceIdeal.Gen.facts, Cert.Proof.pre_facts,
    Cert.Proof.frame_kernel, Cert.Proof.frame_ideal, Cert.Proof.frame_ideal_pre, Cert.Proof.frame_reference,
    Cert.Proof.frame_reference_pre, trivial, Cert.Proof.algebraic⟩
